-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 1024, 512]⟩ ⟨3, ![4, 1024, 8192]⟩ 2 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 512]⟩ ⟨2, ![4, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x512 : Shape := ⟨3, ![4, 1024, 512]⟩
abbrev S4x512 : Shape := ⟨2, ![4, 512]⟩
abbrev S512x512 : Shape := ⟨2, ![512, 512]⟩
abbrev S32x128x512 : Shape := ⟨3, ![32, 128, 512]⟩
abbrev S3x4x128x512 : Shape := ⟨4, ![3, 4, 128, 512]⟩
abbrev S3x128x512 : Shape := ⟨3, ![3, 128, 512]⟩
abbrev S24 : Shape := ⟨1, ![24]⟩
abbrev S_ : Shape := ⟨0, ![]⟩
abbrev S1x1024x512 : Shape := ⟨3, ![1, 1024, 512]⟩
abbrev S1024x512 : Shape := ⟨2, ![1024, 512]⟩
abbrev S3x512 : Shape := ⟨2, ![3, 512]⟩
abbrev S1027x512 : Shape := ⟨2, ![1027, 512]⟩
abbrev S1x512 : Shape := ⟨2, ![1, 512]⟩
abbrev S512 : Shape := ⟨1, ![512]⟩
abbrev S8x128x512 : Shape := ⟨3, ![8, 128, 512]⟩
abbrev S4x128x512 : Shape := ⟨3, ![4, 128, 512]⟩
abbrev S1x4x128x512 : Shape := ⟨4, ![1, 4, 128, 512]⟩
abbrev S1 : Shape := ⟨1, ![1]⟩
abbrev S1x128x512 : Shape := ⟨3, ![1, 128, 512]⟩
abbrev S128x512 : Shape := ⟨2, ![128, 512]⟩

abbrev nBuf : Space → Nat
  | .hbm => 4
  | .vmem => 14
  | .smem => 0
  | _ => 0

abbrev bufTy : (tb : Table) → Fin (tcTables nBuf tb) → BufTy
  | .hbm, ⟨0, _⟩ => ⟨S4x1024x512, .bf16⟩
  | .hbm, ⟨1, _⟩ => ⟨S4x512, .bf16⟩
  | .hbm, ⟨2, _⟩ => ⟨S512x512, .bf16⟩
  | .hbm, ⟨3, _⟩ => ⟨S4x1024x512, .f32⟩
  | .local _ .vmem, ⟨0, _⟩ => ⟨S4x1024x512, .bf16⟩
  | .local _ .vmem, ⟨1, _⟩ => ⟨S4x512, .bf16⟩
  | .local _ .vmem, ⟨2, _⟩ => ⟨S512x512, .bf16⟩
  | .local _ .vmem, ⟨3, _⟩ => ⟨S4x1024x512, .f32⟩
  | .local _ .vmem, ⟨4, _⟩ => ⟨S32x128x512, .f32⟩
  | .local _ .vmem, ⟨5, _⟩ => ⟨S32x128x512, .bf16⟩
  | .local _ .vmem, ⟨6, _⟩ => ⟨S3x4x128x512, .bf16⟩
  | .local _ .vmem, ⟨7, _⟩ => ⟨S3x4x128x512, .bf16⟩
  | .local _ .vmem, ⟨8, _⟩ => ⟨S3x4x128x512, .bf16⟩
  | .local _ .vmem, ⟨9, _⟩ => ⟨S3x4x128x512, .bf16⟩
  | .local _ .vmem, ⟨10, _⟩ => ⟨S3x128x512, .bf16⟩
  | .local _ .vmem, ⟨11, _⟩ => ⟨S3x128x512, .bf16⟩
  | .local _ .vmem, ⟨12, _⟩ => ⟨S3x128x512, .bf16⟩
  | .local _ .vmem, ⟨13, _⟩ => ⟨S3x128x512, .bf16⟩
  | _, _ => ⟨S4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_18 : BitVec 32 := 1#32
  let v38 : BitVec 32 := Scalar.muli v28 c1_i32_18
  let v39 : BitVec 32 := Scalar.addi c0_i32_19 v38
  v39.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_21 : BitVec 32 := 1#32
  let v40 : BitVec 32 := Scalar.muli v24 c1_i32_21
  let v41 : BitVec 32 := Scalar.addi c0_i32_22 v40
  v41.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_24 : BitVec 32 := 1#32
  let v42 : BitVec 32 := Scalar.muli v36 c1_i32_24
  let v43 : BitVec 32 := Scalar.addi c0_i32_25 v42
  v43.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_27 : BitVec 32 := 1#32
  let v44 : BitVec 32 := Scalar.muli v32 c1_i32_27
  let v45 : BitVec 32 := Scalar.addi c0_i32_28 v44
  v45.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v50 : Index := Scalar.indexCast v20
  let c0_33 : Index := 0#32
  let c0_34 : Index := 0#32
  ![v50.toNat, 0, 0]
def k0_off2 (d0 : Dev nD) : Fin 3 → Nat :=
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v92 : BitVec 32 := Scalar.muli c8_i32 v20
  let v93 : Index := Scalar.indexCast v92
  let c0_39 : Index := 0#32
  let c0_40 : Index := 0#32
  ![v93.toNat, 0, 0]
def k0_off3 (d0 : Dev nD) (c0_i32_41 : BitVec 32) (c4_i32_42 : BitVec 32) : Fin 3 → Nat :=
  let c8_i32_46 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v97 : BitVec 32 := Scalar.subi v20 c0_i32_41
  let v98 : BitVec 32 := Scalar.addi v97 c4_i32_42
  let c4_i32_43 : BitVec 32 := 4#32
  let v99 : BitVec 32 := Scalar.remsi v98 c4_i32_43
  let v102 : BitVec 32 := Scalar.muli c8_i32_46 v99
  let v103 : Index := Scalar.indexCast v102
  let c0_47 : Index := 0#32
  let c0_48 : Index := 0#32
  ![v103.toNat, 0, 0]
def k0_off4 (d0 : Dev nD) (c0_i32_44 : BitVec 32) : Fin 3 → Nat :=
  let c8_i32_53 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v100 : BitVec 32 := Scalar.addi v20 c0_i32_44
  let c4_i32_45 : BitVec 32 := 4#32
  let v101 : BitVec 32 := Scalar.remsi v100 c4_i32_45
  let v109 : BitVec 32 := Scalar.muli c8_i32_53 v101
  let c4_i32_54 : BitVec 32 := 4#32
  let v110 : BitVec 32 := Scalar.addi v109 c4_i32_54
  let v111 : Index := Scalar.indexCast v110
  let c0_55 : Index := 0#32
  let c0_56 : Index := 0#32
  ![v111.toNat, 0, 0]
def k0_dev5 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_65 : BitVec 32 := 1#32
  let v117 : BitVec 32 := Scalar.muli v24 c1_i32_65
  let v118 : BitVec 32 := Scalar.addi c0_i32_66 v117
  v118.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_77 : BitVec 32 := 1#32
  let v127 : BitVec 32 := Scalar.muli v28 c1_i32_77
  let v128 : BitVec 32 := Scalar.addi c0_i32_78 v127
  v128.toNat
def k0_off5 (d0 : Dev nD) (c3_i32_85 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v137 : BitVec 32 := Scalar.addi v20 c3_i32_85
  let c4_i32_86 : BitVec 32 := 4#32
  let v138 : BitVec 32 := Scalar.remsi v137 c4_i32_86
  let v139 : Index := Scalar.indexCast v138
  let c0_87 : Index := 0#32
  let c0_88 : Index := 0#32
  ![v139.toNat, 0, 0]
def k0_off6 (d0 : Dev nD) (c3_i32_85 : BitVec 32) : Fin 3 → Nat :=
  let c8_i32_94 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v137 : BitVec 32 := Scalar.addi v20 c3_i32_85
  let c4_i32_86 : BitVec 32 := 4#32
  let v138 : BitVec 32 := Scalar.remsi v137 c4_i32_86
  let v181 : BitVec 32 := Scalar.muli c8_i32_94 v138
  let v182 : Index := Scalar.indexCast v181
  let c0_95 : Index := 0#32
  let c0_96 : Index := 0#32
  ![v182.toNat, 0, 0]
def k0_off7 (d0 : Dev nD) (c0_i32_112 : BitVec 32) : Fin 3 → Nat :=
  let c8_i32_162 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v238 : BitVec 32 := Scalar.addi v20 c0_i32_112
  let c1_i32_113 : BitVec 32 := 1#32
  let v239 : BitVec 32 := Scalar.addi v238 c1_i32_113
  let c4_i32_114 : BitVec 32 := 4#32
  let v240 : BitVec 32 := Scalar.remsi v239 c4_i32_114
  let v270 : BitVec 32 := Scalar.muli c8_i32_162 v240
  let c4_i32_163 : BitVec 32 := 4#32
  let v271 : BitVec 32 := Scalar.addi v270 c4_i32_163
  let v282 : Index := Scalar.indexCast v271
  let c0_172 : Index := 0#32
  let c0_173 : Index := 0#32
  ![v282.toNat, 0, 0]
def k0_dev7 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_203 : BitVec 32 := 1#32
  let v312 : BitVec 32 := Scalar.muli v24 c1_i32_203
  let v313 : BitVec 32 := Scalar.addi c0_i32_204 v312
  v313.toNat
def k0_dev8 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_215 : BitVec 32 := 1#32
  let v322 : BitVec 32 := Scalar.muli v28 c1_i32_215
  let v323 : BitVec 32 := Scalar.addi c0_i32_216 v322
  v323.toNat
def k0_dev9 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_328 : BitVec 32 := 1#32
  let v458 : BitVec 32 := Scalar.muli v24 c1_i32_328
  let v459 : BitVec 32 := Scalar.addi c0_i32_329 v458
  v459.toNat
def k0_dev10 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_339 : BitVec 32 := 1#32
  let v468 : BitVec 32 := Scalar.muli v28 c1_i32_339
  let v469 : BitVec 32 := Scalar.addi c0_i32_340 v468
  v469.toNat
def k0_off8 (d0 : Dev nD) (c0_i32_422 : BitVec 32) (c4_i32_423 : BitVec 32) : Fin 3 → Nat :=
  let c8_i32_433 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_418 : BitVec 32 := 1#32
  let v535 : BitVec 32 := Scalar.addi v20 c1_i32_418
  let c4_i32_419 : BitVec 32 := 4#32
  let v536 : BitVec 32 := Scalar.remsi v535 c4_i32_419
  let v550 : BitVec 32 := Scalar.muli c8_i32_433 v536
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v539 : BitVec 32 := Scalar.subi v19 c0_i32_422
  let v540 : BitVec 32 := Scalar.addi v539 c4_i32_423
  let c4_i32_424 : BitVec 32 := 4#32
  let v541 : BitVec 32 := Scalar.remsi v540 c4_i32_424
  let v551 : BitVec 32 := Scalar.addi v550 v541
  let v552 : Index := Scalar.indexCast v551
  let c0_434 : Index := 0#32
  let c0_435 : Index := 0#32
  ![v552.toNat, 0, 0]
def k0_off9 (d0 : Dev nD) (c0_i32_428 : BitVec 32) : Fin 3 → Nat :=
  let c8_i32_439 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_420 : BitVec 32 := 3#32
  let v537 : BitVec 32 := Scalar.addi v20 c3_i32_420
  let c4_i32_421 : BitVec 32 := 4#32
  let v538 : BitVec 32 := Scalar.remsi v537 c4_i32_421
  let v559 : BitVec 32 := Scalar.muli c8_i32_439 v538
  let c4_i32_440 : BitVec 32 := 4#32
  let v560 : BitVec 32 := Scalar.addi v559 c4_i32_440
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v545 : BitVec 32 := Scalar.addi v19 c0_i32_428
  let c4_i32_429 : BitVec 32 := 4#32
  let v546 : BitVec 32 := Scalar.remsi v545 c4_i32_429
  let v561 : BitVec 32 := Scalar.addi v560 v546
  let v562 : Index := Scalar.indexCast v561
  let c0_441 : Index := 0#32
  let c0_442 : Index := 0#32
  ![v562.toNat, 0, 0]
def k0_dev11 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_449 : BitVec 32 := 1#32
  let v569 : BitVec 32 := Scalar.muli v32 c1_i32_449
  let v570 : BitVec 32 := Scalar.addi c0_i32_450 v569
  v570.toNat
def k0_dev12 (d0 : Dev nD) : Nat :=
  let c0_i32_459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_458 : BitVec 32 := 1#32
  let v579 : BitVec 32 := Scalar.muli v36 c1_i32_458
  let v580 : BitVec 32 := Scalar.addi c0_i32_459 v579
  v580.toNat
def k0_off10 (d0 : Dev nD) (c0_i32_430 : BitVec 32) : Fin 3 → Nat :=
  let c8_i32_503 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_420 : BitVec 32 := 3#32
  let v537 : BitVec 32 := Scalar.addi v20 c3_i32_420
  let c4_i32_421 : BitVec 32 := 4#32
  let v538 : BitVec 32 := Scalar.remsi v537 c4_i32_421
  let v619 : BitVec 32 := Scalar.muli c8_i32_503 v538
  let c4_i32_504 : BitVec 32 := 4#32
  let v620 : BitVec 32 := Scalar.addi v619 c4_i32_504
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v547 : BitVec 32 := Scalar.addi v19 c0_i32_430
  let c1_i32_431 : BitVec 32 := 1#32
  let v548 : BitVec 32 := Scalar.addi v547 c1_i32_431
  let c4_i32_432 : BitVec 32 := 4#32
  let v549 : BitVec 32 := Scalar.remsi v548 c4_i32_432
  let v621 : BitVec 32 := Scalar.addi v620 v549
  let v633 : Index := Scalar.indexCast v621
  let c0_512 : Index := 0#32
  let c0_513 : Index := 0#32
  ![v633.toNat, 0, 0]
def k0_dev13 (d0 : Dev nD) : Nat :=
  let c0_i32_547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_546 : BitVec 32 := 1#32
  let v674 : BitVec 32 := Scalar.muli v32 c1_i32_546
  let v675 : BitVec 32 := Scalar.addi c0_i32_547 v674
  v675.toNat
def k0_dev14 (d0 : Dev nD) : Nat :=
  let c0_i32_556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_555 : BitVec 32 := 1#32
  let v684 : BitVec 32 := Scalar.muli v36 c1_i32_555
  let v685 : BitVec 32 := Scalar.addi c0_i32_556 v684
  v685.toNat
def k0_dev15 (d0 : Dev nD) : Nat :=
  let c0_i32_645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_644 : BitVec 32 := 1#32
  let v779 : BitVec 32 := Scalar.muli v32 c1_i32_644
  let v780 : BitVec 32 := Scalar.addi c0_i32_645 v779
  v780.toNat
def k0_dev16 (d0 : Dev nD) : Nat :=
  let c0_i32_654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_653 : BitVec 32 := 1#32
  let v789 : BitVec 32 := Scalar.muli v36 c1_i32_653
  let v790 : BitVec 32 := Scalar.addi c0_i32_654 v789
  v790.toNat
def k0_off11 (d0 : Dev nD) : Fin 3 → Nat :=
  let c8_i32_718 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_418 : BitVec 32 := 1#32
  let v535 : BitVec 32 := Scalar.addi v20 c1_i32_418
  let c4_i32_419 : BitVec 32 := 4#32
  let v536 : BitVec 32 := Scalar.remsi v535 c4_i32_419
  let v858 : BitVec 32 := Scalar.muli c8_i32_718 v536
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_714 : BitVec 32 := 1#32
  let v854 : BitVec 32 := Scalar.addi v19 c1_i32_714
  let c4_i32_715 : BitVec 32 := 4#32
  let v855 : BitVec 32 := Scalar.remsi v854 c4_i32_715
  let v859 : BitVec 32 := Scalar.addi v858 v855
  let v860 : Index := Scalar.indexCast v859
  let c0_719 : Index := 0#32
  let c0_720 : Index := 0#32
  ![v860.toNat, 0, 0]
def k0_off12 (d0 : Dev nD) (c0_i32_734 : BitVec 32) : Fin 3 → Nat :=
  let c8_i32_732 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_418 : BitVec 32 := 1#32
  let v535 : BitVec 32 := Scalar.addi v20 c1_i32_418
  let c4_i32_419 : BitVec 32 := 4#32
  let v536 : BitVec 32 := Scalar.remsi v535 c4_i32_419
  let v884 : BitVec 32 := Scalar.muli c8_i32_732 v536
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_733 : BitVec 32 := 1#32
  let v885 : BitVec 32 := Scalar.addi v19 c1_i32_733
  let v886 : BitVec 32 := Scalar.subi v885 c0_i32_734
  let c4_i32_735 : BitVec 32 := 4#32
  let v887 : BitVec 32 := Scalar.addi v886 c4_i32_735
  let c4_i32_736 : BitVec 32 := 4#32
  let v888 : BitVec 32 := Scalar.remsi v887 c4_i32_736
  let v889 : BitVec 32 := Scalar.addi v884 v888
  let c0_i32_745 : BitVec 32 := 0#32
  let c0_i32_746 : BitVec 32 := 0#32
  ![v889.toNat, 0, 0]
def k0_dev17 (d0 : Dev nD) : Nat :=
  let c0_i32_744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_743 : BitVec 32 := 1#32
  let v896 : BitVec 32 := Scalar.muli v32 c1_i32_743
  let v897 : BitVec 32 := Scalar.addi c0_i32_744 v896
  v897.toNat
def k0_off13 (d0 : Dev nD) (c0_i32_740 : BitVec 32) : Fin 3 → Nat :=
  let c8_i32_737 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_420 : BitVec 32 := 3#32
  let v537 : BitVec 32 := Scalar.addi v20 c3_i32_420
  let c4_i32_421 : BitVec 32 := 4#32
  let v538 : BitVec 32 := Scalar.remsi v537 c4_i32_421
  let v890 : BitVec 32 := Scalar.muli c8_i32_737 v538
  let c4_i32_738 : BitVec 32 := 4#32
  let v891 : BitVec 32 := Scalar.addi v890 c4_i32_738
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_739 : BitVec 32 := 3#32
  let v892 : BitVec 32 := Scalar.addi v19 c3_i32_739
  let v893 : BitVec 32 := Scalar.addi v892 c0_i32_740
  let c4_i32_741 : BitVec 32 := 4#32
  let v894 : BitVec 32 := Scalar.remsi v893 c4_i32_741
  let v895 : BitVec 32 := Scalar.addi v891 v894
  let c0_i32_752 : BitVec 32 := 0#32
  let c0_i32_753 : BitVec 32 := 0#32
  ![v895.toNat, 0, 0]
def k0_dev18 (d0 : Dev nD) : Nat :=
  let c0_i32_751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_750 : BitVec 32 := 1#32
  let v906 : BitVec 32 := Scalar.muli v36 c1_i32_750
  let v907 : BitVec 32 := Scalar.addi c0_i32_751 v906
  v907.toNat
def k0_dev19 (d0 : Dev nD) : Nat :=
  let c0_i32_798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_797 : BitVec 32 := 1#32
  let v956 : BitVec 32 := Scalar.muli v32 c1_i32_797
  let v957 : BitVec 32 := Scalar.addi c0_i32_798 v956
  v957.toNat
def k0_dev20 (d0 : Dev nD) : Nat :=
  let c0_i32_806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_805 : BitVec 32 := 1#32
  let v966 : BitVec 32 := Scalar.muli v36 c1_i32_805
  let v967 : BitVec 32 := Scalar.addi c0_i32_806 v966
  v967.toNat
def k0_dev21 (d0 : Dev nD) : Nat :=
  let c0_i32_853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_852 : BitVec 32 := 1#32
  let v1016 : BitVec 32 := Scalar.muli v32 c1_i32_852
  let v1017 : BitVec 32 := Scalar.addi c0_i32_853 v1016
  v1017.toNat
def k0_dev22 (d0 : Dev nD) : Nat :=
  let c0_i32_860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_859 : BitVec 32 := 1#32
  let v1026 : BitVec 32 := Scalar.muli v36 c1_i32_859
  let v1027 : BitVec 32 := Scalar.addi c0_i32_860 v1026
  v1027.toNat
def k0_off14 (d0 : Dev nD) (c0_i32_896 : BitVec 32) : Fin 3 → Nat :=
  let c8_i32_899 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_895 : BitVec 32 := 1#32
  let v1064 : BitVec 32 := Scalar.addi v20 c1_i32_895
  let v1065 : BitVec 32 := Scalar.subi v1064 c0_i32_896
  let c4_i32_897 : BitVec 32 := 4#32
  let v1066 : BitVec 32 := Scalar.addi v1065 c4_i32_897
  let c4_i32_898 : BitVec 32 := 4#32
  let v1067 : BitVec 32 := Scalar.remsi v1066 c4_i32_898
  let v1068 : BitVec 32 := Scalar.muli c8_i32_899 v1067
  let c0_i32_908 : BitVec 32 := 0#32
  let c0_i32_909 : BitVec 32 := 0#32
  ![v1068.toNat, 0, 0]
def k0_dev23 (d0 : Dev nD) : Nat :=
  let c0_i32_907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_906 : BitVec 32 := 1#32
  let v1074 : BitVec 32 := Scalar.muli v24 c1_i32_906
  let v1075 : BitVec 32 := Scalar.addi c0_i32_907 v1074
  v1075.toNat
def k0_off15 (d0 : Dev nD) (c0_i32_901 : BitVec 32) : Fin 3 → Nat :=
  let c8_i32_903 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_900 : BitVec 32 := 3#32
  let v1069 : BitVec 32 := Scalar.addi v20 c3_i32_900
  let v1070 : BitVec 32 := Scalar.addi v1069 c0_i32_901
  let c4_i32_902 : BitVec 32 := 4#32
  let v1071 : BitVec 32 := Scalar.remsi v1070 c4_i32_902
  let v1072 : BitVec 32 := Scalar.muli c8_i32_903 v1071
  let c4_i32_904 : BitVec 32 := 4#32
  let v1073 : BitVec 32 := Scalar.addi v1072 c4_i32_904
  let c0_i32_915 : BitVec 32 := 0#32
  let c0_i32_916 : BitVec 32 := 0#32
  ![v1073.toNat, 0, 0]
def k0_dev24 (d0 : Dev nD) : Nat :=
  let c0_i32_914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_913 : BitVec 32 := 1#32
  let v1082 : BitVec 32 := Scalar.muli v28 c1_i32_913
  let v1083 : BitVec 32 := Scalar.addi c0_i32_914 v1082
  v1083.toNat
def k0_dev25 (d0 : Dev nD) : Nat :=
  let c0_i32_961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_960 : BitVec 32 := 1#32
  let v1120 : BitVec 32 := Scalar.muli v24 c1_i32_960
  let v1121 : BitVec 32 := Scalar.addi c0_i32_961 v1120
  v1121.toNat
def k0_dev26 (d0 : Dev nD) : Nat :=
  let c0_i32_968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_967 : BitVec 32 := 1#32
  let v1128 : BitVec 32 := Scalar.muli v28 c1_i32_967
  let v1129 : BitVec 32 := Scalar.addi c0_i32_968 v1128
  v1129.toNat
def k0_dev27 (d0 : Dev nD) : Nat :=
  let c0_i32_1015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1014 : BitVec 32 := 1#32
  let v1166 : BitVec 32 := Scalar.muli v24 c1_i32_1014
  let v1167 : BitVec 32 := Scalar.addi c0_i32_1015 v1166
  v1167.toNat
def k0_dev28 (d0 : Dev nD) : Nat :=
  let c0_i32_1022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1021 : BitVec 32 := 1#32
  let v1174 : BitVec 32 := Scalar.muli v28 c1_i32_1021
  let v1175 : BitVec 32 := Scalar.addi c0_i32_1022 v1174
  v1175.toNat
abbrev stage0_0 : Fin 1 → Memref sig .tc .vmem S4x1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x1024x8192 : Shape := ⟨3, ![4, 1024, 8192]⟩
abbrev S4x8192 : Shape := ⟨2, ![4, 8192]⟩
abbrev S8192x512 : Shape := ⟨2, ![8192, 512]⟩
abbrev S_ : Shape := ⟨0, ![]⟩
abbrev S4x3x8192 : Shape := ⟨3, ![4, 3, 8192]⟩
abbrev S4x1027x8192 : Shape := ⟨3, ![4, 1027, 8192]⟩
abbrev S1x8192 : Shape := ⟨2, ![1, 8192]⟩
abbrev S8192 : Shape := ⟨1, ![8192]⟩
abbrev S1x1x8192 : Shape := ⟨3, ![1, 1, 8192]⟩
abbrev S4x1024x512 : Shape := ⟨3, ![4, 1024, 512]⟩

abbrev nBuf : Space → Nat
  | .hbm => 46
  | .vmem => 0
  | .smem => 0
  | _ => 0

abbrev bufTy : (tb : Table) → Fin (tcTables nBuf tb) → BufTy
  | .hbm, ⟨0, _⟩ => ⟨S4x1024x8192, .bf16⟩
  | .hbm, ⟨1, _⟩ => ⟨S4x8192, .bf16⟩
  | .hbm, ⟨2, _⟩ => ⟨S8192x512, .bf16⟩
  | .hbm, ⟨3, _⟩ => ⟨S4x1024x8192, .f32⟩
  | .hbm, ⟨4, _⟩ => ⟨S4x8192, .f32⟩
  | .hbm, ⟨5, _⟩ => ⟨S8192x512, .f32⟩
  | .hbm, ⟨6, _⟩ => ⟨S_, .f32⟩
  | .hbm, ⟨7, _⟩ => ⟨S4x3x8192, .f32⟩
  | .hbm, ⟨8, _⟩ => ⟨S4x1027x8192, .f32⟩
  | .hbm, ⟨9, _⟩ => ⟨S_, .f32⟩
  | .hbm, ⟨10, _⟩ => ⟨S4x1024x8192, .f32⟩
  | .hbm, ⟨11, _⟩ => ⟨S4x1024x8192, .f32⟩
  | .hbm, ⟨12, _⟩ => ⟨S1x8192, .f32⟩
  | .hbm, ⟨13, _⟩ => ⟨S8192, .f32⟩
  | .hbm, ⟨14, _⟩ => ⟨S1x1x8192, .f32⟩
  | .hbm, ⟨15, _⟩ => ⟨S4x1024x8192, .f32⟩
  | .hbm, ⟨16, _⟩ => ⟨S4x1024x8192, .f32⟩
  | .hbm, ⟨17, _⟩ => ⟨S4x1024x8192, .f32⟩
  | .hbm, ⟨18, _⟩ => ⟨S4x1024x8192, .f32⟩
  | .hbm, ⟨19, _⟩ => ⟨S1x8192, .f32⟩
  | .hbm, ⟨20, _⟩ => ⟨S8192, .f32⟩
  | .hbm, ⟨21, _⟩ => ⟨S1x1x8192, .f32⟩
  | .hbm, ⟨22, _⟩ => ⟨S4x1024x8192, .f32⟩
  | .hbm, ⟨23, _⟩ => ⟨S4x1024x8192, .f32⟩
  | .hbm, ⟨24, _⟩ => ⟨S4x1024x8192, .f32⟩
  | .hbm, ⟨25, _⟩ => ⟨S4x1024x8192, .f32⟩
  | .hbm, ⟨26, _⟩ => ⟨S1x8192, .f32⟩
  | .hbm, ⟨27, _⟩ => ⟨S8192, .f32⟩
  | .hbm, ⟨28, _⟩ => ⟨S1x1x8192, .f32⟩
  | .hbm, ⟨29, _⟩ => ⟨S4x1024x8192, .f32⟩
  | .hbm, ⟨30, _⟩ => ⟨S4x1024x8192, .f32⟩
  | .hbm, ⟨31, _⟩ => ⟨S4x1024x8192, .f32⟩
  | .hbm, ⟨32, _⟩ => ⟨S4x1024x8192, .f32⟩
  | .hbm, ⟨33, _⟩ => ⟨S1x8192, .f32⟩
  | .hbm, ⟨34, _⟩ => ⟨S8192, .f32⟩
  | .hbm, ⟨35, _⟩ => ⟨S1x1x8192, .f32⟩
  | .hbm, ⟨36, _⟩ => ⟨S4x1024x8192, .f32⟩
  | .hbm, ⟨37, _⟩ => ⟨S4x1024x8192, .f32⟩
  | .hbm, ⟨38, _⟩ => ⟨S4x1024x8192, .f32⟩
  | .hbm, ⟨39, _⟩ => ⟨S4x1024x8192, .f32⟩
  | .hbm, ⟨40, _⟩ => ⟨S4x1024x8192, .f32⟩
  | .hbm, ⟨41, _⟩ => ⟨S_, .f32⟩
  | .hbm, ⟨42, _⟩ => ⟨S4x1024x8192, .f32⟩
  | .hbm, ⟨43, _⟩ => ⟨S4x1024x8192, .f32⟩
  | .hbm, ⟨44, _⟩ => ⟨S4x1024x8192, .f32⟩
  | .hbm, ⟨45, _⟩ => ⟨S4x1024x512, .f32⟩
  | _, _ => ⟨S4x1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩

abbrev nD : Nat := 1
abbrev τ : Topo := Topo.v7x

variable {F : FTy → Type} [FloatOps F]
-- ==== Proof.Twin.lean ====
/-
The kernel as printed and its idealised twin are one program: nothing was rewritten, so each definition of the one is the
other's.
-/
module

public import proofs.«01_k».proof.Proof.Gen.Kernel
public import proofs.«01_k».proof.Proof.Gen.KernelIdeal

@[expose] public section

set_option maxRecDepth 16384

noncomputable section

namespace Cert.Twin

open Idealize.ShloMosaic Idealize.SL.Sem

variable {F : FTy → Type} [FloatOps F]

local instance : Cert.Kernel.Facts := Cert.Kernel.Gen.facts
local instance : Cert.KernelIdeal.Facts := Cert.KernelIdeal.Gen.facts

/-- The two bodies are the same program. -/
theorem body_eq : Cert.Kernel.cc0_body (F := F) = Cert.KernelIdeal.cc0_body := rfl

/-- So the two body tables agree at their one label. -/
theorem defs₀_eq : Cert.Kernel.defs₀ (F := F) = Cert.KernelIdeal.defs₀ := by
  refine congrArg Defs.onTc (funext fun l => funext fun x => ?_)
  obtain ⟨_ | n, h⟩ := l
  · rfl
  · exact absurd h (Nat.not_lt.2 (Nat.le_add_left _ _))

/-- And the two programs' tables. -/
theorem defs_eq : Cert.Kernel.defs (F := F) = Cert.KernelIdeal.defs :=
  congrArg (Pipeline.defs (Cert.Kernel.pcfgs (F := F))) defs₀_eq

/-- The two entry programs are the same. -/
theorem main_eq : Cert.Kernel.main (F := F) = Cert.KernelIdeal.main := rfl

end Cert.Twin

end
-- ==== Proof.KernelIdealCommon.lean ====
/-
The mesh, the contents and the protocol of the reduce-scatter / all-gather kernel.

Device `c` stands at plane position `q = c % 4` of plane `p = c / 4`. Every device forms the partial products of
four macro blocks, reduces them around its plane (two directions, three steps), then along its column of planes
(two directions, three steps), and gathers the finished tiles back the same two ways. Twenty-four copies leave
every device, six per phase, each onto its own receive cell of the neighbour that the phase and the direction name.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ViewIndex

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's, and the ring's with four duty names -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The mesh -/

set_option backward.proofsInPublic true in
/-- The next device of the same plane. -/
def pr (c : Dev nD) : Dev nD := ⟨4 * (c.val / 4) + (c.val % 4 + 1) % 4, by have h : c.val < 16 := c.isLt; show _ < 16; omega⟩
set_option backward.proofsInPublic true in
/-- The previous device of the same plane. -/
def pl (c : Dev nD) : Dev nD := ⟨4 * (c.val / 4) + (c.val % 4 + 3) % 4, by have h : c.val < 16 := c.isLt; show _ < 16; omega⟩
set_option backward.proofsInPublic true in
/-- The same position of the next plane. -/
def zr (c : Dev nD) : Dev nD := ⟨(c.val + 4) % 16, by show _ < 16; omega⟩
set_option backward.proofsInPublic true in
/-- The same position of the previous plane. -/
def zl (c : Dev nD) : Dev nD := ⟨(c.val + 12) % 16, by show _ < 16; omega⟩

theorem pl_pr : ∀ c : Dev nD, pl (pr c) = c := by decide
theorem pr_pl : ∀ c : Dev nD, pr (pl c) = c := by decide
theorem zl_zr : ∀ c : Dev nD, zl (zr c) = c := by decide
theorem zr_zl : ∀ c : Dev nD, zr (zl c) = c := by decide

/-- Macro block `q + n` (mod 4). -/
def mq (c : Dev nD) (n : ℕ) : ℕ := (c.val % 4 + n) % 4
/-- Tile `p + n` (mod 4) of a half macro block. -/
def mp (c : Dev nD) (n : ℕ) : ℕ := (c.val / 4 + n) % 4

theorem mq_lt (c : Dev nD) (n : ℕ) : mq c n < 4 := Nat.mod_lt _ (by decide)
theorem mp_lt (c : Dev nD) (n : ℕ) : mp c n < 4 := Nat.mod_lt _ (by decide)

/-- The device that copy `k` of device `c` goes to. -/
def peer (c : Dev nD) (k : ℕ) : Dev nD :=
  match k / 3 with
  | 0 => pr c | 1 => pl c | 2 => zr c | 3 => zl c | 4 => zr c | 5 => zl c | 6 => pr c | _ => pl c
/-- The device whose copy `k` comes to device `c`. -/
def orig (c : Dev nD) (k : ℕ) : Dev nD :=
  match k / 3 with
  | 0 => pl c | 1 => pr c | 2 => zl c | 3 => zr c | 4 => zl c | 5 => zr c | 6 => pl c | _ => pr c

theorem orig_peer : ∀ (c : Dev nD) (k : Fin 24), orig (peer c k.val) k.val = c := by decide
theorem peer_orig : ∀ (c : Dev nD) (k : Fin 24), peer (orig c k.val) k.val = c := by decide

/-! ## Semaphores and cells -/

/-- The runtime's barrier semaphore. -/
abbrev barS : Sem sig := (SemArray.scalar (sig.barrier 0 rfl) : Sems sig S_).sem
set_option backward.proofsInPublic true in
/-- The send semaphore of copy `k`. -/
def sendS (k : Fin 24) : DmaSem sig := ⟨4 + k.val, by have := k.isLt; show 4 + k.val < 52; omega⟩
set_option backward.proofsInPublic true in
/-- The receive semaphore of copy `k`. -/
def recvS (k : Fin 24) : DmaSem sig := ⟨28 + k.val, by have := k.isLt; show 28 + k.val < 52; omega⟩

abbrev barCell (c : Dev nD) : GSem nD τ sig := ((c : Thread nD τ), .reg barS)
abbrev sendCell (c : Dev nD) (k : Fin 24) : GSem nD τ sig := ((c : Thread nD τ), .dma (sendS k))
abbrev recvCell (c : Dev nD) (k : Fin 24) : GSem nD τ sig := ((c : Thread nD τ), .dma (recvS k))

abbrev acM : Memref sig .tc .vmem S32x128x512 .f32 := Memref.whole cc0_scratch0
abbrev agM : Memref sig .tc .vmem S32x128x512 .bf16 := Memref.whole cc0_scratch1
abbrev pcF : Memref sig .tc .vmem S3x4x128x512 .bf16 := Memref.whole cc0_scratch2
abbrev pcB : Memref sig .tc .vmem S3x4x128x512 .bf16 := Memref.whole cc0_scratch3
abbrev psF : Memref sig .tc .vmem S3x4x128x512 .bf16 := Memref.whole cc0_scratch4
abbrev psB : Memref sig .tc .vmem S3x4x128x512 .bf16 := Memref.whole cc0_scratch5
abbrev zcF : Memref sig .tc .vmem S3x128x512 .bf16 := Memref.whole cc0_scratch6
abbrev zcB : Memref sig .tc .vmem S3x128x512 .bf16 := Memref.whole cc0_scratch7
abbrev zsF : Memref sig .tc .vmem S3x128x512 .bf16 := Memref.whole cc0_scratch8
abbrev zsB : Memref sig .tc .vmem S3x128x512 .bf16 := Memref.whole cc0_scratch9

theorem inb4 : ∀ (s : Fin 3) (a : Fin 4), (![s.val, 0, 0, 0] : Fin 4 → ℕ) a + S1x4x128x512.size a ≤ S3x4x128x512.size a := by decide
theorem inb3 : ∀ (s : Fin 3) (a : Fin 3), (![s.val, 0, 0] : Fin 3 → ℕ) a + S1x128x512.size a ≤ S3x128x512.size a := by decide

/-- Slot `s` of a buffer of three four-tile slots. -/
abbrev sl4 (M : Memref sig .tc .vmem S3x4x128x512 .bf16) (s : Fin 3) : Memref sig .tc .vmem S1x4x128x512 .bf16 :=
  M.slice (Rect.unit (s := S3x4x128x512) ![s.val, 0, 0, 0] S1x4x128x512.size (inb4 s)) (fun _ => rfl)
/-- Slot `s` of a buffer of three one-tile slots. -/
abbrev sl3 (M : Memref sig .tc .vmem S3x128x512 .bf16) (s : Fin 3) : Memref sig .tc .vmem S1x128x512 .bf16 :=
  M.slice (Rect.unit (s := S3x128x512) ![s.val, 0, 0] S1x128x512.size (inb3 s)) (fun _ => rfl)

/-- A four-tile transfer's credit, and a one-tile transfer's. -/
abbrev N4 : ℕ := (sl4 pcF 0).view.dmaCredit
abbrev N1 : ℕ := (sl3 zcF 0).view.dmaCredit
theorem N4_pos : 0 < N4 := View.dmaCredit_pos _ (by decide)
theorem N1_pos : 0 < N1 := View.dmaCredit_pos _ (by decide)
/-- The credit of copy `k`. -/
def NN (k : ℕ) : ℕ := if 6 ≤ k ∧ k < 18 then N1 else N4
theorem NN_pos (k : ℕ) : 0 < NN k := by unfold NN; split; exacts [N1_pos, N4_pos]

/-! ## Index sets and index functions -/

/-- The shape of `n` tiles. -/
abbrev Sn (n : ℕ) : Shape := ⟨3, ![n, 128, 512]⟩

set_option backward.proofsInPublic true in
/-- The index of a stack of `n` tiles with the given coordinates. -/
def ix {n : ℕ} (a : Fin n) (b : Fin 128) (d : Fin 512) : (Sn n).Idx
  | 0 => a | 1 => b | 2 => d | ⟨_ + 3, h⟩ => absurd h (by show ¬ _ < 3; omega)

/-- The indices of tiles `b … b + n - 1`. -/
def rows (b n : ℕ) : Finset S32x128x512.Idx := Finset.univ.filter fun i => b ≤ (i 0).val ∧ (i 0).val < b + n

/-- `f` holds the stack `v` at tiles `b …`. -/
def Holds {α : Type} (n : ℕ) (f : S32x128x512.Idx → α) (b : ℕ) (v : (Sn n).Idx → α) : Prop :=
  ∀ (i : S32x128x512.Idx) (x : (Sn n).Idx), (i 0).val = b + (x 0).val → (i 1).val = (x 1).val → (i 2).val = (x 2).val → f i = v x

/-- The first four tiles of a macro block; -/
def h0 {α : Type} (v : (Sn 8).Idx → α) : (Sn 4).Idx → α := fun x => v (ix ⟨(x 0).val, by have := (x 0).isLt; change (x 0).val < 4 at this; omega⟩ (x 1) (x 2))
/-- its last four; -/
def h1 {α : Type} (v : (Sn 8).Idx → α) : (Sn 4).Idx → α := fun x => v (ix ⟨4 + (x 0).val, by have := (x 0).isLt; change (x 0).val < 4 at this; omega⟩ (x 1) (x 2))
/-- tile `j` (mod 4) of a half macro block. -/
def tl {α : Type} (v : (Sn 4).Idx → α) (j : ℕ) : (Sn 1).Idx → α := fun x => v (ix ⟨j % 4, Nat.mod_lt _ (by decide)⟩ (x 1) (x 2))

/-! ## Contents -/

/-- The blocks of `x`, `k` and `W` that device `c`'s core works on. -/
def xstg (c : Dev nD) : (cc0_stg0_0 : Ref sig .tc).ty.Contents (Elt F) :=
  (win0_0.blk (0 : Fin 1)).view.read (Elt F) (m ((c : Thread nD τ).loc main_arg0))
def kstg (c : Dev nD) : (cc0_stg1_0 : Ref sig .tc).ty.Contents (Elt F) :=
  (win0_1.blk (0 : Fin 1)).view.read (Elt F) (m ((c : Thread nD τ).loc main_arg1))
def wstg (c : Dev nD) : (cc0_stg2_0 : Ref sig .tc).ty.Contents (Elt F) :=
  (win0_2.blk (0 : Fin 1)).view.read (Elt F) (m ((c : Thread nD τ).loc main_arg2))

set_option backward.proofsInPublic true in
/-- Row `g` (mod 4) of the batch, from device `c`'s block of `x`. -/
def xr (c : Dev nD) (g : ℕ) : Vec F S1x1024x512 .bf16 :=
  (Memref.whole cc0_stg0_0 : Memref sig .tc .vmem S4x1024x512 .bf16).view.readAt (Elt F)
    (Rect.unit (s := S4x1024x512) ![g % 4, 0, 0] S1x1024x512.size
      (by intro a; have : g % 4 < 4 := Nat.mod_lt _ (by decide); fin_cases a <;> simp <;> omega)).toLoadRect (xstg m c)

/-- The partial product of one batch row. -/
def pv (k : Vec F S4x512 .bf16) (W : Vec F S512x512 .bf16) (x : Vec F S1x1024x512 .bf16) : FVec F S8x128x512 .f32 :=
  k0_pay12 (k0_pay11 (k0_pay2 k) (k0_pay3 W) x)

/-- Device `c`'s partial product of macro block `g`. -/
def part (c : Dev nD) (g : ℕ) : FVec F S8x128x512 .f32 := pv (kstg m c) (wstg m c) (xr m c g)

/-- The forward running sum in the plane: what device `c` holds before step `s`'s send (after step 3: finished). -/
def AF : ℕ → Dev nD → FVec F S4x128x512 .f32
  | 0, c => h0 (part m c (mq c 0))
  | s + 1, c => k0_pay15 (h0 (part m c (mq c (3 - s)))) (k0_pay9 (AF s (pl c)))
/-- The backward running sum in the plane. -/
def AB : ℕ → Dev nD → FVec F S4x128x512 .f32
  | 0, c => h1 (part m c (mq c 0))
  | s + 1, c => k0_pay15 (h1 (part m c (mq c (s + 1)))) (k0_pay9 (AB s (pr c)))
/-- The forward running sum along the planes. -/
def ZF : ℕ → Dev nD → FVec F S1x128x512 .f32
  | 0, c => tl (AF m 3 c) (mp c 0)
  | s + 1, c => k0_pay34 (tl (AF m 3 c) (mp c (3 - s))) (k0_pay29 (ZF s (zl c)))
/-- The backward running sum along the planes. -/
def ZB : ℕ → Dev nD → FVec F S1x128x512 .f32
  | 0, c => tl (AB m 3 c) (mp c 0)
  | s + 1, c => k0_pay34 (tl (AB m 3 c) (mp c (s + 1))) (k0_pay29 (ZB s (zr c)))

set_option backward.proofsInPublic true in
/-- The device that finishes forward tile `t`; -/
def ownF (t : ℕ) : Dev nD := ⟨4 * ((t % 4 + 3) % 4) + (t / 8 + 3) % 4, by show _ < 16; omega⟩
set_option backward.proofsInPublic true in
/-- the device that finishes backward tile `t`. -/
def ownB (t : ℕ) : Dev nD := ⟨4 * ((t % 4 + 1) % 4) + (t / 8 + 1) % 4, by show _ < 16; omega⟩

/-- Finished tile `t`. -/
def agT (t : ℕ) : FVec F S1x128x512 .bf16 :=
  if t % 8 < 4 then k0_pay47 (ZF m 3 (ownF t)) else k0_pay47 (ZB m 3 (ownB t))

/-- All finished tiles: what every device's gather buffer holds at the end. -/
def AG : S32x128x512.Idx → F .bf16 := fun i => agT m (i 0).val (ix (0 : Fin 1) (i 1) (i 2))

/-- The kernel's result, the same on every device. -/
def outV : (cc0_stg3_0 : Ref sig .tc).ty.Contents (Elt F) := k0_pay1 (AG m)

/-! ## Ownership -/

/-- Device `c`'s accumulator holds `v` at tiles `b … b + n - 1`. -/
def accP (n : ℕ) (c : Dev nD) (b : ℕ) (v : (Sn n).Idx → F .f32) : sProp 𝕄 :=
  iprop(∃ f : S32x128x512.Idx → F .f32, ⌜Holds n f b v⌝ ∗ (((c : Thread nD τ).loc cc0_scratch0) ↦[rows b n]{fullShare} f))
/-- Device `c`'s accumulator at those tiles, whatever they hold. -/
def accJ (n : ℕ) (c : Dev nD) (b : ℕ) : sProp 𝕄 :=
  iprop(∃ f : S32x128x512.Idx → F .f32, (((c : Thread nD τ).loc cc0_scratch0) ↦[rows b n]{fullShare} f))
/-- Device `c`'s gather buffer holds the finished tiles `b … b + n - 1`. -/
def agP (n : ℕ) (c : Dev nD) (b : ℕ) : sProp 𝕄 := (((c : Thread nD τ).loc cc0_scratch1) ↦[rows b n]{fullShare} AG m)
/-- Device `c`'s gather buffer at those tiles, whatever they hold. -/
def agJ (n : ℕ) (c : Dev nD) (b : ℕ) : sProp 𝕄 :=
  iprop(∃ f : S32x128x512.Idx → F .bf16, (((c : Thread nD τ).loc cc0_scratch1) ↦[rows b n]{fullShare} f))

/-- A slot holding `v`. -/
abbrev st4 (M : Memref sig .tc .vmem S3x4x128x512 .bf16) (c : Dev nD) (s : Fin 3) (v : S1x4x128x512.Idx → F .bf16) : sProp 𝕄 :=
  owns (c : Thread nD τ) (sl4 M s) fullShare v
abbrev st3 (M : Memref sig .tc .vmem S3x128x512 .bf16) (c : Dev nD) (s : Fin 3) (v : S1x128x512.Idx → F .bf16) : sProp 𝕄 :=
  owns (c : Thread nD τ) (sl3 M s) fullShare v
/-- A slot, whatever it holds. -/
def jn4 (M : Memref sig .tc .vmem S3x4x128x512 .bf16) (c : Dev nD) (s : Fin 3) : sProp 𝕄 := iprop(∃ v, st4 M c s v)
def jn3 (M : Memref sig .tc .vmem S3x128x512 .bf16) (c : Dev nD) (s : Fin 3) : sProp 𝕄 := iprop(∃ v, st3 M c s v)

section
omit [FloatOps F]
instance (n : ℕ) (c : Dev nD) (b : ℕ) : BI.Storable (upEmb : UEmb _ 𝕄) (agJ (F := F) n c b) := by unfold agJ; infer_instance
instance (M) (c : Dev nD) (s) : BI.Storable (upEmb : UEmb _ 𝕄) (jn4 (F := F) M c s) := by unfold jn4; infer_instance
instance (M) (c : Dev nD) (s) : BI.Storable (upEmb : UEmb _ 𝕄) (jn3 (F := F) M c s) := by unfold jn3; infer_instance
end
instance (n : ℕ) (c : Dev nD) (b : ℕ) : BI.Storable (upEmb : UEmb _ 𝕄) (agP m n c b) := by unfold agP; infer_instance

/-! ## Payloads -/

set_option backward.proofsInPublic true in
/-- The step of copy `k` within its phase. -/
abbrev stp (k : ℕ) : Fin 3 := ⟨k % 3, Nat.mod_lt _ (by decide)⟩

/-- Where copy `k` lands on device `c`, whatever is there. -/
def land (c : Dev nD) (k : ℕ) : sProp 𝕄 :=
  match k / 3 with
  | 0 => jn4 pcF c (stp k)
  | 1 => jn4 pcB c (stp k)
  | 2 => jn3 zcF c (stp k)
  | 3 => jn3 zcB c (stp k)
  | 4 => agJ 1 c (8 * mq c 1 + mp c (4 - k % 3))
  | 5 => agJ 1 c (8 * mq c 3 + 4 + mp c (4 + k % 3))
  | 6 => agJ 4 c (8 * mq c (4 - k % 3))
  | _ => agJ 4 c (8 * mq c (4 + k % 3) + 4)

/-- What copy `k` hands device `c`: the landing place holding what the sender sent. -/
def recvPay (c : Dev nD) (k : ℕ) : sProp 𝕄 :=
  match k / 3 with
  | 0 => st4 pcF c (stp k) (k0_pay9 (AF m (k % 3) (pl c)))
  | 1 => st4 pcB c (stp k) (k0_pay9 (AB m (k % 3) (pr c)))
  | 2 => st3 zcF c (stp k) (k0_pay29 (ZF m (k % 3) (zl c)))
  | 3 => st3 zcB c (stp k) (k0_pay29 (ZB m (k % 3) (zr c)))
  | 4 => agP m 1 c (8 * mq c 1 + mp c (4 - k % 3))
  | 5 => agP m 1 c (8 * mq c 3 + 4 + mp c (4 + k % 3))
  | 6 => agP m 4 c (8 * mq c (4 - k % 3))
  | _ => agP m 4 c (8 * mq c (4 + k % 3) + 4)

/-- What copy `k`'s send cell hands its sender back: the source. -/
def sendPay (c : Dev nD) (k : ℕ) : sProp 𝕄 :=
  match k / 3 with
  | 0 => jn4 psF c (stp k)
  | 1 => jn4 psB c (stp k)
  | 2 => jn3 zsF c (stp k)
  | 3 => jn3 zsB c (stp k)
  | 4 => agP m 1 c (8 * mq c 1 + mp c (5 - k % 3))
  | 5 => agP m 1 c (8 * mq c 3 + 4 + mp c (3 + k % 3))
  | 6 => agP m 4 c (8 * mq c (5 - k % 3))
  | _ => agP m 4 c (8 * mq c (3 + k % 3) + 4)

/-- What a neighbour's signal hands device `c`: that neighbour's landing places for the copies `c` sends it. -/
def barPay (c : Dev nD) (d : Fin 4) : sProp 𝕄 :=
  match d with
  | 0 => iprop(land (pr c) 0 ∗ land (pr c) 1 ∗ land (pr c) 2 ∗ land (pr c) 18 ∗ land (pr c) 19 ∗ land (pr c) 20)
  | 1 => iprop(land (pl c) 3 ∗ land (pl c) 4 ∗ land (pl c) 5 ∗ land (pl c) 21 ∗ land (pl c) 22 ∗ land (pl c) 23)
  | 2 => iprop(land (zr c) 6 ∗ land (zr c) 7 ∗ land (zr c) 8 ∗ land (zr c) 12 ∗ land (zr c) 13 ∗ land (zr c) 14)
  | 3 => iprop(land (zl c) 9 ∗ land (zl c) 10 ∗ land (zl c) 11 ∗ land (zl c) 15 ∗ land (zl c) 16 ∗ land (zl c) 17)

section
omit [FloatOps F]
instance land_storable (c : Dev nD) (k : ℕ) : BI.Storable (upEmb : UEmb _ 𝕄) (land (F := F) c k) := by
  unfold land; split <;> infer_instance
instance barPay_storable (c : Dev nD) (d : Fin 4) : BI.Storable (upEmb : UEmb _ 𝕄) (barPay (F := F) c d) := by
  unfold barPay; split <;> infer_instance
end
instance recvPay_storable (c : Dev nD) (k : ℕ) : BI.Storable (upEmb : UEmb _ 𝕄) (recvPay m c k) := by
  unfold recvPay; split <;> infer_instance
instance sendPay_storable (c : Dev nD) (k : ℕ) : BI.Storable (upEmb : UEmb _ 𝕄) (sendPay m c k) := by
  unfold sendPay; split <;> infer_instance

/-! ## The schedule -/

/-- One round: a barrier cell has four duties of one unit, a send or a receive cell one duty of its copy's credit. -/
def rd : Rounds.Schedule (GSem nD τ sig) (Fin 4) 𝕄 where
  duties g r := if r = 0 ∧ g.1.2 = .tc then (match g.2 with | .reg s => if s = barS then Finset.univ else ∅ | .dma q => if 4 ≤ q.val then {0} else ∅) else ∅
  unitless _ := False
  amount g _ _ := match g.2 with | .reg _ => 1 | .dma q => if 28 ≤ q.val then NN (q.val - 28) else NN (q.val - 4)
  payload g _ d := match g.2 with | .reg _ => barPay g.1.1 d | .dma q => if 28 ≤ q.val then recvPay m g.1.1 (q.val - 28) else sendPay m g.1.1 (q.val - 4)
  amount_pos g _ _ _ := by
    rcases g with ⟨t, _ | q⟩
    · exact Nat.one_pos
    · dsimp only; split <;> exact NN_pos _

instance rd_storable (g : GSem nD τ sig) (r : ℕ) (d : Fin 4) : BI.Storable (upEmb : UEmb _ 𝕄) ((rd m).payload g r d) := by
  rcases g with ⟨t, s | q⟩
  · show BI.Storable upEmb (barPay t.1 d); infer_instance
  · show BI.Storable upEmb (if 28 ≤ q.val then recvPay m t.1 (q.val - 28) else sendPay m t.1 (q.val - 4))
    split <;> infer_instance

section Tables
variable (c : Dev nD) (k : Fin 24)

theorem sendS_lo : 4 ≤ (sendS k).val := by show 4 ≤ 4 + k.val; omega
theorem recvS_lo : 4 ≤ (recvS k).val := by show 4 ≤ 28 + k.val; omega
theorem sendS_nhi : ¬ 28 ≤ (sendS k).val := by show ¬ 28 ≤ 4 + k.val; omega
theorem recvS_hi : 28 ≤ (recvS k).val := by show 28 ≤ 28 + k.val; omega
theorem sendS_sub : (sendS k).val - 4 = k.val := by show 4 + k.val - 4 = k.val; omega
theorem recvS_sub : (recvS k).val - 28 = k.val := by show 28 + k.val - 28 = k.val; omega

theorem duties_bar : (rd m).duties (barCell c) 0 = Finset.univ := rfl
theorem duties_send : (rd m).duties (sendCell c k) 0 = {0} := by
  dsimp only [rd]; rw [if_pos ⟨rfl, rfl⟩, if_pos (sendS_lo k)]
theorem duties_recv : (rd m).duties (recvCell c k) 0 = {0} := by
  dsimp only [rd]; rw [if_pos ⟨rfl, rfl⟩, if_pos (recvS_lo k)]
theorem duties_later (g : GSem nD τ sig) : ∀ r, 1 ≤ r → (rd m).duties g r = ∅ :=
  fun r hr => by dsimp only [rd]; rw [if_neg fun h => by omega]
theorem amount_bar (d : Fin 4) : (rd m).amount (barCell c) 0 d = 1 := rfl
theorem amount_send (d : Fin 4) : (rd m).amount (sendCell c k) 0 d = NN k := by
  dsimp only [rd]; rw [if_neg (sendS_nhi k), sendS_sub]
theorem amount_recv (d : Fin 4) : (rd m).amount (recvCell c k) 0 d = NN k := by
  dsimp only [rd]; rw [if_pos (recvS_hi k), recvS_sub]
theorem expect_bar : (rd m).expect (barCell c) 0 = 4 := by
  unfold Schedule.expect Schedule.amountOf
  rw [duties_bar, Finset.sum_congr rfl fun d _ => amount_bar m c d]; rfl
theorem expect_send : (rd m).expect (sendCell c k) 0 = NN k := by
  unfold Schedule.expect Schedule.amountOf; rw [duties_send, Finset.sum_singleton, amount_send]
theorem expect_recv : (rd m).expect (recvCell c k) 0 = NN k := by
  unfold Schedule.expect Schedule.amountOf; rw [duties_recv, Finset.sum_singleton, amount_recv]
theorem payload_bar (d : Fin 4) : (rd m).payload (barCell c) 0 d = barPay c d := rfl
theorem payload_send (d : Fin 4) : (rd m).payload (sendCell c k) 0 d = sendPay m c k := by
  dsimp only [rd]; rw [if_neg (sendS_nhi k), sendS_sub]
theorem payload_recv (d : Fin 4) : (rd m).payload (recvCell c k) 0 d = recvPay m c k := by
  dsimp only [rd]; rw [if_pos (recvS_hi k), recvS_sub]
theorem rest_bar : bigSep ((rd m).duties (barCell c) 0 \ ∅) (fun d => (rd m).payload (barCell c) 0 d)
    = iprop(barPay c 0 ∗ barPay c 1 ∗ barPay c 2 ∗ barPay c 3) := by
  rw [Finset.sdiff_empty, duties_bar, bigSep_univ_eq_bigSepL [0, 1, 2, 3] (by decide) (by decide)]; rfl
theorem rest_send : bigSep ((rd m).duties (sendCell c k) 0 \ ∅) (fun d => (rd m).payload (sendCell c k) 0 d) = sendPay m c k := by
  rw [Finset.sdiff_empty, duties_send, bigSep_singleton, payload_send]
theorem rest_recv : bigSep ((rd m).duties (recvCell c k) 0 \ ∅) (fun d => (rd m).payload (recvCell c k) 0 d) = recvPay m c k := by
  rw [Finset.sdiff_empty, duties_recv, bigSep_singleton, payload_recv]

end Tables

/-! ## What is owed, and the levels -/

/-- The place of copy `k` in the program's order of sends. -/
def pos (k : ℕ) : ℕ := 6 * (k / 6) + 2 * (k % 3) + (k / 3) % 2
theorem pos_inj : ∀ k k' : Fin 24, pos k = pos k' → k = k' := by decide

/-- What device `c` owes for its copies from the `i`-th on. -/
def Ow (c : Dev nD) (i : ℕ) : CellTallies nD τ sig Unit :=
  ∑ k : Fin 24, if i ≤ pos k then tallyAt (recvCell (peer c k) k) () (NN k) else 0

/-- The neighbours in the reverse order of the program's signals. -/
def nb (c : Dev nD) : ℕ → Dev nD
  | 0 => zr c | 1 => zl c | 2 => pr c | _ => pl c

/-- What device `c` owes while `j` of its signals are still to come: those, and its copies. -/
def Ob (c : Dev nD) : ℕ → CellTallies nD τ sig Unit
  | 0 => Ow c 0
  | j + 1 => Ob c j + tallyAt (barCell (nb c j)) () 1
/-- What device `c` owes at launch. -/
abbrev O₀ (c : Dev nD) : CellTallies nD τ sig Unit := Ob c 4

theorem Ow_peel (c : Dev nD) (k : Fin 24) : Ow c (pos k) = Ow c (pos k + 1) + tallyAt (recvCell (peer c k) k) () (NN k) := by
  have h : ∀ k' : Fin 24, (if pos k ≤ pos k' then tallyAt (recvCell (peer c k') k') () (NN k') else 0 : CellTallies nD τ sig Unit)
      = (if pos k + 1 ≤ pos k' then tallyAt (recvCell (peer c k') k') () (NN k') else 0) + (if k' = k then tallyAt (recvCell (peer c k') k') () (NN k') else 0) := by
    intro k'
    by_cases hk : k' = k
    · subst hk; rw [if_pos (le_refl _), if_neg (by omega), if_pos rfl, zero_add]
    · have hp : pos k' ≠ pos k := fun h => hk (pos_inj _ _ h)
      rw [if_neg hk, add_zero]
      by_cases h2 : pos k ≤ pos k'
      · rw [if_pos h2, if_pos (by omega)]
      · rw [if_neg h2, if_neg (by omega)]
  unfold Ow
  rw [Finset.sum_congr rfl fun k' _ => h k', Finset.sum_add_distrib, Finset.sum_ite_eq' Finset.univ k, if_pos (Finset.mem_univ _)]

theorem Ow_end (c : Dev nD) : Ow c 24 = 0 := by
  unfold Ow
  exact Finset.sum_eq_zero fun k _ => if_neg (by have : ∀ k : Fin 24, ¬ 24 ≤ pos k := by decide
                                                 exact this k)

theorem Ow_pos {c : Dev nD} {i : ℕ} {g : GSem nD τ sig} {u : Unit} (h : 0 < Ow c i g u) :
    ∃ k : Fin 24, i ≤ pos k ∧ g = recvCell (peer c k) k := by
  by_contra hn
  push Not at hn
  unfold Ow at h
  rw [Finset.sum_apply, Finsupp.finset_sum_apply, Finset.sum_eq_zero fun k _ => ?_] at h
  · exact Nat.lt_irrefl 0 h
  · split
    · rename_i hi
      rw [tallyAt_apply, if_neg fun h' => hn k hi h'.1]
    · rfl

theorem Ob_pos {c : Dev nD} {j : ℕ} {g : GSem nD τ sig} {u : Unit} (h : 0 < Ob c j g u) :
    (∃ k : Fin 24, g = recvCell (peer c k) k) ∨ ∃ d : Dev nD, g = barCell d := by
  induction j with
  | zero => obtain ⟨k, -, hk⟩ := Ow_pos (show 0 < Ow c 0 g u from h); exact .inl ⟨k, hk⟩
  | succ j ih =>
    have h' : 0 < (Ob c j + tallyAt (barCell (nb c j)) () 1) g u := h
    rw [Pi.add_apply, Finsupp.add_apply, tallyAt_apply] at h'
    by_cases hg : g = barCell (nb c j) ∧ u = ()
    · exact .inr ⟨_, hg.1⟩
    · rw [if_neg hg, add_zero] at h'; exact ih h'

def L (g : GSem nD τ sig) : Finset Unit := if g.1.2 = .tc then {()} else ∅
/-- Staging and send cells at 0, barrier cells at 1, the receive cell of copy `k` at 2 and its stage. -/
def lv (g : GSem nD τ sig) (_ : Unit) : ℕ := match g.2 with | .reg _ => 1 | .dma q => if 28 ≤ q.val then 2 + pos (q.val - 28) / 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 24) : lv (recvCell c k) () = 2 + pos k / 2 := by
  dsimp only [lv]; rw [if_pos (recvS_hi k), recvS_sub]
theorem lv_send (c : Dev nD) (k : Fin 24) : lv (sendCell c k) () = 0 := by
  dsimp only [lv]; rw [if_neg (sendS_nhi k)]
theorem lv_bar (c : Dev nD) : lv (barCell c) () = 1 := rfl

omit [FloatOps F] in
/-- A wait at level `n` while only copies of higher stages are owed. -/
theorem mayWait_Ow (c : Dev nD) (sm : SemLoc sig) (i n : ℕ) (h : lv ((c : Thread nD τ), sm) () ≤ n) (hi : ∀ k : Fin 24, i ≤ pos k → n < 2 + pos k / 2) :
    (levAts L lv : sProp 𝕄) ⊢ MayWait (c : Thread nD τ) sm () (Ow c i) := by
  refine MayOwe.of_cut (L := L) (lev := lv) n (fun p hp => by rw [Finset.mem_singleton.mp hp, L_tc]; exact Finset.mem_singleton_self _)
    (fun g u hg => by obtain ⟨k, -, rfl⟩ := Ow_pos hg; exact Finset.mem_singleton_self _)
    (fun p hp => by rw [Finset.mem_singleton.mp hp]; exact h)
    (fun g u hg => by obtain ⟨k, hk, rfl⟩ := Ow_pos hg; rw [lv_recv]; exact hi k hk)

omit [FloatOps F] in
/-- A staging wait, whatever is owed. -/
theorem mayWait_stage (c : Dev nD) (q : DmaSem sig) (hq : ¬ 28 ≤ q.val) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases Ob_pos hg with ⟨k, rfl⟩ | ⟨d, rfl⟩ <;> exact Finset.mem_singleton_self _)
      (fun p hp => by rw [Finset.mem_singleton.mp hp]; dsimp only [lv]; rw [if_neg hq])
      (fun g u hg => by
        rcases Ob_pos hg with ⟨k, rfl⟩ | ⟨d, rfl⟩
        · rw [lv_recv]; omega
        · rw [lv_bar]; decide)
  · rw [MayWait_zero]; iintro -; iempintro

end Cert.KernelIdeal.Ring
-- ==== Proof.KernelIdealSteps.lean ====
/-
One lemma per kind of step of the kernel: a load or a store of the accumulator, of a slot or of the gather buffer,
a copy to a neighbour, a wait for a copy sent, a wait for a copy received.
-/
module

public import proofs.«01_k».proof.Proof.KernelIdealCommon

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c`'s core runs `p` to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ)

/-! ## Stacks of tiles -/

/-- The unit rectangle at tiles `b …`. -/
theorem mem_rows {b n : ℕ} {i : S32x128x512.Idx} : i ∈ rows b n ↔ b ≤ (i 0).val ∧ (i 0).val < b + n := by
  unfold rows; rw [Finset.mem_filter]; simp

theorem rect_rows {b n : ℕ} (inb : ∀ a, (![b, 0, 0] : Fin 3 → ℕ) a + (Sn n).size a ≤ S32x128x512.size a) :
    (Rect.unit (s := S32x128x512) ![b, 0, 0] (Sn n).size inb).set = rows b n := by
  ext i
  rw [Rect.mem_set_unit, mem_rows]
  constructor
  · intro h; exact h 0
  · intro h a
    match a with
    | 0 => exact h
    | 1 => exact ⟨Nat.zero_le _, by have := (i 1).isLt; show (i 1).val < 0 + 128; rw [Nat.zero_add]; exact this⟩
    | 2 => exact ⟨Nat.zero_le _, by have := (i 2).isLt; show (i 2).val < 0 + 512; rw [Nat.zero_add]; exact this⟩

/-- What a rectangle of `f` reads is what `f` holds there. -/
theorem read_holds {ft : FTy} {n b : ℕ} {f : S32x128x512.Idx → F ft} {v : (Sn n).Idx → F ft} (h : Holds n f b v)
    (inb : ∀ a, (![b, 0, 0] : Fin 3 → ℕ) a + (Sn n).size a ≤ S32x128x512.size a) :
    (fun x => f ((Rect.unit (s := S32x128x512) ![b, 0, 0] (Sn n).size inb).emb x)) = v := by
  funext x
  refine h _ x ?_ ?_ ?_
  · show b + 1 * (x 0).val = _; rw [Nat.one_mul]
  · show 0 + 1 * (x 1).val = _; rw [Nat.one_mul, Nat.zero_add]
  · show 0 + 1 * (x 2).val = _; rw [Nat.one_mul, Nat.zero_add]

theorem emb_eq {n b : ℕ} (inb : ∀ a, (![b, 0, 0] : Fin 3 → ℕ) a + (Sn n).size a ≤ S32x128x512.size a) (i : S32x128x512.Idx) (x : (Sn n).Idx)
    (h0 : (i 0).val = b + (x 0).val) (h1 : (i 1).val = (x 1).val) (h2 : (i 2).val = (x 2).val) :
    (Rect.unit (s := S32x128x512) ![b, 0, 0] (Sn n).size inb).emb x = i := by
  funext a
  match a with
  | 0 => apply Fin.ext; show b + 1 * (x 0).val = _; rw [Nat.one_mul, h0]
  | 1 => apply Fin.ext; show 0 + 1 * (x 1).val = _; rw [Nat.one_mul, Nat.zero_add, h1]
  | 2 => apply Fin.ext; show 0 + 1 * (x 2).val = _; rw [Nat.one_mul, Nat.zero_add, h2]

theorem acc_set {n b : ℕ} (inb : ∀ a, (![b, 0, 0] : Fin 3 → ℕ) a + (Sn n).size a ≤ S32x128x512.size a) :
    (acM.access (Rect.unit (s := S32x128x512) ![b, 0, 0] (Sn n).size inb)).set = rows b n :=
  (View.set_slice_whole cc0_scratch0 _).trans (rect_rows inb)
theorem ag_set {n b : ℕ} (inb : ∀ a, (![b, 0, 0] : Fin 3 → ℕ) a + (Sn n).size a ≤ S32x128x512.size a) :
    (agM.access (Rect.unit (s := S32x128x512) ![b, 0, 0] (Sn n).size inb)).set = rows b n :=
  (View.set_slice_whole cc0_scratch1 _).trans (rect_rows inb)

section Acc
variable (n : ℕ) (c : Dev nD) (b : ℕ) {off : Fin 3 → ℕ} (hoff : off = ![b, 0, 0])
    {inb : ∀ a, off a + (Sn n).size a ≤ S32x128x512.size a} {α : Type} {Q : α → sProp (MT nD τ sig Unit (Elt F) ℕ UU ℕ)}
include hoff

/-- Load a stack of tiles of the accumulator. -/
theorem ld_acc (v : (Sn n).Idx → F .f32) {hl : acM.view.LoadsAt (Rect.unit (s := S32x128x512) off (Sn n).size inb).toLoadRect}
    {k : Vec F (Sn n) .f32 → Prog (TpuEff nD τ sig (Elt F) Λ₀ .tc) α} :
    accP n c b v ⊢ iprop((accP n c b v -∗ WP c (k v) Q)
      -∗ WP c (.op (.load acM (Rect.unit (s := S32x128x512) off (Sn n).size inb).toLoadRect hl) k) Q) := by
  subst hoff
  unfold accP
  iintro ⟨%f, %hf, H⟩ Hk
  iapply (wp_load_rect 𝒱₀ (c : Thread nD τ) none Set.univ (m := acM) (r := Rect.unit (s := S32x128x512) ![b, 0, 0] (Sn n).size inb)
    (S := rows b n) (by rw [acc_set])) $$ H
  iintro H
  rw [show (acM.access (Rect.unit (s := S32x128x512) ![b, 0, 0] (Sn n).size inb)).read (Elt F) f = v from read_holds hf inb]
  iapply Hk
  iexists f; isplitr; · (ipureintro; exact hf)
  iexact H

/-- Store a stack of tiles of the accumulator. -/
theorem st_acc (v w : Vec F (Sn n) .f32) {hx : (acM.access (Rect.unit (s := S32x128x512) off (Sn n).size inb)).Stores Finset.univ}
    {hm : Finset.univ = Finset.univ ∨ ∀ a, (Rect.unit (s := S32x128x512) off (Sn n).size inb).stride a = 1}
    {k : PUnit → Prog (TpuEff nD τ sig (Elt F) Λ₀ .tc) α} :
    accP n c b v ⊢ iprop((accP n c b w -∗ WP c (k ⟨⟩) Q)
      -∗ WP c (.op (.store acM (Rect.unit (s := S32x128x512) off (Sn n).size inb) w Finset.univ hx hm) k) Q) := by
  subst hoff
  unfold accP
  iintro ⟨%f, %hf, H⟩ Hk
  iapply (wp_store 𝒱₀ (c : Thread nD τ) none Set.univ (m := acM) (r := Rect.unit (s := S32x128x512) ![b, 0, 0] (Sn n).size inb)
    (Mk := Finset.univ) (S := rows b n) (by rw [← acc_set inb]; exact View.setOn_subset_set _ _)) $$ H
  iintro H
  iapply Hk
  iexists _; isplitr
  · ipureintro
    show Holds n ((acM.access (Rect.unit (s := S32x128x512) ![b, 0, 0] (Sn n).size inb)).write (Elt F) f w Finset.univ) b w
    intro i x h0 h1 h2
    rw [← emb_eq inb i x h0 h1 h2]
    exact View.write_emb_of_mem (Val := Elt F) (v := acM.access (Rect.unit (s := S32x128x512) ![b, 0, 0] (Sn n).size inb)) f w (Finset.mem_univ x)
  iexact H

/-- Load a stack of tiles of the gather buffer, whatever they are; -/
theorem ld_agJ {hl : agM.view.LoadsAt (Rect.unit (s := S32x128x512) off (Sn n).size inb).toLoadRect}
    {k : Vec F (Sn n) .bf16 → Prog (TpuEff nD τ sig (Elt F) Λ₀ .tc) α} :
    agJ n c b ⊢ iprop((∀ v, agJ n c b -∗ WP c (k v) Q)
      -∗ WP c (.op (.load agM (Rect.unit (s := S32x128x512) off (Sn n).size inb).toLoadRect hl) k) Q) := by
  subst hoff
  unfold agJ
  iintro ⟨%f, H⟩ Hk
  iapply (wp_load_rect 𝒱₀ (c : Thread nD τ) none Set.univ (m := agM) (r := Rect.unit (s := S32x128x512) ![b, 0, 0] (Sn n).size inb)
    (S := rows b n) (by rw [ag_set])) $$ H
  iintro H
  iapply Hk
  iexists f
  iexact H

/-- store finished tiles there. -/
theorem st_ag (w : Vec F (Sn n) .bf16) (hw : Holds n (AG m) b w)
    {hx : (agM.access (Rect.unit (s := S32x128x512) off (Sn n).size inb)).Stores Finset.univ}
    {hm : Finset.univ = Finset.univ ∨ ∀ a, (Rect.unit (s := S32x128x512) off (Sn n).size inb).stride a = 1}
    {k : PUnit → Prog (TpuEff nD τ sig (Elt F) Λ₀ .tc) α} :
    agJ n c b ⊢ iprop((agP m n c b -∗ WP c (k ⟨⟩) Q)
      -∗ WP c (.op (.store agM (Rect.unit (s := S32x128x512) off (Sn n).size inb) w Finset.univ hx hm) k) Q) := by
  subst hoff
  unfold agJ agP
  iintro ⟨%f, H⟩ Hk
  iapply (wp_store 𝒱₀ (c : Thread nD τ) none Set.univ (m := agM) (r := Rect.unit (s := S32x128x512) ![b, 0, 0] (Sn n).size inb)
    (Mk := Finset.univ) (S := rows b n) (by rw [← ag_set inb]; exact View.setOn_subset_set _ _)) $$ H
  iintro H
  iapply Hk
  rw [show ((c : Thread nD τ).loc cc0_scratch1 ↦[rows b n]{fullShare} AG m : sProp 𝕄)
      = ((c : Thread nD τ).loc cc0_scratch1 ↦[rows b n]{fullShare} ((agM.access (Rect.unit (s := S32x128x512) ![b, 0, 0] (Sn n).size inb)).write (Elt F) f w Finset.univ)) from
    pointsTo_congr fun i hi => by
      rw [← ag_set inb] at hi
      obtain ⟨x, -, rfl⟩ := Finset.mem_map.mp hi
      refine Eq.trans (hw _ x ?_ ?_ ?_) (View.write_emb_of_mem (Val := Elt F) (v := agM.access (Rect.unit (s := S32x128x512) ![b, 0, 0] (Sn n).size inb)) f w (Finset.mem_univ x)).symm
      · show b + 1 * (x 0).val = _; rw [Nat.one_mul]
      · show 0 + 1 * (x 1).val = _; rw [Nat.one_mul, Nat.zero_add]
      · show 0 + 1 * (x 2).val = _; rw [Nat.one_mul, Nat.zero_add]]
  iexact H

end Acc

/-! ## Slots -/

section Slots
variable (c : Dev nD) (s : Fin 3) {α : Type} {Q : α → sProp (MT nD τ sig Unit (Elt F) ℕ UU ℕ)}

theorem ld4 (M : Memref sig .tc .vmem S3x4x128x512 .bf16) (v : S1x4x128x512.Idx → F .bf16) {off : Fin 4 → ℕ} (hoff : off = ![s.val, 0, 0, 0])
    {inb : ∀ a, off a + S1x4x128x512.size a ≤ S3x4x128x512.size a} {hl : M.view.LoadsAt (Rect.unit (s := S3x4x128x512) off S1x4x128x512.size inb).toLoadRect}
    {k : Vec F S1x4x128x512 .bf16 → Prog (TpuEff nD τ sig (Elt F) Λ₀ .tc) α} :
    st4 M c s v ⊢ iprop((st4 M c s v -∗ WP c (k v) Q)
      -∗ WP c (.op (.load M (Rect.unit (s := S3x4x128x512) off S1x4x128x512.size inb).toLoadRect hl) k) Q) := by
  subst hoff
  unfold st4 owns
  iintro ⟨%f, %hf, H⟩ Hk
  iapply (wp_load_rect 𝒱₀ (c : Thread nD τ) none Set.univ (m := M) (r := Rect.unit (s := S3x4x128x512) ![s.val, 0, 0, 0] S1x4x128x512.size inb)
    (S := (sl4 M s).view.set) (Finset.Subset.refl _)) $$ H
  iintro H
  rw [show (M.access (Rect.unit (s := S3x4x128x512) ![s.val, 0, 0, 0] S1x4x128x512.size inb)).read (Elt F) f = v from hf]
  iapply Hk
  iexists f; isplitr; · (ipureintro; exact hf)
  iexact H

theorem ld3 (M : Memref sig .tc .vmem S3x128x512 .bf16) (v : S1x128x512.Idx → F .bf16) {off : Fin 3 → ℕ} (hoff : off = ![s.val, 0, 0])
    {inb : ∀ a, off a + S1x128x512.size a ≤ S3x128x512.size a} {hl : M.view.LoadsAt (Rect.unit (s := S3x128x512) off S1x128x512.size inb).toLoadRect}
    {k : Vec F S1x128x512 .bf16 → Prog (TpuEff nD τ sig (Elt F) Λ₀ .tc) α} :
    st3 M c s v ⊢ iprop((st3 M c s v -∗ WP c (k v) Q)
      -∗ WP c (.op (.load M (Rect.unit (s := S3x128x512) off S1x128x512.size inb).toLoadRect hl) k) Q) := by
  subst hoff
  unfold st3 owns
  iintro ⟨%f, %hf, H⟩ Hk
  iapply (wp_load_rect 𝒱₀ (c : Thread nD τ) none Set.univ (m := M) (r := Rect.unit (s := S3x128x512) ![s.val, 0, 0] S1x128x512.size inb)
    (S := (sl3 M s).view.set) (Finset.Subset.refl _)) $$ H
  iintro H
  rw [show (M.access (Rect.unit (s := S3x128x512) ![s.val, 0, 0] S1x128x512.size inb)).read (Elt F) f = v from hf]
  iapply Hk
  iexists f; isplitr; · (ipureintro; exact hf)
  iexact H

theorem ldj4 (M : Memref sig .tc .vmem S3x4x128x512 .bf16) {off : Fin 4 → ℕ} (hoff : off = ![s.val, 0, 0, 0])
    {inb : ∀ a, off a + S1x4x128x512.size a ≤ S3x4x128x512.size a} {hl : M.view.LoadsAt (Rect.unit (s := S3x4x128x512) off S1x4x128x512.size inb).toLoadRect}
    {k : Vec F S1x4x128x512 .bf16 → Prog (TpuEff nD τ sig (Elt F) Λ₀ .tc) α} :
    jn4 M c s ⊢ iprop((∀ v, jn4 M c s -∗ WP c (k v) Q)
      -∗ WP c (.op (.load M (Rect.unit (s := S3x4x128x512) off S1x4x128x512.size inb).toLoadRect hl) k) Q) := by
  unfold jn4
  iintro ⟨%v, H⟩ Hk
  iapply (ld4 c s M v hoff) $$ H
  iintro H
  iapply Hk
  iexists v; iexact H

theorem ldj3 (M : Memref sig .tc .vmem S3x128x512 .bf16) {off : Fin 3 → ℕ} (hoff : off = ![s.val, 0, 0])
    {inb : ∀ a, off a + S1x128x512.size a ≤ S3x128x512.size a} {hl : M.view.LoadsAt (Rect.unit (s := S3x128x512) off S1x128x512.size inb).toLoadRect}
    {k : Vec F S1x128x512 .bf16 → Prog (TpuEff nD τ sig (Elt F) Λ₀ .tc) α} :
    jn3 M c s ⊢ iprop((∀ v, jn3 M c s -∗ WP c (k v) Q)
      -∗ WP c (.op (.load M (Rect.unit (s := S3x128x512) off S1x128x512.size inb).toLoadRect hl) k) Q) := by
  unfold jn3
  iintro ⟨%v, H⟩ Hk
  iapply (ld3 c s M v hoff) $$ H
  iintro H
  iapply Hk
  iexists v; iexact H

theorem str4 (M : Memref sig .tc .vmem S3x4x128x512 .bf16) (w : Vec F S1x4x128x512 .bf16) {off : Fin 4 → ℕ} (hoff : off = ![s.val, 0, 0, 0])
    {inb : ∀ a, off a + S1x4x128x512.size a ≤ S3x4x128x512.size a}
    {hx : (M.access (Rect.unit (s := S3x4x128x512) off S1x4x128x512.size inb)).Stores Finset.univ}
    {hm : Finset.univ = Finset.univ ∨ ∀ a, (Rect.unit (s := S3x4x128x512) off S1x4x128x512.size inb).stride a = 1}
    {k : PUnit → Prog (TpuEff nD τ sig (Elt F) Λ₀ .tc) α} :
    jn4 M c s ⊢ iprop((st4 M c s w -∗ WP c (k ⟨⟩) Q)
      -∗ WP c (.op (.store M (Rect.unit (s := S3x4x128x512) off S1x4x128x512.size inb) w Finset.univ hx hm) k) Q) := by
  subst hoff
  unfold jn4 st4 owns
  iintro ⟨%v, %f, %hf, H⟩ Hk
  iapply (wp_store 𝒱₀ (c : Thread nD τ) none Set.univ (m := M) (r := Rect.unit (s := S3x4x128x512) ![s.val, 0, 0, 0] S1x4x128x512.size inb)
    (Mk := Finset.univ) (S := (sl4 M s).view.set) (View.setOn_subset_set _ _)) $$ H
  iintro H
  iapply Hk
  iexists _; isplitr
  · ipureintro; exact View.read_write_univ (Val := Elt F) (v := (sl4 M s).view) f w
  iexact H

theorem str3 (M : Memref sig .tc .vmem S3x128x512 .bf16) (w : Vec F S1x128x512 .bf16) {off : Fin 3 → ℕ} (hoff : off = ![s.val, 0, 0])
    {inb : ∀ a, off a + S1x128x512.size a ≤ S3x128x512.size a}
    {hx : (M.access (Rect.unit (s := S3x128x512) off S1x128x512.size inb)).Stores Finset.univ}
    {hm : Finset.univ = Finset.univ ∨ ∀ a, (Rect.unit (s := S3x128x512) off S1x128x512.size inb).stride a = 1}
    {k : PUnit → Prog (TpuEff nD τ sig (Elt F) Λ₀ .tc) α} :
    jn3 M c s ⊢ iprop((st3 M c s w -∗ WP c (k ⟨⟩) Q)
      -∗ WP c (.op (.store M (Rect.unit (s := S3x128x512) off S1x128x512.size inb) w Finset.univ hx hm) k) Q) := by
  subst hoff
  unfold jn3 st3 owns
  iintro ⟨%v, %f, %hf, H⟩ Hk
  iapply (wp_store 𝒱₀ (c : Thread nD τ) none Set.univ (m := M) (r := Rect.unit (s := S3x128x512) ![s.val, 0, 0] S1x128x512.size inb)
    (Mk := Finset.univ) (S := (sl3 M s).view.set) (View.setOn_subset_set _ _)) $$ H
  iintro H
  iapply Hk
  iexists _; isplitr
  · ipureintro; exact View.read_write_univ (Val := Elt F) (v := (sl3 M s).view) f w
  iexact H

end Slots

/-! ## The cells' invariants, and what a device holds of a copy -/

set_option backward.proofsInPublic true in
/-- A device's own semaphores: its barrier, its send semaphores, its receive semaphores. -/
def csem (j : Fin 49) : SemLoc sig := if j.val = 0 then .reg barS else .dma ⟨3 + j.val, by have := j.isLt; show 3 + j.val < 52; omega⟩
abbrev kcell (p : Dev nD × Fin 49) : GSem nD τ sig := ((p.1 : Thread nD τ), csem p.2)

set_option backward.proofsInPublic true in
abbrev jS (k : Fin 24) : Fin 49 := ⟨k.val + 1, by omega⟩
set_option backward.proofsInPublic true in
abbrev jR (k : Fin 24) : Fin 49 := ⟨k.val + 25, by omega⟩
theorem csem_bar : csem 0 = .reg barS := rfl
theorem csem_send (k : Fin 24) : csem (jS k) = .dma (sendS k) := by
  unfold csem sendS; rw [if_neg (by simp)]; exact congrArg SemLoc.dma (Fin.ext (by show 3 + (k.val + 1) = 4 + k.val; omega))
theorem csem_recv (k : Fin 24) : csem (jR k) = .dma (recvS k) := by
  unfold csem recvS; rw [if_neg (by simp)]; exact congrArg SemLoc.dma (Fin.ext (by show 3 + (k.val + 25) = 28 + k.val; omega))

/-- Every cell's invariant, and that each is at its first round. -/
def records (K : Dev nD × Fin 49 → ℕ) : sProp 𝕄 :=
  iprop((bigSep Finset.univ fun p : Dev nD × Fin 49 => cellInv ER (rd m) (K p) (kcell p))
    ∗ bigSep Finset.univ fun p : Dev nD × Fin 49 => reached ER (kcell p) 0)
instance records_persistent (K : Dev nD × Fin 49 → ℕ) : BI.Persistent (records m K) := by unfold records; infer_instance

/-- The shared knowledge. -/
def Ctx : sProp 𝕄 := iprop((∃ K, records m K) ∗ levAts L lv)
instance Ctx_persistent : BI.Persistent (Ctx m) := by unfold Ctx; infer_instance

theorem inv_at (K : Dev nD × Fin 49 → ℕ) (p : Dev nD × Fin 49) (g : GSem nD τ sig) (hg : kcell p = g) :
    records m K ⊢ iprop(cellInv ER (rd m) (K p) g ∗ reached ER g 0) := by
  subst hg
  exact BI.sep_mono (bigSep_elim (Finset.mem_univ p)) (bigSep_elim (Finset.mem_univ p))

theorem Ctx_bar (c : Dev nD) : Ctx m ⊢ iprop(∃ κ : ℕ, cellInv ER (rd m) κ (barCell c) ∗ reached ER (barCell c) 0) := by
  unfold Ctx; iintro ⟨⟨%K, H⟩, -⟩; iexists (K (c, 0)); iapply (inv_at m K (c, 0) (barCell c) rfl); iexact H
theorem Ctx_send (c : Dev nD) (k : Fin 24) : Ctx m ⊢ iprop(∃ κ : ℕ, cellInv ER (rd m) κ (sendCell c k) ∗ reached ER (sendCell c k) 0) := by
  unfold Ctx; iintro ⟨⟨%K, H⟩, -⟩; iexists (K (c, jS k)); iapply (inv_at m K (c, jS k) (sendCell c k) (by unfold kcell; rw [csem_send])); iexact H
theorem Ctx_recv (c : Dev nD) (k : Fin 24) : Ctx m ⊢ iprop(∃ κ : ℕ, cellInv ER (rd m) κ (recvCell c k) ∗ reached ER (recvCell c k) 0) := by
  unfold Ctx; iintro ⟨⟨%K, H⟩, -⟩; iexists (K (c, jR k)); iapply (inv_at m K (c, jR k) (recvCell c k) (by unfold kcell; rw [csem_recv])); iexact H
theorem Ctx_lev : Ctx m ⊢ (levAts L lv : sProp 𝕄) := by
  unfold Ctx; iintro ⟨-, H⟩; iexact H

/-- What device `c` owes from the `i`-th copy on. -/
def ow (c : Dev nD) (i : ℕ) : sProp 𝕄 := iprop(∃ W, owes (c : Thread nD τ) (Ow c i) W)
/-- Copy `k` to come: -/
def s0 (c : Dev nD) (k : Fin 24) : sProp 𝕄 :=
  iprop(dutyTok ER (sendCell c k) 0 0 ∗ dutyTok ER (recvCell (peer c k) k) 0 0 ∗ atPos ER (sendCell c k) 0 ∅ 0 ∗ atPos ER (recvCell c k) 0 ∅ 0
    ∗ cred (tallyAt (recvCell c k) () (NN k)))
/-- sent: -/
def s1 (c : Dev nD) (k : Fin 24) : sProp 𝕄 :=
  iprop(cred (tallyAt (sendCell c k) () (NN k)) ∗ atPos ER (sendCell c k) 0 ∅ 0 ∗ atPos ER (recvCell c k) 0 ∅ 0 ∗ cred (tallyAt (recvCell c k) () (NN k)))
/-- sent and waited for: -/
def s2 (c : Dev nD) (k : Fin 24) : sProp 𝕄 :=
  iprop(semVal (sendCell c k) 0 ∗ atPos ER (recvCell c k) 0 ∅ 0 ∗ cred (tallyAt (recvCell c k) () (NN k)))
/-- the neighbour's received too. -/
def s3 (c : Dev nD) (k : Fin 24) : sProp 𝕄 := iprop(semVal (sendCell c k) 0 ∗ semVal (recvCell c k) 0)

section Comm
variable (c : Dev nD) (k : Fin 24) {α : Type} {Q : α → sProp (MT nD τ sig Unit (Elt F) ℕ UU ℕ)}

/-- Copy `k` leaves: its source and its landing place are handed over. -/
theorem send_step {s : Shape} {e : EltTy} {n : Dev nD} (hn : n = peer c k)
    {src : Memref sig .tc .vmem s e} {dst : Memref sig .tc .vmem s e} {hsc : dst.view.ref.isScScratch = false}
    {sS sR : DmaSem sig} (hS : sS = sendS k) (hR : sR = recvS k) (hN : dst.view.dmaCredit = NN k)
    {hsrc : src.view.WordExact} {hdst : dst.view.WordExact} {hsem : DmaTarget.Typed .vmem (.dma sR) (.remote (n : Thread nD τ) dst (.dma sS) hsc)}
    (fs : Buf (Elt F) (src.view.loc (c : Thread nD τ))) (fd : Buf (Elt F) (dst.view.loc (peer c k : Thread nD τ)))
    (h1 : (src.view.loc (c : Thread nD τ) ↦[src.view.set]{fullShare} fs) ⊢ sendPay m c k)
    (h2 : (dst.view.loc (peer c k : Thread nD τ) ↦[dst.view.set]{fullShare} (dst.view.write (Elt F) fd (src.view.read (Elt F) fs) Finset.univ)) ⊢ recvPay m (peer c k) k)
    {kk : PUnit → Prog (TpuEff nD τ sig (Elt F) Λ₀ .tc) α} :
    iprop(Ctx m ∗ s0 c k ∗ ow c (pos k) ∗ (src.view.loc (c : Thread nD τ) ↦[src.view.set]{fullShare} fs) ∗ (dst.view.loc (peer c k : Thread nD τ) ↦[dst.view.set]{fullShare} fd))
      ⊢ iprop(((s1 c k ∗ ow c (pos k + 1)) -∗ WP c (kk ⟨⟩) Q)
        -∗ WP c (.op (.enqueueDma src (.remote (n : Thread nD τ) dst (.dma sS) hsc) (.dma sR) hsrc hdst hsem) kk) Q) := by
  subst hn hS hR
  unfold s0 ow
  iintro ⟨#HC, ⟨Ht1, Ht2, Ha1, Ha2, Hcr⟩, ⟨%W, HO⟩, Hs, Hd⟩ Hk
  ihave H1 := (Ctx_send m c k) $$ HC
  icases H1 with ⟨%κ1, #HI1, #HR1⟩
  ihave H2 := (Ctx_recv m (peer c k) k) $$ HC
  icases H2 with ⟨%κ2, #HI2, #HR2⟩
  iapply (Rounds.wp_send_pointsTo 𝒱₀ ER (rd m) (c : Thread nD τ) none (κ₁ := κ1) (κ₂ := κ2) (r₁ := 0) (r₂ := 0) (d₁ := 0) (d₂ := 0) (fd := fd)
    (by rw [duties_send]; exact Finset.mem_singleton_self _) (by rw [duties_recv]; exact Finset.mem_singleton_self _)
    () () (NN k) (show dst.view.amount (.dma (recvS k)) = NN k from hN) (amount_send m c k 0) (amount_recv m (peer c k) k 0) (Ow c (pos k + 1)) (Ow_peel c k) (W := W)
    (by rw [payload_send]; exact h1) (by rw [payload_recv]; exact h2)) $$ [Ht1 Ht2 HO Hs Hd]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  unfold s1
  isplitl [Hc Ha1 Ha2 Hcr]
  · isplitl [Hc]; · iexact Hc
    isplitl [Ha1]; · iexact Ha1
    isplitl [Ha2] <;> iassumption
  · iexists W; iexact HO

/-- The wait for copy `k` sent: the source is the core's again. -/
theorem wait_send (i : ℕ) {s : Shape} {e : EltTy} {src dst : Memref sig .tc .vmem s e} {sS : DmaSem sig} (hS : sS = sendS k) (hN : dst.view.dmaCredit = NN k)
    {h1 : src.view.WordExact} {h2 : dst.view.WordExact} {kk : PUnit → Prog (TpuEff nD τ sig (Elt F) Λ₀ .tc) α} :
    iprop(Ctx m ∗ s1 c k ∗ ow c i)
      ⊢ iprop(((s2 c k ∗ ow c i ∗ sendPay m c k) -∗ WP c (kk ⟨⟩) Q)
        -∗ WP c (.op (.waitDma2 sS src dst h1 h2) kk) Q) := by
  subst hS
  unfold s1 ow
  iintro ⟨#HC, ⟨Hc, Ha, Ha2, Hc2⟩, ⟨%W, HO⟩⟩ Hk
  ihave H1 := (Ctx_send m c k) $$ HC
  icases H1 with ⟨%κ, #HI, -⟩
  iapply (Rounds.wp_wait_rest_token 𝒱₀ ER (rd m) (c : Thread nD τ) none (κ := κ) (k' := dst.view.dmaCredit)
      (wpE_waitDma2_eq 𝒱₀ (c : Thread nD τ) none Set.univ) (Set.mem_univ _) () (O := Ow c i) (W := W) (R := 0) (m := 0) (T := ∅)
      (by rw [Nat.zero_add, expect_send, hN])) $$ [Hc HO Ha]
  · isplitr; · iexact HI
    isplitl [Hc]; · rw [hN]; iexact Hc
    isplitl [HO]; · iexact HO
    isplitr
    · iapply (mayWait_Ow (F := F) c (.dma (sendS k)) i 0 (le_of_eq (lv_send c k)) (fun k' _ => by omega))
      iapply (Ctx_lev m); iexact HC
    iexact Ha
  iintro ⟨HO, Ha, -, Hpay⟩
  ihave Hp := (Entails.of_eq (rest_send m c k)) $$ Hpay
  imod (Rounds.cell_close ER (rd m) (Set.mem_univ κ) (fun h => h) (R := 0 + 1) (duties_later m (sendCell c k))) $$ [Ha] with Hz
  · isplitr; · iexact HI
    iexact Ha
  iapply Hk
  unfold s2
  isplitl [Hz Ha2 Hc2]
  · isplitl [Hz]; · iexact Hz
    isplitl [Ha2] <;> iassumption
  isplitl [HO]
  · iexists _; iexact HO
  iexact Hp

/-- The wait for the neighbour's copy `k`: the landing place, written, is the core's. -/
theorem wait_recv (i : ℕ) (hi : ∀ k' : Fin 24, i ≤ pos k' → pos k / 2 < pos k' / 2) {s : Shape} {e : EltTy} {src dst : Memref sig .tc .vmem s e} {sR : DmaSem sig}
    (hR : sR = recvS k) (hN : dst.view.dmaCredit = NN k)
    {h1 : src.view.WordExact} {h2 : dst.view.WordExact} {kk : PUnit → Prog (TpuEff nD τ sig (Elt F) Λ₀ .tc) α} :
    iprop(Ctx m ∗ s2 c k ∗ ow c i)
      ⊢ iprop(((s3 c k ∗ ow c i ∗ recvPay m c k) -∗ WP c (kk ⟨⟩) Q)
        -∗ WP c (.op (.waitDma2 sR src dst h1 h2) kk) Q) := by
  subst hR
  unfold s2 ow
  iintro ⟨#HC, ⟨Hz, Ha, Hc⟩, ⟨%W, HO⟩⟩ Hk
  ihave H1 := (Ctx_recv m c k) $$ HC
  icases H1 with ⟨%κ, #HI, -⟩
  iapply (Rounds.wp_wait_rest_token 𝒱₀ ER (rd m) (c : Thread nD τ) none (κ := κ) (k' := dst.view.dmaCredit)
      (wpE_waitDma2_eq 𝒱₀ (c : Thread nD τ) none Set.univ) (Set.mem_univ _) () (O := Ow c i) (W := W) (R := 0) (m := 0) (T := ∅)
      (by rw [Nat.zero_add, expect_recv, hN])) $$ [Hc HO Ha]
  · isplitr; · iexact HI
    isplitl [Hc]; · rw [hN]; iexact Hc
    isplitl [HO]; · iexact HO
    isplitr
    · iapply (mayWait_Ow (F := F) c (.dma (recvS k)) i (2 + pos k / 2) (le_of_eq (lv_recv c k)) (fun k' h => by have := hi k' h; omega))
      iapply (Ctx_lev m); iexact HC
    iexact Ha
  iintro ⟨HO, Ha, -, Hpay⟩
  ihave Hp := (Entails.of_eq (rest_recv m c k)) $$ Hpay
  imod (Rounds.cell_close ER (rd m) (Set.mem_univ κ) (fun h => h) (R := 0 + 1) (duties_later m (recvCell c k))) $$ [Ha] with Hz2
  · isplitr; · iexact HI
    iexact Ha
  iapply Hk
  unfold s3
  isplitl [Hz Hz2]
  · isplitl [Hz] <;> iassumption
  isplitl [HO]
  · iexists _; iexact HO
  iexact Hp

/-! ### The four families of copies -/

omit [FloatOps F] in
theorem sq_set {s s' : Shape} {e : EltTy} (M : Memref sig .tc .vmem s e) (hq : s.Squeezes s') : (M.squeeze s' hq).view.set = M.view.set := View.set_reshape _ _

omit [FloatOps F] in
theorem landed_reshape {s s' : Shape} {e : EltTy} (v u : View sig .tc .vmem s e) (h : s'.numel = s.numel) (g : v.ty.Contents (Elt F)) (f : u.ty.Contents (Elt F)) :
    v.read (Elt F) ((v.reshape s' h).write (Elt F) g ((u.reshape s' h).read (Elt F) f) Finset.univ) = u.read (Elt F) f := by
  funext x
  obtain ⟨y, rfl⟩ := (Shape.reshapeEquiv h).surjective x
  exact View.read_write_reshape v h g ((u.reshape s' h).read (Elt F) f) y

/-- A slot of four tiles, from a staging buffer to the neighbour's landing buffer. -/
theorem send4 {M Mc : Memref sig .tc .vmem S3x4x128x512 .bf16} (s : Fin 3) (v : Vec F S1x4x128x512 .bf16) {i j : ℕ} (hi : pos k = i) (hj : pos k + 1 = j)
    (hs : sendPay m c k = jn4 M c s) (hl : land (F := F) (peer c k) k = jn4 Mc (peer c k) s) (hr : recvPay m (peer c k) k = st4 Mc (peer c k) s v)
    {n : Dev nD} (hn : n = peer c k) {off off' : Fin 4 → ℕ} (hoff : off = ![s.val, 0, 0, 0]) (hoff' : off' = ![s.val, 0, 0, 0])
    {inb : ∀ a, off a + S1x4x128x512.size a ≤ S3x4x128x512.size a} {inb' : ∀ a, off' a + S1x4x128x512.size a ≤ S3x4x128x512.size a}
    {hu hu'} {hq : S1x4x128x512.Squeezes S4x128x512}
    {hsc : ((Mc.slice (Rect.unit (s := S3x4x128x512) off' S1x4x128x512.size inb') hu').squeeze S4x128x512 hq).view.ref.isScScratch = false}
    {sS sR : DmaSem sig} (hS : sS = sendS k) (hR : sR = recvS k)
    (hN : ((Mc.slice (Rect.unit (s := S3x4x128x512) off' S1x4x128x512.size inb') hu').squeeze S4x128x512 hq).view.dmaCredit = NN k)
    {hsrc hdst} {hsem : DmaTarget.Typed .vmem (.dma sR) (.remote (n : Thread nD τ) ((Mc.slice (Rect.unit (s := S3x4x128x512) off' S1x4x128x512.size inb') hu').squeeze S4x128x512 hq) (.dma sS) hsc)}
    {kk : PUnit → Prog (TpuEff nD τ sig (Elt F) Λ₀ .tc) α} :
    iprop(Ctx m ∗ s0 c k ∗ ow c i ∗ st4 M c s v ∗ land (F := F) (peer c k) k)
      ⊢ iprop(((s1 c k ∗ ow c j) -∗ WP c (kk ⟨⟩) Q)
        -∗ WP c (.op (.enqueueDma ((M.slice (Rect.unit (s := S3x4x128x512) off S1x4x128x512.size inb) hu).squeeze S4x128x512 hq)
            (.remote (n : Thread nD τ) ((Mc.slice (Rect.unit (s := S3x4x128x512) off' S1x4x128x512.size inb') hu').squeeze S4x128x512 hq) (.dma sS) hsc) (.dma sR) hsrc hdst hsem) kk) Q) := by
  subst hoff hoff' hi hj
  rw [hl]
  unfold jn4 st4 owns
  iintro ⟨#HC, Hs0, HO, ⟨%f, %hf, Hf⟩, ⟨%w, %g, %hg, Hg⟩⟩
  iapply (send_step m c k hn hS hR hN f g ?_ ?_) $$ [Hs0 HO Hf Hg]
  · rw [hs, sq_set]; unfold jn4 st4 owns
    iintro H; iexists v; iexists f; isplitr; · (ipureintro; exact hf)
    iexact H
  · rw [hr, sq_set]; unfold st4 owns
    iintro H; iexists _; isplitr
    · ipureintro
      exact (landed_reshape (F := F) (sl4 Mc s).view (sl4 M s).view (Shape.Squeezes.numel_eq hq) g f).trans hf
    iexact H
  · isplitr; · iexact HC
    isplitl [Hs0]; · iexact Hs0
    isplitl [HO]; · iexact HO
    isplitl [Hf]
    · rw [sq_set]; iexact Hf
    · rw [sq_set]; iexact Hg

/-- A slot of one tile, from a staging buffer to the neighbour's landing buffer. -/
theorem send3 {M Mc : Memref sig .tc .vmem S3x128x512 .bf16} (s : Fin 3) (v : Vec F S1x128x512 .bf16) {i j : ℕ} (hi : pos k = i) (hj : pos k + 1 = j)
    (hs : sendPay m c k = jn3 M c s) (hl : land (F := F) (peer c k) k = jn3 Mc (peer c k) s) (hr : recvPay m (peer c k) k = st3 Mc (peer c k) s v)
    {n : Dev nD} (hn : n = peer c k) {off off' : Fin 3 → ℕ} (hoff : off = ![s.val, 0, 0]) (hoff' : off' = ![s.val, 0, 0])
    {inb : ∀ a, off a + S1x128x512.size a ≤ S3x128x512.size a} {inb' : ∀ a, off' a + S1x128x512.size a ≤ S3x128x512.size a}
    {hu hu'} {hq : S1x128x512.Squeezes S128x512}
    {hsc : ((Mc.slice (Rect.unit (s := S3x128x512) off' S1x128x512.size inb') hu').squeeze S128x512 hq).view.ref.isScScratch = false}
    {sS sR : DmaSem sig} (hS : sS = sendS k) (hR : sR = recvS k)
    (hN : ((Mc.slice (Rect.unit (s := S3x128x512) off' S1x128x512.size inb') hu').squeeze S128x512 hq).view.dmaCredit = NN k)
    {hsrc hdst} {hsem : DmaTarget.Typed .vmem (.dma sR) (.remote (n : Thread nD τ) ((Mc.slice (Rect.unit (s := S3x128x512) off' S1x128x512.size inb') hu').squeeze S128x512 hq) (.dma sS) hsc)}
    {kk : PUnit → Prog (TpuEff nD τ sig (Elt F) Λ₀ .tc) α} :
    iprop(Ctx m ∗ s0 c k ∗ ow c i ∗ st3 M c s v ∗ land (F := F) (peer c k) k)
      ⊢ iprop(((s1 c k ∗ ow c j) -∗ WP c (kk ⟨⟩) Q)
        -∗ WP c (.op (.enqueueDma ((M.slice (Rect.unit (s := S3x128x512) off S1x128x512.size inb) hu).squeeze S128x512 hq)
            (.remote (n : Thread nD τ) ((Mc.slice (Rect.unit (s := S3x128x512) off' S1x128x512.size inb') hu').squeeze S128x512 hq) (.dma sS) hsc) (.dma sR) hsrc hdst hsem) kk) Q) := by
  subst hoff hoff' hi hj
  rw [hl]
  unfold jn3 st3 owns
  iintro ⟨#HC, Hs0, HO, ⟨%f, %hf, Hf⟩, ⟨%w, %g, %hg, Hg⟩⟩
  iapply (send_step m c k hn hS hR hN f g ?_ ?_) $$ [Hs0 HO Hf Hg]
  · rw [hs, sq_set]; unfold jn3 st3 owns
    iintro H; iexists v; iexists f; isplitr; · (ipureintro; exact hf)
    iexact H
  · rw [hr, sq_set]; unfold st3 owns
    iintro H; iexists _; isplitr
    · ipureintro
      exact (landed_reshape (F := F) (sl3 Mc s).view (sl3 M s).view (Shape.Squeezes.numel_eq hq) g f).trans hf
    iexact H
  · isplitr; · iexact HC
    isplitl [Hs0]; · iexact Hs0
    isplitl [HO]; · iexact HO
    isplitl [Hf]
    · rw [sq_set]; iexact Hf
    · rw [sq_set]; iexact Hg

omit [FloatOps F] in
theorem write_read {s : Shape} {e : EltTy} (v : View sig .tc .vmem s e) (g f : v.ty.Contents (Elt F)) (i : v.ty.Idx) (hi : i ∈ v.set) :
    v.write (Elt F) g (v.read (Elt F) f) Finset.univ i = f i := by
  obtain ⟨x, -, rfl⟩ := Finset.mem_map.mp hi
  rw [View.write_emb_of_mem _ _ (Finset.mem_univ x), View.read_apply]
  simp

omit [FloatOps F] in
theorem landed_congr {s : Shape} {e : EltTy} (v : View sig .tc .vmem s e) (d : Dev nD) (g f : v.ty.Contents (Elt F)) :
    (v.loc (d : Thread nD τ) ↦[v.set]{fullShare} (v.write (Elt F) g (v.read (Elt F) f) Finset.univ) : sProp 𝕄) = (v.loc (d : Thread nD τ) ↦[v.set]{fullShare} f) :=
  pointsTo_congr fun i hi => write_read (F := F) v g f i hi

/-- A finished tile, between the gather buffers. -/
theorem sendA1 (b : ℕ) {i j : ℕ} (hi : pos k = i) (hj : pos k + 1 = j)
    (hs : sendPay m c k = agP m 1 c b) (hl : land (F := F) (peer c k) k = agJ 1 (peer c k) b) (hr : recvPay m (peer c k) k = agP m 1 (peer c k) b)
    {n : Dev nD} (hn : n = peer c k) {off : Fin 3 → ℕ} (hoff : off = ![b, 0, 0])
    {inb : ∀ a, off a + S1x128x512.size a ≤ S32x128x512.size a} {hu hu'} {hq : S1x128x512.Squeezes S128x512}
    {hsc : ((agM.slice (Rect.unit (s := S32x128x512) off S1x128x512.size inb) hu').squeeze S128x512 hq).view.ref.isScScratch = false}
    {sS sR : DmaSem sig} (hS : sS = sendS k) (hR : sR = recvS k)
    (hN : ((agM.slice (Rect.unit (s := S32x128x512) off S1x128x512.size inb) hu').squeeze S128x512 hq).view.dmaCredit = NN k)
    {hsrc hdst} {hsem : DmaTarget.Typed .vmem (.dma sR) (.remote (n : Thread nD τ) ((agM.slice (Rect.unit (s := S32x128x512) off S1x128x512.size inb) hu').squeeze S128x512 hq) (.dma sS) hsc)}
    {kk : PUnit → Prog (TpuEff nD τ sig (Elt F) Λ₀ .tc) α} :
    iprop(Ctx m ∗ s0 c k ∗ ow c i ∗ agP m 1 c b ∗ land (F := F) (peer c k) k)
      ⊢ iprop(((s1 c k ∗ ow c j) -∗ WP c (kk ⟨⟩) Q)
        -∗ WP c (.op (.enqueueDma ((agM.slice (Rect.unit (s := S32x128x512) off S1x128x512.size inb) hu).squeeze S128x512 hq)
            (.remote (n : Thread nD τ) ((agM.slice (Rect.unit (s := S32x128x512) off S1x128x512.size inb) hu').squeeze S128x512 hq) (.dma sS) hsc) (.dma sR) hsrc hdst hsem) kk) Q) := by
  subst hoff hi hj
  rw [hl]
  unfold agJ agP
  have hset : ((agM.slice (Rect.unit (s := S32x128x512) ![b, 0, 0] S1x128x512.size inb) hu).squeeze S128x512 hq).view.set = rows b 1 :=
    (sq_set _ hq).trans (ag_set (n := 1) inb)
  iintro ⟨#HC, Hs0, HO, Hf, ⟨%g, Hg⟩⟩
  iapply (send_step m c k hn hS hR hN (AG m) g ?_ ?_) $$ [Hs0 HO Hf Hg]
  · rw [hs, hset]; unfold agP; exact BI.Entails.refl _
  · rw [hr]; unfold agP
    refine Entails.of_eq ?_
    refine (landed_congr (F := F) ((agM.slice (Rect.unit (s := S32x128x512) ![b, 0, 0] S1x128x512.size inb) hu').squeeze S128x512 hq).view (peer c k) g (AG m)).trans ?_
    rw [hset]
  · isplitr; · iexact HC
    isplitl [Hs0]; · iexact Hs0
    isplitl [HO]; · iexact HO
    isplitl [Hf]
    · rw [hset]; iexact Hf
    · rw [hset]; iexact Hg

/-- Four finished tiles, between the gather buffers. -/
theorem sendA4 (b : ℕ) {i j : ℕ} (hi : pos k = i) (hj : pos k + 1 = j)
    (hs : sendPay m c k = agP m 4 c b) (hl : land (F := F) (peer c k) k = agJ 4 (peer c k) b) (hr : recvPay m (peer c k) k = agP m 4 (peer c k) b)
    {n : Dev nD} (hn : n = peer c k) {off : Fin 3 → ℕ} (hoff : off = ![b, 0, 0])
    {inb : ∀ a, off a + S4x128x512.size a ≤ S32x128x512.size a} {hu hu'}
    {hsc : ((agM.slice (Rect.unit (s := S32x128x512) off S4x128x512.size inb) hu')).view.ref.isScScratch = false}
    {sS sR : DmaSem sig} (hS : sS = sendS k) (hR : sR = recvS k)
    (hN : ((agM.slice (Rect.unit (s := S32x128x512) off S4x128x512.size inb) hu')).view.dmaCredit = NN k)
    {hsrc hdst} {hsem : DmaTarget.Typed .vmem (.dma sR) (.remote (n : Thread nD τ) ((agM.slice (Rect.unit (s := S32x128x512) off S4x128x512.size inb) hu')) (.dma sS) hsc)}
    {kk : PUnit → Prog (TpuEff nD τ sig (Elt F) Λ₀ .tc) α} :
    iprop(Ctx m ∗ s0 c k ∗ ow c i ∗ agP m 4 c b ∗ land (F := F) (peer c k) k)
      ⊢ iprop(((s1 c k ∗ ow c j) -∗ WP c (kk ⟨⟩) Q)
        -∗ WP c (.op (.enqueueDma ((agM.slice (Rect.unit (s := S32x128x512) off S4x128x512.size inb) hu))
            (.remote (n : Thread nD τ) ((agM.slice (Rect.unit (s := S32x128x512) off S4x128x512.size inb) hu')) (.dma sS) hsc) (.dma sR) hsrc hdst hsem) kk) Q) := by
  subst hoff hi hj
  rw [hl]
  unfold agJ agP
  have hset : ((agM.slice (Rect.unit (s := S32x128x512) ![b, 0, 0] S4x128x512.size inb) hu)).view.set = rows b 4 :=
    ag_set (n := 4) inb
  iintro ⟨#HC, Hs0, HO, Hf, ⟨%g, Hg⟩⟩
  iapply (send_step m c k hn hS hR hN (AG m) g ?_ ?_) $$ [Hs0 HO Hf Hg]
  · rw [hs, hset]; unfold agP; exact BI.Entails.refl _
  · rw [hr]; unfold agP
    refine Entails.of_eq ?_
    refine (landed_congr (F := F) (agM.slice (Rect.unit (s := S32x128x512) ![b, 0, 0] S4x128x512.size inb) hu').view (peer c k) g (AG m)).trans ?_
    rw [hset]
  · isplitr; · iexact HC
    isplitl [Hs0]; · iexact Hs0
    isplitl [HO]; · iexact HO
    isplitl [Hf]
    · rw [hset]; iexact Hf
    · rw [hset]; iexact Hg

end Comm

end Cert.KernelIdeal.Ring
-- ==== Proof.KernelIdealMesh.lean ====
/-
The mesh in closed form: the devices the copies and the signals go to, the tiles that every access names, and the
semaphores, each decided over the sixteen devices.
-/
module

public import proofs.«01_k».proof.Proof.KernelIdealSteps

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Devices -/

/-- A device given by an equal index. -/
theorem dev_ext {n : ℕ} {h : n < nD} {d : Dev nD} (e : n = d.val) : (⟨n, h⟩ : Dev nD) = d := Fin.ext e
theorem dev1 : ∀ c : Dev nD, (⟨k0_dev1 c, k0_dev1_lt c⟩ : Dev nD) = nb c 3 := by decide +kernel
theorem dev2 : ∀ c : Dev nD, (⟨k0_dev2 c, k0_dev2_lt c⟩ : Dev nD) = nb c 2 := by decide +kernel
theorem dev3 : ∀ c : Dev nD, (⟨k0_dev3 c, k0_dev3_lt c⟩ : Dev nD) = nb c 1 := by decide +kernel
theorem dev4 : ∀ c : Dev nD, (⟨k0_dev4 c, k0_dev4_lt c⟩ : Dev nD) = nb c 0 := by decide +kernel
theorem dev5 : ∀ c : Dev nD, (⟨k0_dev5 c, k0_dev5_lt c⟩ : Dev nD) = peer c ((0 : Fin 24)).val := by decide +kernel
theorem dev6 : ∀ c : Dev nD, (⟨k0_dev6 c, k0_dev6_lt c⟩ : Dev nD) = peer c ((3 : Fin 24)).val := by decide +kernel
theorem dev7 : ∀ c : Dev nD, (⟨k0_dev7 c, k0_dev7_lt c⟩ : Dev nD) = peer c ((1 : Fin 24)).val := by decide +kernel
theorem dev8 : ∀ c : Dev nD, (⟨k0_dev8 c, k0_dev8_lt c⟩ : Dev nD) = peer c ((4 : Fin 24)).val := by decide +kernel
theorem dev9 : ∀ c : Dev nD, (⟨k0_dev9 c, k0_dev9_lt c⟩ : Dev nD) = peer c ((2 : Fin 24)).val := by decide +kernel
theorem dev10 : ∀ c : Dev nD, (⟨k0_dev10 c, k0_dev10_lt c⟩ : Dev nD) = peer c ((5 : Fin 24)).val := by decide +kernel
theorem dev11 : ∀ c : Dev nD, (⟨k0_dev11 c, k0_dev11_lt c⟩ : Dev nD) = peer c ((6 : Fin 24)).val := by decide +kernel
theorem dev12 : ∀ c : Dev nD, (⟨k0_dev12 c, k0_dev12_lt c⟩ : Dev nD) = peer c ((9 : Fin 24)).val := by decide +kernel
theorem dev13 : ∀ c : Dev nD, (⟨k0_dev13 c, k0_dev13_lt c⟩ : Dev nD) = peer c ((7 : Fin 24)).val := by decide +kernel
theorem dev14 : ∀ c : Dev nD, (⟨k0_dev14 c, k0_dev14_lt c⟩ : Dev nD) = peer c ((10 : Fin 24)).val := by decide +kernel
theorem dev15 : ∀ c : Dev nD, (⟨k0_dev15 c, k0_dev15_lt c⟩ : Dev nD) = peer c ((8 : Fin 24)).val := by decide +kernel
theorem dev16 : ∀ c : Dev nD, (⟨k0_dev16 c, k0_dev16_lt c⟩ : Dev nD) = peer c ((11 : Fin 24)).val := by decide +kernel
theorem dev17 : ∀ c : Dev nD, (⟨k0_dev17 c, k0_dev17_lt c⟩ : Dev nD) = peer c ((12 : Fin 24)).val := by decide +kernel
theorem dev18 : ∀ c : Dev nD, (⟨k0_dev18 c, k0_dev18_lt c⟩ : Dev nD) = peer c ((15 : Fin 24)).val := by decide +kernel
theorem dev19 : ∀ c : Dev nD, (⟨k0_dev19 c, k0_dev19_lt c⟩ : Dev nD) = peer c ((13 : Fin 24)).val := by decide +kernel
theorem dev20 : ∀ c : Dev nD, (⟨k0_dev20 c, k0_dev20_lt c⟩ : Dev nD) = peer c ((16 : Fin 24)).val := by decide +kernel
theorem dev21 : ∀ c : Dev nD, (⟨k0_dev21 c, k0_dev21_lt c⟩ : Dev nD) = peer c ((14 : Fin 24)).val := by decide +kernel
theorem dev22 : ∀ c : Dev nD, (⟨k0_dev22 c, k0_dev22_lt c⟩ : Dev nD) = peer c ((17 : Fin 24)).val := by decide +kernel
theorem dev23 : ∀ c : Dev nD, (⟨k0_dev23 c, k0_dev23_lt c⟩ : Dev nD) = peer c ((18 : Fin 24)).val := by decide +kernel
theorem dev24 : ∀ c : Dev nD, (⟨k0_dev24 c, k0_dev24_lt c⟩ : Dev nD) = peer c ((21 : Fin 24)).val := by decide +kernel
theorem dev25 : ∀ c : Dev nD, (⟨k0_dev25 c, k0_dev25_lt c⟩ : Dev nD) = peer c ((19 : Fin 24)).val := by decide +kernel
theorem dev26 : ∀ c : Dev nD, (⟨k0_dev26 c, k0_dev26_lt c⟩ : Dev nD) = peer c ((22 : Fin 24)).val := by decide +kernel
theorem dev27 : ∀ c : Dev nD, (⟨k0_dev27 c, k0_dev27_lt c⟩ : Dev nD) = peer c ((20 : Fin 24)).val := by decide +kernel
theorem dev28 : ∀ c : Dev nD, (⟨k0_dev28 c, k0_dev28_lt c⟩ : Dev nD) = peer c ((23 : Fin 24)).val := by decide +kernel

/-! ## Tiles -/

theorem off1 : ∀ c : Dev nD, k0_off1 c = ![mq c 0 % 4, 0, 0] := by decide +kernel
theorem off2 : ∀ c : Dev nD, k0_off2 c = ![8 * mq c 0, 0, 0] := by decide +kernel
theorem off3s0 : ∀ c : Dev nD, k0_off3 c 0#32 4#32 = ![8 * mq c 0, 0, 0] := by decide +kernel
theorem off3a0 : ∀ c : Dev nD, k0_off3 c 0#32 3#32 = ![8 * mq c 3, 0, 0] := by decide +kernel
theorem off4s0 : ∀ c : Dev nD, k0_off4 c 0#32 = ![8 * mq c 0 + 4, 0, 0] := by decide +kernel
theorem off7a0 : ∀ c : Dev nD, k0_off7 c 0#32 = ![8 * mq c 1 + 4, 0, 0] := by decide +kernel
theorem off3s1 : ∀ c : Dev nD, k0_off3 c 1#32 4#32 = ![8 * mq c 3, 0, 0] := by decide +kernel
theorem off3a1 : ∀ c : Dev nD, k0_off3 c 1#32 3#32 = ![8 * mq c 2, 0, 0] := by decide +kernel
theorem off4s1 : ∀ c : Dev nD, k0_off4 c 1#32 = ![8 * mq c 1 + 4, 0, 0] := by decide +kernel
theorem off7a1 : ∀ c : Dev nD, k0_off7 c 1#32 = ![8 * mq c 2 + 4, 0, 0] := by decide +kernel
theorem off3s2 : ∀ c : Dev nD, k0_off3 c 2#32 4#32 = ![8 * mq c 2, 0, 0] := by decide +kernel
theorem off3a2 : ∀ c : Dev nD, k0_off3 c 2#32 3#32 = ![8 * mq c 1, 0, 0] := by decide +kernel
theorem off4s2 : ∀ c : Dev nD, k0_off4 c 2#32 = ![8 * mq c 2 + 4, 0, 0] := by decide +kernel
theorem off7a2 : ∀ c : Dev nD, k0_off7 c 2#32 = ![8 * mq c 3 + 4, 0, 0] := by decide +kernel
theorem off5x1 : ∀ c : Dev nD, k0_off5 c 1#32 = ![mq c 1 % 4, 0, 0] := by decide +kernel
theorem off6x1 : ∀ c : Dev nD, k0_off6 c 1#32 = ![8 * mq c 1, 0, 0] := by decide +kernel
theorem off5x2 : ∀ c : Dev nD, k0_off5 c 2#32 = ![mq c 2 % 4, 0, 0] := by decide +kernel
theorem off6x2 : ∀ c : Dev nD, k0_off6 c 2#32 = ![8 * mq c 2, 0, 0] := by decide +kernel
theorem off5x3 : ∀ c : Dev nD, k0_off5 c 3#32 = ![mq c 3 % 4, 0, 0] := by decide +kernel
theorem off6x3 : ∀ c : Dev nD, k0_off6 c 3#32 = ![8 * mq c 3, 0, 0] := by decide +kernel
theorem off8s0 : ∀ c : Dev nD, k0_off8 c 0#32 4#32 = ![8 * mq c 1 + mp c 0, 0, 0] := by decide +kernel
theorem off8a0 : ∀ c : Dev nD, k0_off8 c 0#32 3#32 = ![8 * mq c 1 + mp c 3, 0, 0] := by decide +kernel
theorem off9s0 : ∀ c : Dev nD, k0_off9 c 0#32 = ![8 * mq c 3 + 4 + mp c 0, 0, 0] := by decide +kernel
theorem off10a0 : ∀ c : Dev nD, k0_off10 c 0#32 = ![8 * mq c 3 + 4 + mp c 1, 0, 0] := by decide +kernel
theorem off8s1 : ∀ c : Dev nD, k0_off8 c 1#32 4#32 = ![8 * mq c 1 + mp c 3, 0, 0] := by decide +kernel
theorem off8a1 : ∀ c : Dev nD, k0_off8 c 1#32 3#32 = ![8 * mq c 1 + mp c 2, 0, 0] := by decide +kernel
theorem off9s1 : ∀ c : Dev nD, k0_off9 c 1#32 = ![8 * mq c 3 + 4 + mp c 1, 0, 0] := by decide +kernel
theorem off10a1 : ∀ c : Dev nD, k0_off10 c 1#32 = ![8 * mq c 3 + 4 + mp c 2, 0, 0] := by decide +kernel
theorem off8s2 : ∀ c : Dev nD, k0_off8 c 2#32 4#32 = ![8 * mq c 1 + mp c 2, 0, 0] := by decide +kernel
theorem off8a2 : ∀ c : Dev nD, k0_off8 c 2#32 3#32 = ![8 * mq c 1 + mp c 1, 0, 0] := by decide +kernel
theorem off9s2 : ∀ c : Dev nD, k0_off9 c 2#32 = ![8 * mq c 3 + 4 + mp c 2, 0, 0] := by decide +kernel
theorem off10a2 : ∀ c : Dev nD, k0_off10 c 2#32 = ![8 * mq c 3 + 4 + mp c 3, 0, 0] := by decide +kernel
theorem off9o : ∀ c : Dev nD, k0_off9 c 3#32 = ![8 * mq c 3 + 4 + mp c 3, 0, 0] := by decide +kernel
theorem off11o : ∀ c : Dev nD, k0_off11 c = ![8 * mq c 1 + mp c 1, 0, 0] := by decide +kernel
theorem off11g : ∀ c : Dev nD, k0_off11 c = ![8 * mq c 1 + mp c 5, 0, 0] := by decide +kernel
theorem off12s0 : ∀ c : Dev nD, k0_off12 c 0#32 = ![8 * mq c 1 + mp c 5, 0, 0] := by decide +kernel
theorem off13s0 : ∀ c : Dev nD, k0_off13 c 0#32 = ![8 * mq c 3 + 4 + mp c 3, 0, 0] := by decide +kernel
theorem off14s0 : ∀ c : Dev nD, k0_off14 c 0#32 = ![8 * mq c 5, 0, 0] := by decide +kernel
theorem off15s0 : ∀ c : Dev nD, k0_off15 c 0#32 = ![8 * mq c 3 + 4, 0, 0] := by decide +kernel
theorem off12s1 : ∀ c : Dev nD, k0_off12 c 1#32 = ![8 * mq c 1 + mp c 4, 0, 0] := by decide +kernel
theorem off13s1 : ∀ c : Dev nD, k0_off13 c 1#32 = ![8 * mq c 3 + 4 + mp c 4, 0, 0] := by decide +kernel
theorem off14s1 : ∀ c : Dev nD, k0_off14 c 1#32 = ![8 * mq c 4, 0, 0] := by decide +kernel
theorem off15s1 : ∀ c : Dev nD, k0_off15 c 1#32 = ![8 * mq c 4 + 4, 0, 0] := by decide +kernel
theorem off12s2 : ∀ c : Dev nD, k0_off12 c 2#32 = ![8 * mq c 1 + mp c 3, 0, 0] := by decide +kernel
theorem off13s2 : ∀ c : Dev nD, k0_off13 c 2#32 = ![8 * mq c 3 + 4 + mp c 5, 0, 0] := by decide +kernel
theorem off14s2 : ∀ c : Dev nD, k0_off14 c 2#32 = ![8 * mq c 3, 0, 0] := by decide +kernel
theorem off15s2 : ∀ c : Dev nD, k0_off15 c 2#32 = ![8 * mq c 5 + 4, 0, 0] := by decide +kernel

/-! ## The same tiles seen from the neighbours -/

theorem nzA0 : ∀ c : Dev nD, 8 * mq (zr c) 1 + mp (zr c) 4 = 8 * mq c 1 + mp c 5 := by decide +kernel
theorem nzB0 : ∀ c : Dev nD, 8 * mq (zl c) 3 + 4 + mp (zl c) 4 = 8 * mq c 3 + 4 + mp c 3 := by decide +kernel
theorem npA0 : ∀ c : Dev nD, 8 * mq (pr c) 4 = 8 * mq c 5 := by decide +kernel
theorem npB0 : ∀ c : Dev nD, 8 * mq (pl c) 4 + 4 = 8 * mq c 3 + 4 := by decide +kernel
theorem nzA1 : ∀ c : Dev nD, 8 * mq (zr c) 1 + mp (zr c) 3 = 8 * mq c 1 + mp c 4 := by decide +kernel
theorem nzB1 : ∀ c : Dev nD, 8 * mq (zl c) 3 + 4 + mp (zl c) 5 = 8 * mq c 3 + 4 + mp c 4 := by decide +kernel
theorem npA1 : ∀ c : Dev nD, 8 * mq (pr c) 3 = 8 * mq c 4 := by decide +kernel
theorem npB1 : ∀ c : Dev nD, 8 * mq (pl c) 5 + 4 = 8 * mq c 4 + 4 := by decide +kernel
theorem nzA2 : ∀ c : Dev nD, 8 * mq (zr c) 1 + mp (zr c) 2 = 8 * mq c 1 + mp c 3 := by decide +kernel
theorem nzB2 : ∀ c : Dev nD, 8 * mq (zl c) 3 + 4 + mp (zl c) 6 = 8 * mq c 3 + 4 + mp c 5 := by decide +kernel
theorem npA2 : ∀ c : Dev nD, 8 * mq (pr c) 2 = 8 * mq c 3 := by decide +kernel
theorem npB2 : ∀ c : Dev nD, 8 * mq (pl c) 6 + 4 = 8 * mq c 5 + 4 := by decide +kernel

/-! ## Semaphores -/

theorem semS0 : ((cc0_scratch10.slice (Rect.unit (s := S24) ![0] S1.size inb_S24_S1_0)).squeeze S_ squeezes_S1_S_).sem = sendS 0 := by decide +kernel
theorem semR0 : ((cc0_scratch11.slice (Rect.unit (s := S24) ![0] S1.size inb_S24_S1_0)).squeeze S_ squeezes_S1_S_).sem = recvS 0 := by decide +kernel
theorem semS1 : ((cc0_scratch10.slice (Rect.unit (s := S24) ![1] S1.size inb_S24_S1_1)).squeeze S_ squeezes_S1_S_).sem = sendS 1 := by decide +kernel
theorem semR1 : ((cc0_scratch11.slice (Rect.unit (s := S24) ![1] S1.size inb_S24_S1_1)).squeeze S_ squeezes_S1_S_).sem = recvS 1 := by decide +kernel
theorem semS2 : ((cc0_scratch10.slice (Rect.unit (s := S24) ![2] S1.size inb_S24_S1_2)).squeeze S_ squeezes_S1_S_).sem = sendS 2 := by decide +kernel
theorem semR2 : ((cc0_scratch11.slice (Rect.unit (s := S24) ![2] S1.size inb_S24_S1_2)).squeeze S_ squeezes_S1_S_).sem = recvS 2 := by decide +kernel
theorem semS3 : ((cc0_scratch10.slice (Rect.unit (s := S24) ![3] S1.size inb_S24_S1_3)).squeeze S_ squeezes_S1_S_).sem = sendS 3 := by decide +kernel
theorem semR3 : ((cc0_scratch11.slice (Rect.unit (s := S24) ![3] S1.size inb_S24_S1_3)).squeeze S_ squeezes_S1_S_).sem = recvS 3 := by decide +kernel
theorem semS4 : ((cc0_scratch10.slice (Rect.unit (s := S24) ![4] S1.size inb_S24_S1_4)).squeeze S_ squeezes_S1_S_).sem = sendS 4 := by decide +kernel
theorem semR4 : ((cc0_scratch11.slice (Rect.unit (s := S24) ![4] S1.size inb_S24_S1_4)).squeeze S_ squeezes_S1_S_).sem = recvS 4 := by decide +kernel
theorem semS5 : ((cc0_scratch10.slice (Rect.unit (s := S24) ![5] S1.size inb_S24_S1_5)).squeeze S_ squeezes_S1_S_).sem = sendS 5 := by decide +kernel
theorem semR5 : ((cc0_scratch11.slice (Rect.unit (s := S24) ![5] S1.size inb_S24_S1_5)).squeeze S_ squeezes_S1_S_).sem = recvS 5 := by decide +kernel
theorem semS6 : ((cc0_scratch10.slice (Rect.unit (s := S24) ![6] S1.size inb_S24_S1_6)).squeeze S_ squeezes_S1_S_).sem = sendS 6 := by decide +kernel
theorem semR6 : ((cc0_scratch11.slice (Rect.unit (s := S24) ![6] S1.size inb_S24_S1_6)).squeeze S_ squeezes_S1_S_).sem = recvS 6 := by decide +kernel
theorem semS7 : ((cc0_scratch10.slice (Rect.unit (s := S24) ![7] S1.size inb_S24_S1_7)).squeeze S_ squeezes_S1_S_).sem = sendS 7 := by decide +kernel
theorem semR7 : ((cc0_scratch11.slice (Rect.unit (s := S24) ![7] S1.size inb_S24_S1_7)).squeeze S_ squeezes_S1_S_).sem = recvS 7 := by decide +kernel
theorem semS8 : ((cc0_scratch10.slice (Rect.unit (s := S24) ![8] S1.size inb_S24_S1_8)).squeeze S_ squeezes_S1_S_).sem = sendS 8 := by decide +kernel
theorem semR8 : ((cc0_scratch11.slice (Rect.unit (s := S24) ![8] S1.size inb_S24_S1_8)).squeeze S_ squeezes_S1_S_).sem = recvS 8 := by decide +kernel
theorem semS9 : ((cc0_scratch10.slice (Rect.unit (s := S24) ![9] S1.size inb_S24_S1_9)).squeeze S_ squeezes_S1_S_).sem = sendS 9 := by decide +kernel
theorem semR9 : ((cc0_scratch11.slice (Rect.unit (s := S24) ![9] S1.size inb_S24_S1_9)).squeeze S_ squeezes_S1_S_).sem = recvS 9 := by decide +kernel
theorem semS10 : ((cc0_scratch10.slice (Rect.unit (s := S24) ![10] S1.size inb_S24_S1_10)).squeeze S_ squeezes_S1_S_).sem = sendS 10 := by decide +kernel
theorem semR10 : ((cc0_scratch11.slice (Rect.unit (s := S24) ![10] S1.size inb_S24_S1_10)).squeeze S_ squeezes_S1_S_).sem = recvS 10 := by decide +kernel
theorem semS11 : ((cc0_scratch10.slice (Rect.unit (s := S24) ![11] S1.size inb_S24_S1_11)).squeeze S_ squeezes_S1_S_).sem = sendS 11 := by decide +kernel
theorem semR11 : ((cc0_scratch11.slice (Rect.unit (s := S24) ![11] S1.size inb_S24_S1_11)).squeeze S_ squeezes_S1_S_).sem = recvS 11 := by decide +kernel
theorem semS12 : ((cc0_scratch10.slice (Rect.unit (s := S24) ![12] S1.size inb_S24_S1_12)).squeeze S_ squeezes_S1_S_).sem = sendS 12 := by decide +kernel
theorem semR12 : ((cc0_scratch11.slice (Rect.unit (s := S24) ![12] S1.size inb_S24_S1_12)).squeeze S_ squeezes_S1_S_).sem = recvS 12 := by decide +kernel
theorem semS13 : ((cc0_scratch10.slice (Rect.unit (s := S24) ![13] S1.size inb_S24_S1_13)).squeeze S_ squeezes_S1_S_).sem = sendS 13 := by decide +kernel
theorem semR13 : ((cc0_scratch11.slice (Rect.unit (s := S24) ![13] S1.size inb_S24_S1_13)).squeeze S_ squeezes_S1_S_).sem = recvS 13 := by decide +kernel
theorem semS14 : ((cc0_scratch10.slice (Rect.unit (s := S24) ![14] S1.size inb_S24_S1_14)).squeeze S_ squeezes_S1_S_).sem = sendS 14 := by decide +kernel
theorem semR14 : ((cc0_scratch11.slice (Rect.unit (s := S24) ![14] S1.size inb_S24_S1_14)).squeeze S_ squeezes_S1_S_).sem = recvS 14 := by decide +kernel
theorem semS15 : ((cc0_scratch10.slice (Rect.unit (s := S24) ![15] S1.size inb_S24_S1_15)).squeeze S_ squeezes_S1_S_).sem = sendS 15 := by decide +kernel
theorem semR15 : ((cc0_scratch11.slice (Rect.unit (s := S24) ![15] S1.size inb_S24_S1_15)).squeeze S_ squeezes_S1_S_).sem = recvS 15 := by decide +kernel
theorem semS16 : ((cc0_scratch10.slice (Rect.unit (s := S24) ![16] S1.size inb_S24_S1_16)).squeeze S_ squeezes_S1_S_).sem = sendS 16 := by decide +kernel
theorem semR16 : ((cc0_scratch11.slice (Rect.unit (s := S24) ![16] S1.size inb_S24_S1_16)).squeeze S_ squeezes_S1_S_).sem = recvS 16 := by decide +kernel
theorem semS17 : ((cc0_scratch10.slice (Rect.unit (s := S24) ![17] S1.size inb_S24_S1_17)).squeeze S_ squeezes_S1_S_).sem = sendS 17 := by decide +kernel
theorem semR17 : ((cc0_scratch11.slice (Rect.unit (s := S24) ![17] S1.size inb_S24_S1_17)).squeeze S_ squeezes_S1_S_).sem = recvS 17 := by decide +kernel
theorem semS18 : ((cc0_scratch10.slice (Rect.unit (s := S24) ![18] S1.size inb_S24_S1_18)).squeeze S_ squeezes_S1_S_).sem = sendS 18 := by decide +kernel
theorem semR18 : ((cc0_scratch11.slice (Rect.unit (s := S24) ![18] S1.size inb_S24_S1_18)).squeeze S_ squeezes_S1_S_).sem = recvS 18 := by decide +kernel
theorem semS19 : ((cc0_scratch10.slice (Rect.unit (s := S24) ![19] S1.size inb_S24_S1_19)).squeeze S_ squeezes_S1_S_).sem = sendS 19 := by decide +kernel
theorem semR19 : ((cc0_scratch11.slice (Rect.unit (s := S24) ![19] S1.size inb_S24_S1_19)).squeeze S_ squeezes_S1_S_).sem = recvS 19 := by decide +kernel
theorem semS20 : ((cc0_scratch10.slice (Rect.unit (s := S24) ![20] S1.size inb_S24_S1_20)).squeeze S_ squeezes_S1_S_).sem = sendS 20 := by decide +kernel
theorem semR20 : ((cc0_scratch11.slice (Rect.unit (s := S24) ![20] S1.size inb_S24_S1_20)).squeeze S_ squeezes_S1_S_).sem = recvS 20 := by decide +kernel
theorem semS21 : ((cc0_scratch10.slice (Rect.unit (s := S24) ![21] S1.size inb_S24_S1_21)).squeeze S_ squeezes_S1_S_).sem = sendS 21 := by decide +kernel
theorem semR21 : ((cc0_scratch11.slice (Rect.unit (s := S24) ![21] S1.size inb_S24_S1_21)).squeeze S_ squeezes_S1_S_).sem = recvS 21 := by decide +kernel
theorem semS22 : ((cc0_scratch10.slice (Rect.unit (s := S24) ![22] S1.size inb_S24_S1_22)).squeeze S_ squeezes_S1_S_).sem = sendS 22 := by decide +kernel
theorem semR22 : ((cc0_scratch11.slice (Rect.unit (s := S24) ![22] S1.size inb_S24_S1_22)).squeeze S_ squeezes_S1_S_).sem = recvS 22 := by decide +kernel
theorem semS23 : ((cc0_scratch10.slice (Rect.unit (s := S24) ![23] S1.size inb_S24_S1_23)).squeeze S_ squeezes_S1_S_).sem = sendS 23 := by decide +kernel
theorem semR23 : ((cc0_scratch11.slice (Rect.unit (s := S24) ![23] S1.size inb_S24_S1_23)).squeeze S_ squeezes_S1_S_).sem = recvS 23 := by decide +kernel

theorem cred4 (M : Memref sig .tc .vmem S3x4x128x512 .bf16) {off : Fin 4 → ℕ} {inb} {hu} :
    ((M.slice (Rect.unit (s := S3x4x128x512) off S1x4x128x512.size inb) hu).squeeze S4x128x512 squeezes_S1x4x128x512_S4x128x512).view.dmaCredit = N4 := rfl
theorem cred3 (M : Memref sig .tc .vmem S3x128x512 .bf16) {off : Fin 3 → ℕ} {inb} {hu} :
    ((M.slice (Rect.unit (s := S3x128x512) off S1x128x512.size inb) hu).squeeze S128x512 squeezes_S1x128x512_S128x512).view.dmaCredit = N1 := rfl
theorem credA1 {off : Fin 3 → ℕ} {inb} {hu} :
    ((agM.slice (Rect.unit (s := S32x128x512) off S1x128x512.size inb) hu).squeeze S128x512 squeezes_S1x128x512_S128x512).view.dmaCredit = N1 := rfl
theorem credA4 {off : Fin 3 → ℕ} {inb} {hu} :
    (agM.slice (Rect.unit (s := S32x128x512) off S4x128x512.size inb) hu).view.dmaCredit = N4 := rfl

end Cert.KernelIdeal.Ring
-- ==== Proof.KernelIdealMoves.lean ====
/-
Ghost moves: cutting the accumulator and the gather buffer into stacks of tiles and joining them again, the slots of
the staging and landing buffers, the reads of the operands, the barrier.
-/
module

public import proofs.«01_k».proof.Proof.KernelIdealMesh

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Assertions that split along disjoint sets -/

/-- `R` of a disjoint union is `R` of the parts. -/
structure Additive {ι : Type} [DecidableEq ι] (R : Finset ι → sProp (MT nD τ sig Unit (Elt F) ℕ UU ℕ)) : Prop where
  split : ∀ {I J : Finset ι}, Disjoint I J → R (I ∪ J) ⊢ iprop(R I ∗ R J)
  join : ∀ {I J : Finset ι}, Disjoint I J → iprop(R I ∗ R J) ⊢ R (I ∪ J)

omit [FloatOps F] in
theorem additive_junk (ℓ : Loc nD τ sig) : Additive (F := F) (fun I : Finset (Idx ℓ) => iprop(∃ f : Buf (Elt F) ℓ, (ℓ ↦[I]{fullShare} f))) where
  split h := by
    iintro ⟨%f, H⟩
    ihave H := (pointsTo_union h).1 $$ H
    icases H with ⟨H1, H2⟩
    isplitl [H1]
    · iexists f; iexact H1
    · iexists f; iexact H2
  join h := by
    iintro ⟨⟨%f, H1⟩, ⟨%g, H2⟩⟩
    iexists _
    iapply (pointsTo_join h)
    isplitl [H1] <;> iassumption

omit [FloatOps F] in
theorem additive_pts (ℓ : Loc nD τ sig) (f : Buf (Elt F) ℓ) : Additive (F := F) (fun I : Finset (Idx ℓ) => (ℓ ↦[I]{fullShare} f)) where
  split h := (pointsTo_union h).1
  join h := (pointsTo_union h).2

theorem rows_add (b n n' : ℕ) : rows b (n + n') = rows b n ∪ rows (b + n) n' := by
  ext i; rw [Finset.mem_union, mem_rows, mem_rows, mem_rows]; omega
theorem rows_disj (b n n' : ℕ) : Disjoint (rows b n) (rows (b + n) n') := by
  rw [Finset.disjoint_left]; intro i; rw [mem_rows, mem_rows]; omega
theorem rows_univ : rows 0 32 = Finset.univ := by
  ext i; rw [mem_rows]
  have := (i 0).isLt; change (i 0).val < 32 at this
  simp only [Finset.mem_univ, iff_true]; omega

/-- Four names of the numbers below four. -/
def Perm4 (a b c d : ℕ) : Prop := (a < 4 ∧ b < 4 ∧ c < 4 ∧ d < 4) ∧ a ≠ b ∧ a ≠ c ∧ a ≠ d ∧ b ≠ c ∧ b ≠ d ∧ c ≠ d
instance (a b c d : ℕ) : Decidable (Perm4 a b c d) := by unfold Perm4; infer_instance

omit [FloatOps F] in
theorem by4 (Φ : ℕ → sProp 𝕄) {a b c d : ℕ} (h : Perm4 a b c d) :
    iprop(Φ a ∗ Φ b ∗ Φ c ∗ Φ d) = iprop(Φ 0 ∗ Φ 1 ∗ Φ 2 ∗ Φ 3) := by
  obtain ⟨⟨ha, hb, hc, hd⟩, h1, h2, h3, h4, h5, h6⟩ := h
  have e1 := bigSep_univ_eq_bigSepL (I := Fin 4) [⟨a, ha⟩, ⟨b, hb⟩, ⟨c, hc⟩, ⟨d, hd⟩]
    (by ext j; simp only [List.toFinset_cons, List.toFinset_nil, Finset.mem_insert, Finset.mem_univ, Finset.notMem_empty, Fin.ext_iff, or_false, true_iff]; have := j.isLt; omega) (by simp [h1, h2, h3, h4, h5, h6]) (fun j : Fin 4 => Φ j.val)
  have e2 := bigSep_univ_eq_bigSepL (I := Fin 4) [0, 1, 2, 3] (by decide) (by decide) (fun j : Fin 4 => Φ j.val)
  exact e1.symm.trans e2

section Additive
variable {R : Finset S32x128x512.Idx → sProp (MT nD τ sig Unit (Elt F) ℕ UU ℕ)} (hR : Additive R)
include hR
omit [FloatOps F]

theorem cut (b n n' : ℕ) : R (rows b (n + n')) ⊢ iprop(R (rows b n) ∗ R (rows (b + n) n')) := by
  rw [rows_add]; exact hR.split (rows_disj b n n')
theorem glue (b n n' : ℕ) : iprop(R (rows b n) ∗ R (rows (b + n) n')) ⊢ R (rows b (n + n')) := by
  rw [rows_add]; exact hR.join (rows_disj b n n')

/-- Four stacks of `n` tiles, in order; -/
theorem cut4 (b n : ℕ) : R (rows b (4 * n)) ⊢ iprop(R (rows (b + n * 0) n) ∗ R (rows (b + n * 1) n) ∗ R (rows (b + n * 2) n) ∗ R (rows (b + n * 3) n)) := by
  rw [show 4 * n = n + (n + (n + n)) by omega]
  iintro H
  ihave H := (cut hR b n (n + (n + n))) $$ H
  icases H with ⟨H0, H⟩
  ihave H := (cut hR (b + n) n (n + n)) $$ H
  icases H with ⟨H1, H⟩
  ihave H := (cut hR (b + n + n) n n) $$ H
  icases H with ⟨H2, H3⟩
  rw [show b + n * 0 = b by omega, show b + n * 1 = b + n by omega, show b + n * 2 = b + n + n by omega, show b + n * 3 = b + n + n + n by omega]
  isplitl [H0]; · iexact H0
  isplitl [H1]; · iexact H1
  isplitl [H2] <;> iassumption
theorem glue4 (b n : ℕ) : iprop(R (rows (b + n * 0) n) ∗ R (rows (b + n * 1) n) ∗ R (rows (b + n * 2) n) ∗ R (rows (b + n * 3) n)) ⊢ R (rows b (4 * n)) := by
  rw [show 4 * n = n + (n + (n + n)) by omega]
  rw [show b + n * 0 = b by omega, show b + n * 1 = b + n by omega, show b + n * 2 = b + n + n by omega, show b + n * 3 = b + n + n + n by omega]
  iintro ⟨H0, H1, H2, H3⟩
  iapply (glue hR b n (n + (n + n))); isplitl [H0]; · iexact H0
  iapply (glue hR (b + n) n (n + n)); isplitl [H1]; · iexact H1
  iapply (glue hR (b + n + n) n n); isplitl [H2] <;> iassumption

/-- Four tiles of a half macro block, in any order; -/
theorem cutT (b : ℕ) {j0 j1 j2 j3 : ℕ} (h : Perm4 j0 j1 j2 j3) :
    R (rows b 4) ⊢ iprop(R (rows (b + j0) 1) ∗ R (rows (b + j1) 1) ∗ R (rows (b + j2) 1) ∗ R (rows (b + j3) 1)) := by
  rw [by4 (fun j => R (rows (b + j) 1)) h]
  have := cut4 hR b 1
  simpa only [Nat.one_mul, Nat.mul_one] using this
theorem glueT (b : ℕ) {j0 j1 j2 j3 : ℕ} (h : Perm4 j0 j1 j2 j3) :
    iprop(R (rows (b + j0) 1) ∗ R (rows (b + j1) 1) ∗ R (rows (b + j2) 1) ∗ R (rows (b + j3) 1)) ⊢ R (rows b 4) := by
  rw [by4 (fun j => R (rows (b + j) 1)) h]
  have := glue4 hR b 1
  simpa only [Nat.one_mul, Nat.mul_one] using this

/-- the four macro blocks, in any order; -/
theorem cutM {j0 j1 j2 j3 : ℕ} (h : Perm4 j0 j1 j2 j3) :
    R Finset.univ ⊢ iprop(R (rows (8 * j0) 8) ∗ R (rows (8 * j1) 8) ∗ R (rows (8 * j2) 8) ∗ R (rows (8 * j3) 8)) := by
  rw [by4 (fun j => R (rows (8 * j) 8)) h, ← rows_univ]
  have := cut4 hR 0 8
  simpa only [Nat.zero_add] using this
theorem glueM {j0 j1 j2 j3 : ℕ} (h : Perm4 j0 j1 j2 j3) :
    iprop(R (rows (8 * j0) 8) ∗ R (rows (8 * j1) 8) ∗ R (rows (8 * j2) 8) ∗ R (rows (8 * j3) 8)) ⊢ R Finset.univ := by
  rw [by4 (fun j => R (rows (8 * j) 8)) h, ← rows_univ]
  have := glue4 hR 0 8
  simpa only [Nat.zero_add] using this

/-- their eight halves. -/
theorem cutH {j0 j1 j2 j3 : ℕ} (h : Perm4 j0 j1 j2 j3) :
    R Finset.univ ⊢ iprop((R (rows (8 * j0) 4) ∗ R (rows (8 * j0 + 4) 4)) ∗ (R (rows (8 * j1) 4) ∗ R (rows (8 * j1 + 4) 4))
      ∗ (R (rows (8 * j2) 4) ∗ R (rows (8 * j2 + 4) 4)) ∗ (R (rows (8 * j3) 4) ∗ R (rows (8 * j3 + 4) 4))) :=
  (cutM hR h).trans (BI.sep_mono (cut hR (8 * j0) 4 4) (BI.sep_mono (cut hR (8 * j1) 4 4) (BI.sep_mono (cut hR (8 * j2) 4 4) (cut hR (8 * j3) 4 4))))
theorem glueH {j0 j1 j2 j3 : ℕ} (h : Perm4 j0 j1 j2 j3) :
    iprop((R (rows (8 * j0) 4) ∗ R (rows (8 * j0 + 4) 4)) ∗ (R (rows (8 * j1) 4) ∗ R (rows (8 * j1 + 4) 4))
      ∗ (R (rows (8 * j2) 4) ∗ R (rows (8 * j2 + 4) 4)) ∗ (R (rows (8 * j3) 4) ∗ R (rows (8 * j3 + 4) 4))) ⊢ R Finset.univ :=
  (BI.sep_mono (glue hR (8 * j0) 4 4) (BI.sep_mono (glue hR (8 * j1) 4 4) (BI.sep_mono (glue hR (8 * j2) 4 4) (glue hR (8 * j3) 4 4)))).trans (glueM hR h)
end Additive

theorem perm_q0123 : ∀ c : Dev nD, Perm4 (mq c 0) (mq c 1) (mq c 2) (mq c 3) := by decide +kernel
theorem perm_q4321 : ∀ c : Dev nD, Perm4 (mq c 4) (mq c 3) (mq c 2) (mq c 1) := by decide +kernel
theorem perm_q5432 : ∀ c : Dev nD, Perm4 (mq c 5) (mq c 4) (mq c 3) (mq c 2) := by decide +kernel
theorem perm_p0123 : ∀ c : Dev nD, Perm4 (mp c 0) (mp c 1) (mp c 2) (mp c 3) := by decide +kernel
theorem perm_p5432 : ∀ c : Dev nD, Perm4 (mp c 5) (mp c 4) (mp c 3) (mp c 2) := by decide +kernel
theorem perm_p3456 : ∀ c : Dev nD, Perm4 (mp c 3) (mp c 4) (mp c 5) (mp c 6) := by decide +kernel
theorem mq4 : ∀ c : Dev nD, mq c 4 = mq c 0 := by decide +kernel
theorem mq5 : ∀ c : Dev nD, mq c 5 = mq c 1 := by decide +kernel
theorem mq6 : ∀ c : Dev nD, mq c 6 = mq c 2 := by decide +kernel

/-! ## The accumulator -/

section Acc
variable (n : ℕ) (c : Dev nD) (b : ℕ)
omit [FloatOps F]

theorem acc_conv {w w' : (Sn n).Idx → F .f32} (h : w = w') : accP n c b w ⊢ (accP n c b w' : sProp 𝕄) := by rw [h]
theorem acc_junk (w : (Sn n).Idx → F .f32) : accP n c b w ⊢ (accJ n c b : sProp 𝕄) := by
  unfold accP accJ; iintro ⟨%f, -, H⟩; iexists f; iexact H
theorem acc_read : accJ n c b ⊢ (iprop(∃ v : (Sn n).Idx → F .f32, accP n c b v) : sProp 𝕄) := by
  unfold accP accJ; iintro ⟨%f, H⟩
  iexists (fun x => f (ix (n := 32) ⟨(b + (x 0).val) % 32, Nat.mod_lt _ (by decide)⟩ (x 1) (x 2)))
  iexists f
  isplitr
  · ipureintro
    intro i x h0 h1 h2
    refine congrArg f (funext fun a => ?_)
    match a with
    | 0 => apply Fin.ext; show (i 0).val = (b + (x 0).val) % 32; rw [← h0]; exact (Nat.mod_eq_of_lt (i 0).isLt).symm
    | 1 => exact Fin.ext h1
    | 2 => exact Fin.ext h2
  iexact H

/-- A macro block in two halves. -/
theorem acc_halves (w : (Sn 8).Idx → F .f32) : accP 8 c b w ⊢ (iprop(accP 4 c b (h0 w) ∗ accP 4 c (b + 4) (h1 w)) : sProp 𝕄) := by
  unfold accP
  iintro ⟨%f, %hf, H⟩
  ihave H := (cut (additive_pts ((c : Thread nD τ).loc cc0_scratch0) f) b 4 4) $$ H
  icases H with ⟨H0, H1⟩
  isplitl [H0]
  · iexists f; isplitr
    · ipureintro; intro i x e0 e1 e2; exact hf i _ e0 e1 e2
    iexact H0
  · iexists f; isplitr
    · ipureintro; intro i x e0 e1 e2; exact hf i _ (by show (i 0).val = b + (4 + (x 0).val); omega) e1 e2
    iexact H1

/-- A half macro block in four tiles. -/
theorem acc_tiles (w : (Sn 4).Idx → F .f32) {j0 j1 j2 j3 : ℕ} (h : Perm4 j0 j1 j2 j3) :
    accP 4 c b w ⊢ (iprop(accP 1 c (b + j0) (tl w j0) ∗ accP 1 c (b + j1) (tl w j1) ∗ accP 1 c (b + j2) (tl w j2) ∗ accP 1 c (b + j3) (tl w j3)) : sProp 𝕄) := by
  have key : ∀ (f : S32x128x512.Idx → F .f32) (j : ℕ), j < 4 → Holds 4 f b w → Holds 1 f (b + j) (tl w j) := by
    intro f j hj hf i x e0 e1 e2
    refine hf i _ ?_ e1 e2
    have := (x 0).isLt; change (x 0).val < 1 at this
    show (i 0).val = b + j % 4
    rw [Nat.mod_eq_of_lt hj]; omega
  obtain ⟨⟨g0, g1, g2, g3⟩, -⟩ := id h
  unfold accP
  iintro ⟨%f, %hf, H⟩
  ihave H := (cutT (additive_pts ((c : Thread nD τ).loc cc0_scratch0) f) b h) $$ H
  icases H with ⟨H0, H1, H2, H3⟩
  isplitl [H0]
  · iexists f; isplitr; · (ipureintro; exact key f j0 g0 hf)
    iexact H0
  isplitl [H1]
  · iexists f; isplitr; · (ipureintro; exact key f j1 g1 hf)
    iexact H1
  isplitl [H2]
  · iexists f; isplitr; · (ipureintro; exact key f j2 g2 hf)
    iexact H2
  · iexists f; isplitr; · (ipureintro; exact key f j3 g3 hf)
    iexact H3
end Acc

section Buffers
variable (c : Dev nD)

omit [FloatOps F] in
theorem additive_acc : Additive (F := F) (fun I => iprop(∃ f : S32x128x512.Idx → F .f32, (((c : Thread nD τ).loc cc0_scratch0) ↦[I]{fullShare} f))) :=
  additive_junk (F := F) ((c : Thread nD τ).loc cc0_scratch0)
omit [FloatOps F] in
theorem additive_agJ : Additive (F := F) (fun I => iprop(∃ f : S32x128x512.Idx → F .bf16, (((c : Thread nD τ).loc cc0_scratch1) ↦[I]{fullShare} f))) :=
  additive_junk (F := F) ((c : Thread nD τ).loc cc0_scratch1)
theorem additive_ag : Additive (F := F) (fun I => (((c : Thread nD τ).loc cc0_scratch1) ↦[I]{fullShare} AG m)) :=
  additive_pts (F := F) ((c : Thread nD τ).loc cc0_scratch1) (AG m)

omit [FloatOps F] in
/-- The accumulator at entry: four macro blocks holding something. -/
theorem acc_start : iprop(∃ f : Buf (Elt F) ((c : Thread nD τ).loc cc0_scratch0), (((c : Thread nD τ).loc cc0_scratch0) ↦{fullShare} f))
    ⊢ (iprop(∃ v0 v1 v2 v3 : (Sn 8).Idx → F .f32, accP 8 c (8 * mq c 0) v0 ∗ accP 8 c (8 * mq c 1) v1 ∗ accP 8 c (8 * mq c 2) v2 ∗ accP 8 c (8 * mq c 3) v3) : sProp 𝕄) := by
  iintro H
  ihave H := (cutM (additive_acc (F := F) c) (perm_q0123 c)) $$ H
  icases H with ⟨H0, H1, H2, H3⟩
  ihave H0 := (acc_read (F := F) 8 c (8 * mq c 0)) $$ [H0]; · (unfold accJ; iexact H0)
  ihave H1 := (acc_read (F := F) 8 c (8 * mq c 1)) $$ [H1]; · (unfold accJ; iexact H1)
  ihave H2 := (acc_read (F := F) 8 c (8 * mq c 2)) $$ [H2]; · (unfold accJ; iexact H2)
  ihave H3 := (acc_read (F := F) 8 c (8 * mq c 3)) $$ [H3]; · (unfold accJ; iexact H3)
  icases H0 with ⟨%v0, H0⟩
  icases H1 with ⟨%v1, H1⟩
  icases H2 with ⟨%v2, H2⟩
  icases H3 with ⟨%v3, H3⟩
  iexists v0, v1, v2, v3
  isplitl [H0]; · iexact H0
  isplitl [H1]; · iexact H1
  isplitl [H2] <;> iassumption

omit [FloatOps F] in
/-- Four tiles of the accumulator given up: a half macro block. -/
theorem acc_half_end (b : ℕ) {w0 w1 w2 w3 : (Sn 1).Idx → F .f32} {j0 j1 j2 j3 : ℕ} (h : Perm4 j0 j1 j2 j3) :
    iprop(accP 1 c (b + j0) w0 ∗ accP 1 c (b + j1) w1 ∗ accP 1 c (b + j2) w2 ∗ accP 1 c (b + j3) w3) ⊢ (accJ 4 c b : sProp 𝕄) :=
  (BI.sep_mono (acc_junk 1 c _ w0) (BI.sep_mono (acc_junk 1 c _ w1) (BI.sep_mono (acc_junk 1 c _ w2) (acc_junk 1 c _ w3)))).trans (glueT (additive_acc (F := F) c) b h)

omit [FloatOps F] in
/-- The accumulator at exit. -/
theorem acc_end : iprop((accJ 4 c (8 * mq c 0) ∗ accJ 4 c (8 * mq c 0 + 4)) ∗ (accJ 4 c (8 * mq c 1) ∗ accJ 4 c (8 * mq c 1 + 4))
      ∗ (accJ 4 c (8 * mq c 2) ∗ accJ 4 c (8 * mq c 2 + 4)) ∗ (accJ 4 c (8 * mq c 3) ∗ accJ 4 c (8 * mq c 3 + 4)))
    ⊢ (iprop(∃ f : Buf (Elt F) ((c : Thread nD τ).loc cc0_scratch0), (((c : Thread nD τ).loc cc0_scratch0) ↦{fullShare} f)) : sProp 𝕄) :=
  glueH (additive_acc (F := F) c) (perm_q0123 c)

/-! ## The gather buffer -/

omit [FloatOps F] in
/-- At entry: the two tiles the device finishes itself, and the landing places of the tiles to come. -/
theorem ag_start : iprop(∃ f : Buf (Elt F) ((c : Thread nD τ).loc cc0_scratch1), (((c : Thread nD τ).loc cc0_scratch1) ↦{fullShare} f))
    ⊢ (iprop(agJ 1 c (8 * mq c 1 + mp c 5) ∗ agJ 1 c (8 * mq c 3 + 4 + mp c 3) ∗ land (F := F) c 12 ∗ land (F := F) c 13 ∗ land (F := F) c 14
        ∗ land (F := F) c 15 ∗ land (F := F) c 16 ∗ land (F := F) c 17 ∗ land (F := F) c 18 ∗ land (F := F) c 19 ∗ land (F := F) c 20
        ∗ land (F := F) c 21 ∗ land (F := F) c 22 ∗ land (F := F) c 23) : sProp 𝕄) := by
  rw [show land (F := F) c 12 = agJ 1 c (8 * mq c 1 + mp c 4) from rfl, show land (F := F) c 13 = agJ 1 c (8 * mq c 1 + mp c 3) from rfl,
    show land (F := F) c 14 = agJ 1 c (8 * mq c 1 + mp c 2) from rfl, show land (F := F) c 15 = agJ 1 c (8 * mq c 3 + 4 + mp c 4) from rfl,
    show land (F := F) c 16 = agJ 1 c (8 * mq c 3 + 4 + mp c 5) from rfl, show land (F := F) c 17 = agJ 1 c (8 * mq c 3 + 4 + mp c 6) from rfl,
    show land (F := F) c 18 = agJ 4 c (8 * mq c 4) from rfl, show land (F := F) c 19 = agJ 4 c (8 * mq c 3) from rfl,
    show land (F := F) c 20 = agJ 4 c (8 * mq c 2) from rfl, show land (F := F) c 21 = agJ 4 c (8 * mq c 4 + 4) from rfl,
    show land (F := F) c 22 = agJ 4 c (8 * mq c 5 + 4) from rfl, show land (F := F) c 23 = agJ 4 c (8 * mq c 6 + 4) from rfl, mq5, mq6]
  unfold agJ
  iintro H
  ihave H := (cutH (additive_agJ (F := F) c) (perm_q4321 c)) $$ H
  icases H with ⟨⟨A4, B4⟩, ⟨A3, B3⟩, ⟨A2, B2⟩, ⟨A1, B1⟩⟩
  ihave A := (cutT (additive_agJ (F := F) c) (8 * mq c 1) (perm_p5432 c)) $$ A1
  ihave B := (cutT (additive_agJ (F := F) c) (8 * mq c 3 + 4) (perm_p3456 c)) $$ B3
  icases A with ⟨A10, A11, A12, A13⟩
  icases B with ⟨B10, B11, B12, B13⟩
  isplitl [A10]; · iexact A10
  isplitl [B10]; · iexact B10
  isplitl [A11]; · iexact A11
  isplitl [A12]; · iexact A12
  isplitl [A13]; · iexact A13
  isplitl [B11]; · iexact B11
  isplitl [B12]; · iexact B12
  isplitl [B13]; · iexact B13
  isplitl [A4]; · iexact A4
  isplitl [A3]; · iexact A3
  isplitl [A2]; · iexact A2
  isplitl [B4]; · iexact B4
  isplitl [B1]; · iexact B1
  iexact B2

/-- The four forward tiles finished along the planes; -/
theorem ag_joinA : iprop(agP m 1 c (8 * mq c 1 + mp c 5) ∗ agP m 1 c (8 * mq c 1 + mp c 4) ∗ agP m 1 c (8 * mq c 1 + mp c 3) ∗ agP m 1 c (8 * mq c 1 + mp c 2))
    ⊢ agP m 4 c (8 * mq c 5) := by
  rw [mq5]; exact glueT (additive_ag m c) (8 * mq c 1) (perm_p5432 c)
/-- the four backward ones; -/
theorem ag_joinB : iprop(agP m 1 c (8 * mq c 3 + 4 + mp c 3) ∗ agP m 1 c (8 * mq c 3 + 4 + mp c 4) ∗ agP m 1 c (8 * mq c 3 + 4 + mp c 5) ∗ agP m 1 c (8 * mq c 3 + 4 + mp c 6))
    ⊢ agP m 4 c (8 * mq c 3 + 4) :=
  glueT (additive_ag m c) (8 * mq c 3 + 4) (perm_p3456 c)
/-- the whole buffer. -/
theorem ag_end : iprop((agP m 4 c (8 * mq c 5) ∗ agP m 4 c (8 * mq c 4) ∗ agP m 4 c (8 * mq c 3) ∗ agP m 4 c (8 * mq c 2))
      ∗ (agP m 4 c (8 * mq c 3 + 4) ∗ agP m 4 c (8 * mq c 4 + 4) ∗ agP m 4 c (8 * mq c 5 + 4) ∗ agP m 4 c (8 * mq c 6 + 4)))
    ⊢ (((c : Thread nD τ).loc cc0_scratch1) ↦{fullShare} AG m : sProp 𝕄) := by
  rw [mq6]
  iintro ⟨⟨A5, A4, A3, A2⟩, B3, B4, B5, B2⟩
  iapply (glueH (additive_ag m c) (perm_q5432 c))
  unfold agP
  isplitl [A5 B5]; · (isplitl [A5] <;> iassumption)
  isplitl [A4 B4]; · (isplitl [A4] <;> iassumption)
  isplitl [A3 B3]; · (isplitl [A3] <;> iassumption)
  isplitl [A2] <;> iassumption

end Buffers

/-! ## Slots -/

section Slots
variable (c : Dev nD)

omit [FloatOps F] in
theorem st4_conv (M : Memref sig .tc .vmem S3x4x128x512 .bf16) (s : Fin 3) {w w' : Vec F S1x4x128x512 .bf16} (h : w = w') : st4 M c s w ⊢ (st4 M c s w' : sProp 𝕄) := by
  rw [h]
omit [FloatOps F] in
theorem st3_conv (M : Memref sig .tc .vmem S3x128x512 .bf16) (s : Fin 3) {w w' : Vec F S1x128x512 .bf16} (h : w = w') : st3 M c s w ⊢ (st3 M c s w' : sProp 𝕄) := by
  rw [h]

omit [FloatOps F] in
theorem jn4_eq (M : Memref sig .tc .vmem S3x4x128x512 .bf16) (s : Fin 3) :
    (jn4 M c s : sProp 𝕄) ⊣⊢ iprop(∃ f : Buf (Elt F) (M.view.loc (c : Thread nD τ)), (M.view.loc (c : Thread nD τ) ↦[(sl4 M s).view.set]{fullShare} f)) := by
  constructor
  · unfold jn4 st4 owns; iintro ⟨%v, %f, -, H⟩; iexists f; iexact H
  · unfold jn4 st4 owns; iintro ⟨%f, H⟩; iexists _, f; isplitr; · (ipureintro; rfl)
    iexact H
omit [FloatOps F] in
theorem jn3_eq (M : Memref sig .tc .vmem S3x128x512 .bf16) (s : Fin 3) :
    (jn3 M c s : sProp 𝕄) ⊣⊢ iprop(∃ f : Buf (Elt F) (M.view.loc (c : Thread nD τ)), (M.view.loc (c : Thread nD τ) ↦[(sl3 M s).view.set]{fullShare} f)) := by
  constructor
  · unfold jn3 st3 owns; iintro ⟨%v, %f, -, H⟩; iexists f; iexact H
  · unfold jn3 st3 owns; iintro ⟨%f, H⟩; iexists _, f; isplitr; · (ipureintro; rfl)
    iexact H

theorem slots4_cover : (Rect.unit (s := S3x4x128x512) ![(0 : Fin 3).val, 0, 0, 0] S1x4x128x512.size (inb4 0)).set
      ∪ ((Rect.unit (s := S3x4x128x512) ![(1 : Fin 3).val, 0, 0, 0] S1x4x128x512.size (inb4 1)).set
      ∪ (Rect.unit (s := S3x4x128x512) ![(2 : Fin 3).val, 0, 0, 0] S1x4x128x512.size (inb4 2)).set) = Finset.univ := by
  ext i
  simp only [Finset.mem_union, Rect.mem_set_unit, Finset.mem_univ, iff_true]
  have h0 := (i 0).isLt; change (i 0).val < 3 at h0
  have key : ∀ t : ℕ, (i 0).val = t → ∀ a : Fin 4, (![t, 0, 0, 0] : Fin 4 → ℕ) a ≤ (i a).val ∧ (i a).val < (![t, 0, 0, 0] : Fin 4 → ℕ) a + S1x4x128x512.size a := by
    intro t ht a
    match a with
    | 0 => exact ⟨le_of_eq ht.symm, by show (i 0).val < t + 1; omega⟩
    | 1 => exact ⟨Nat.zero_le _, by show (i 1).val < 0 + 4; rw [Nat.zero_add]; exact (i 1).isLt⟩
    | 2 => exact ⟨Nat.zero_le _, by show (i 2).val < 0 + 128; rw [Nat.zero_add]; exact (i 2).isLt⟩
    | 3 => exact ⟨Nat.zero_le _, by show (i 3).val < 0 + 512; rw [Nat.zero_add]; exact (i 3).isLt⟩
  rcases (show (i 0).val = 0 ∨ (i 0).val = 1 ∨ (i 0).val = 2 by omega) with h | h | h
  · exact .inl (key 0 h)
  · exact .inr (.inl (key 1 h))
  · exact .inr (.inr (key 2 h))
theorem slots3_cover : (Rect.unit (s := S3x128x512) ![(0 : Fin 3).val, 0, 0] S1x128x512.size (inb3 0)).set
      ∪ ((Rect.unit (s := S3x128x512) ![(1 : Fin 3).val, 0, 0] S1x128x512.size (inb3 1)).set
      ∪ (Rect.unit (s := S3x128x512) ![(2 : Fin 3).val, 0, 0] S1x128x512.size (inb3 2)).set) = Finset.univ := by
  ext i
  simp only [Finset.mem_union, Rect.mem_set_unit, Finset.mem_univ, iff_true]
  have h0 := (i 0).isLt; change (i 0).val < 3 at h0
  have key : ∀ t : ℕ, (i 0).val = t → ∀ a : Fin 3, (![t, 0, 0] : Fin 3 → ℕ) a ≤ (i a).val ∧ (i a).val < (![t, 0, 0] : Fin 3 → ℕ) a + S1x128x512.size a := by
    intro t ht a
    match a with
    | 0 => exact ⟨le_of_eq ht.symm, by show (i 0).val < t + 1; omega⟩
    | 1 => exact ⟨Nat.zero_le _, by show (i 1).val < 0 + 128; rw [Nat.zero_add]; exact (i 1).isLt⟩
    | 2 => exact ⟨Nat.zero_le _, by show (i 2).val < 0 + 512; rw [Nat.zero_add]; exact (i 2).isLt⟩
  rcases (show (i 0).val = 0 ∨ (i 0).val = 1 ∨ (i 0).val = 2 by omega) with h | h | h
  · exact .inl (key 0 h)
  · exact .inr (.inl (key 1 h))
  · exact .inr (.inr (key 2 h))

omit [FloatOps F] in
/-- A buffer of three slots, slot by slot; -/
theorem slots4 (b : Ref sig .tc) (M : Memref sig .tc .vmem S3x4x128x512 .bf16) (hs : ∀ s : Fin 3, (sl4 M s).view.set = (Rect.unit (s := S3x4x128x512) ![s.val, 0, 0, 0] S1x4x128x512.size (inb4 s)).set.map M.view.emb)
    (hu : M.view.set = Finset.univ) :
    iprop(∃ f : Buf (Elt F) (M.view.loc (c : Thread nD τ)), (M.view.loc (c : Thread nD τ) ↦{fullShare} f)) ⊣⊢ (iprop(jn4 M c 0 ∗ jn4 M c 1 ∗ jn4 M c 2) : sProp 𝕄) := by
  have hA := additive_junk (F := F) (M.view.loc (c : Thread nD τ))
  have d12 : Disjoint (sl4 M 1).view.set (sl4 M 2).view.set := View.disjoint_slice (Rect.unit_disjoint (s := S3x4x128x512) 0 (.inl (by decide)))
  have d0 : Disjoint (sl4 M 0).view.set ((sl4 M 1).view.set ∪ (sl4 M 2).view.set) :=
    Finset.disjoint_union_right.mpr ⟨View.disjoint_slice (Rect.unit_disjoint (s := S3x4x128x512) 0 (.inl (by decide))), View.disjoint_slice (Rect.unit_disjoint (s := S3x4x128x512) 0 (.inl (by decide)))⟩
  have hcov : (sl4 M 0).view.set ∪ ((sl4 M 1).view.set ∪ (sl4 M 2).view.set) = Finset.univ := by
    rw [hs 0, hs 1, hs 2, ← Finset.map_union, ← Finset.map_union, slots4_cover]; exact hu
  constructor
  · rw [← hcov]
    iintro H
    ihave H := (hA.split d0) $$ H
    icases H with ⟨H0, H⟩
    ihave H := (hA.split d12) $$ H
    icases H with ⟨H1, H2⟩
    isplitl [H0]; · iapply (jn4_eq c M 0).2; iexact H0
    isplitl [H1]; · iapply (jn4_eq c M 1).2; iexact H1
    iapply (jn4_eq c M 2).2; iexact H2
  · rw [← hcov]
    iintro ⟨H0, H1, H2⟩
    iapply (hA.join d0)
    isplitl [H0]; · iapply (jn4_eq c M 0).1; iexact H0
    iapply (hA.join d12)
    isplitl [H1]; · iapply (jn4_eq c M 1).1; iexact H1
    iapply (jn4_eq c M 2).1; iexact H2

omit [FloatOps F] in
/-- the same for slots of one tile. -/
theorem slots3 (b : Ref sig .tc) (M : Memref sig .tc .vmem S3x128x512 .bf16) (hs : ∀ s : Fin 3, (sl3 M s).view.set = (Rect.unit (s := S3x128x512) ![s.val, 0, 0] S1x128x512.size (inb3 s)).set.map M.view.emb)
    (hu : M.view.set = Finset.univ) :
    iprop(∃ f : Buf (Elt F) (M.view.loc (c : Thread nD τ)), (M.view.loc (c : Thread nD τ) ↦{fullShare} f)) ⊣⊢ (iprop(jn3 M c 0 ∗ jn3 M c 1 ∗ jn3 M c 2) : sProp 𝕄) := by
  have hA := additive_junk (F := F) (M.view.loc (c : Thread nD τ))
  have d12 : Disjoint (sl3 M 1).view.set (sl3 M 2).view.set := View.disjoint_slice (Rect.unit_disjoint (s := S3x128x512) 0 (.inl (by decide)))
  have d0 : Disjoint (sl3 M 0).view.set ((sl3 M 1).view.set ∪ (sl3 M 2).view.set) :=
    Finset.disjoint_union_right.mpr ⟨View.disjoint_slice (Rect.unit_disjoint (s := S3x128x512) 0 (.inl (by decide))), View.disjoint_slice (Rect.unit_disjoint (s := S3x128x512) 0 (.inl (by decide)))⟩
  have hcov : (sl3 M 0).view.set ∪ ((sl3 M 1).view.set ∪ (sl3 M 2).view.set) = Finset.univ := by
    rw [hs 0, hs 1, hs 2, ← Finset.map_union, ← Finset.map_union, slots3_cover]; exact hu
  constructor
  · rw [← hcov]
    iintro H
    ihave H := (hA.split d0) $$ H
    icases H with ⟨H0, H⟩
    ihave H := (hA.split d12) $$ H
    icases H with ⟨H1, H2⟩
    isplitl [H0]; · iapply (jn3_eq c M 0).2; iexact H0
    isplitl [H1]; · iapply (jn3_eq c M 1).2; iexact H1
    iapply (jn3_eq c M 2).2; iexact H2
  · rw [← hcov]
    iintro ⟨H0, H1, H2⟩
    iapply (hA.join d0)
    isplitl [H0]; · iapply (jn3_eq c M 0).1; iexact H0
    iapply (hA.join d12)
    isplitl [H1]; · iapply (jn3_eq c M 1).1; iexact H1
    iapply (jn3_eq c M 2).1; iexact H2

end Slots

/-! ## The operands and the result -/

section Operands
variable (c : Dev nD) {α : Type} {Q : α → sProp (MT nD τ sig Unit (Elt F) ℕ UU ℕ)}

/-- The blocks of `x`, `k` and `W`, staged. -/
abbrev xS : sProp 𝕄 := ((c : Thread nD τ).loc cc0_stg0_0 ↦{fullShare} xstg m c)
abbrev kS : sProp 𝕄 := ((c : Thread nD τ).loc cc0_stg1_0 ↦{fullShare} kstg m c)
abbrev wS : sProp 𝕄 := ((c : Thread nD τ).loc cc0_stg2_0 ↦{fullShare} wstg m c)

theorem ld_x (g : ℕ) {off : Fin 3 → ℕ} (hoff : off = ![g % 4, 0, 0]) {inb : ∀ a, off a + S1x1024x512.size a ≤ S4x1024x512.size a}
    {hl : (Memref.whole cc0_stg0_0 : Memref sig .tc .vmem S4x1024x512 .bf16).view.LoadsAt (Rect.unit (s := S4x1024x512) off S1x1024x512.size inb).toLoadRect}
    {k : Vec F S1x1024x512 .bf16 → Prog (TpuEff nD τ sig (Elt F) Λ₀ .tc) α} :
    xS m c ⊢ iprop((xS m c -∗ WP c (k (xr m c g)) Q)
      -∗ WP c (.op (.load (Memref.whole cc0_stg0_0 : Memref sig .tc .vmem S4x1024x512 .bf16) (Rect.unit (s := S4x1024x512) off S1x1024x512.size inb).toLoadRect hl) k) Q) := by
  subst hoff
  exact wp_load 𝒱₀ (c : Thread nD τ) none Set.univ (m := (Memref.whole cc0_stg0_0 : Memref sig .tc .vmem S4x1024x512 .bf16)) (Finset.subset_univ _)

theorem ld_k {off : Fin 2 → ℕ} (hoff : off = fun _ => 0) {inb : ∀ a, off a + S4x512.size a ≤ S4x512.size a}
    {hl : (Memref.whole cc0_stg1_0 : Memref sig .tc .vmem S4x512 .bf16).view.LoadsAt (Rect.unit (s := S4x512) off S4x512.size inb).toLoadRect}
    {k : Vec F S4x512 .bf16 → Prog (TpuEff nD τ sig (Elt F) Λ₀ .tc) α} :
    kS m c ⊢ iprop((kS m c -∗ WP c (k (kstg m c)) Q)
      -∗ WP c (.op (.load (Memref.whole cc0_stg1_0 : Memref sig .tc .vmem S4x512 .bf16) (Rect.unit (s := S4x512) off S4x512.size inb).toLoadRect hl) k) Q) := by
  iintro H Hk
  iapply (wp_load 𝒱₀ (c : Thread nD τ) none Set.univ (m := (Memref.whole cc0_stg1_0 : Memref sig .tc .vmem S4x512 .bf16)) (Finset.subset_univ _)) $$ H
  rw [show (Memref.whole cc0_stg1_0 : Memref sig .tc .vmem S4x512 .bf16).view.readAt (Elt F) (Rect.unit (s := S4x512) off S4x512.size inb).toLoadRect (kstg m c) = kstg m c from
    Memref.readAt_unit_zero (Elt F) cc0_stg1_0 hoff inb (kstg m c)]
  iintro H; iapply Hk; iexact H

theorem ld_w {off : Fin 2 → ℕ} (hoff : off = fun _ => 0) {inb : ∀ a, off a + S512x512.size a ≤ S512x512.size a}
    {hl : (Memref.whole cc0_stg2_0 : Memref sig .tc .vmem S512x512 .bf16).view.LoadsAt (Rect.unit (s := S512x512) off S512x512.size inb).toLoadRect}
    {k : Vec F S512x512 .bf16 → Prog (TpuEff nD τ sig (Elt F) Λ₀ .tc) α} :
    wS m c ⊢ iprop((wS m c -∗ WP c (k (wstg m c)) Q)
      -∗ WP c (.op (.load (Memref.whole cc0_stg2_0 : Memref sig .tc .vmem S512x512 .bf16) (Rect.unit (s := S512x512) off S512x512.size inb).toLoadRect hl) k) Q) := by
  iintro H Hk
  iapply (wp_load 𝒱₀ (c : Thread nD τ) none Set.univ (m := (Memref.whole cc0_stg2_0 : Memref sig .tc .vmem S512x512 .bf16)) (Finset.subset_univ _)) $$ H
  rw [show (Memref.whole cc0_stg2_0 : Memref sig .tc .vmem S512x512 .bf16).view.readAt (Elt F) (Rect.unit (s := S512x512) off S512x512.size inb).toLoadRect (wstg m c) = wstg m c from
    Memref.readAt_unit_zero (Elt F) cc0_stg2_0 hoff inb (wstg m c)]
  iintro H; iapply Hk; iexact H

theorem ld_agw {off : Fin 3 → ℕ} (hoff : off = fun _ => 0) {inb : ∀ a, off a + S32x128x512.size a ≤ S32x128x512.size a}
    {hl : agM.view.LoadsAt (Rect.unit (s := S32x128x512) off S32x128x512.size inb).toLoadRect}
    {k : Vec F S32x128x512 .bf16 → Prog (TpuEff nD τ sig (Elt F) Λ₀ .tc) α} :
    ((c : Thread nD τ).loc cc0_scratch1 ↦{fullShare} AG m) ⊢ iprop((((c : Thread nD τ).loc cc0_scratch1 ↦{fullShare} AG m) -∗ WP c (k (AG m)) Q)
      -∗ WP c (.op (.load agM (Rect.unit (s := S32x128x512) off S32x128x512.size inb).toLoadRect hl) k) Q) := by
  iintro H Hk
  iapply (wp_load 𝒱₀ (c : Thread nD τ) none Set.univ (m := agM) (Finset.subset_univ _)) $$ H
  rw [show agM.view.readAt (Elt F) (Rect.unit (s := S32x128x512) off S32x128x512.size inb).toLoadRect (AG m) = AG m from
    Memref.readAt_unit_zero (Elt F) cc0_scratch1 hoff inb (AG m)]
  iintro H; iapply Hk; iexact H

/-- The staged result, whatever it holds; -/
def oJ : sProp 𝕄 := iprop(∃ f : Buf (Elt F) ((c : Thread nD τ).loc cc0_stg3_0), ((c : Thread nD τ).loc cc0_stg3_0 ↦{fullShare} f))

theorem ld_o {r : LoadRect S4x1024x512} {hl : (Memref.whole cc0_stg3_0 : Memref sig .tc .vmem S4x1024x512 .f32).view.LoadsAt r}
    {k : Vec F r.shape .f32 → Prog (TpuEff nD τ sig (Elt F) Λ₀ .tc) α} :
    oJ c ⊢ iprop((∀ v, oJ c -∗ WP c (k v) Q)
      -∗ WP c (.op (.load (Memref.whole cc0_stg3_0 : Memref sig .tc .vmem S4x1024x512 .f32) r hl) k) Q) := by
  unfold oJ
  iintro ⟨%f, H⟩ Hk
  iapply (wp_load 𝒱₀ (c : Thread nD τ) none Set.univ (m := (Memref.whole cc0_stg3_0 : Memref sig .tc .vmem S4x1024x512 .f32)) (Finset.subset_univ _)) $$ H
  iintro H; iapply Hk; iexists f; iexact H

/-- stored. -/
theorem st_o (w : Vec F S4x1024x512 .f32) {off : Fin 3 → ℕ} (hoff : off = fun _ => 0) {inb : ∀ a, off a + S4x1024x512.size a ≤ S4x1024x512.size a}
    {hx : ((Memref.whole cc0_stg3_0 : Memref sig .tc .vmem S4x1024x512 .f32).access (Rect.unit (s := S4x1024x512) off S4x1024x512.size inb)).Stores Finset.univ}
    {hm : Finset.univ = Finset.univ ∨ ∀ a, (Rect.unit (s := S4x1024x512) off S4x1024x512.size inb).stride a = 1}
    {k : PUnit → Prog (TpuEff nD τ sig (Elt F) Λ₀ .tc) α} :
    oJ c ⊢ iprop((((c : Thread nD τ).loc cc0_stg3_0 ↦{fullShare} w) -∗ WP c (k ⟨⟩) Q)
      -∗ WP c (.op (.store (Memref.whole cc0_stg3_0 : Memref sig .tc .vmem S4x1024x512 .f32) (Rect.unit (s := S4x1024x512) off S4x1024x512.size inb) w Finset.univ hx hm) k) Q) := by
  unfold oJ
  iintro ⟨%f, H⟩ Hk
  iapply (wp_store 𝒱₀ (c : Thread nD τ) none Set.univ (m := (Memref.whole cc0_stg3_0 : Memref sig .tc .vmem S4x1024x512 .f32)) (r := Rect.unit (s := S4x1024x512) off S4x1024x512.size inb) (w := w) (Mk := Finset.univ) (S := Finset.univ) (Finset.subset_univ _)) $$ H
  iintro H
  iapply Hk
  rw [show ((Memref.whole cc0_stg3_0 : Memref sig .tc .vmem S4x1024x512 .f32).access (Rect.unit (s := S4x1024x512) off S4x1024x512.size inb)).write (Elt F) f w Finset.univ = w from
    Memref.write_access_unit_zero_univ (Elt F) cc0_stg3_0 hoff inb f w]
  iexact H

end Operands

/-! ## The barrier -/

section Bar
variable (c : Dev nD) {α : Type} {Q : α → sProp (MT nD τ sig Unit (Elt F) ℕ UU ℕ)}

/-- Owing `j` signals and every copy. -/
def ob (j : ℕ) : sProp 𝕄 := iprop(∃ W, owes (c : Thread nD τ) (Ob c j) W)

theorem sig_step (j : ℕ) (d : Fin 4) {n : Dev nD} (hn : n = nb c j) {sem : Sem sig} (hs : sem = barS) {w : ℕ} (hw : w = 1)
    {kk : PUnit → Prog (TpuEff nD τ sig (Elt F) Λ₀ .tc) α} :
    iprop(Ctx m ∗ ob c (j + 1) ∗ dutyTok ER (barCell (nb c j)) 0 d ∗ barPay (nb c j) d)
      ⊢ iprop((ob c j -∗ WP c (kk ⟨⟩) Q) -∗ WP c (.op (.semSignal (n : Thread nD τ) sem w) kk) Q) := by
  subst hn hs hw
  unfold ob
  iintro ⟨#HC, ⟨%W, HO⟩, Ht, Hp⟩ Hk
  ihave H1 := (Ctx_bar m (nb c j)) $$ HC
  icases H1 with ⟨%κ, #HI, #HR⟩
  iapply (Rounds.wp_signal 𝒱₀ ER (rd m) (c : Thread nD τ) none (dst := (nb c j : Thread nD τ)) (κ := κ) (d := d)
    (by rw [duties_bar]; exact Finset.mem_univ _) (amount_bar m (nb c j) d) () (Ob c j) rfl) $$ [HO Ht Hp]
  · isplitr; · iexact HI
    isplitl [HO]; · iexact HO
    isplitl [Ht]; · iexact Ht
    isplitl [Hp]; · rw [payload_bar]; iexact Hp
    iexact HR
  iintro HO
  iapply Hk
  iexists W; iexact HO

theorem bar_wait {sem : Sem sig} (hs : sem = barS) {w : ℕ} (hw : w = 4) {kk : PUnit → Prog (TpuEff nD τ sig (Elt F) Λ₀ .tc) α} :
    iprop(Ctx m ∗ ob c 0 ∗ atPos ER (barCell c) 0 ∅ 0 ∗ cred (tallyAt (barCell c) () 4))
      ⊢ iprop(((semVal (barCell c) 0 ∗ ow c 0 ∗ barPay c 0 ∗ barPay c 1 ∗ barPay c 2 ∗ barPay c 3) -∗ WP c (kk ⟨⟩) Q) -∗ WP c (.op (.semWait sem w) kk) Q) := by
  subst hs hw
  unfold ob ow
  iintro ⟨#HC, ⟨%W, HO⟩, Ha, Hc⟩ Hk
  ihave H1 := (Ctx_bar m c) $$ HC
  icases H1 with ⟨%κ, #HI, -⟩
  iapply (Rounds.wp_wait_rest_token 𝒱₀ ER (rd m) (c : Thread nD τ) none (κ := κ)
      (wpE_semWait_eq 𝒱₀ (c : Thread nD τ) none Set.univ) (Set.mem_univ _) () (O := Ow c 0) (W := W) (R := 0) (m := 0) (T := ∅)
      (by rw [Nat.zero_add, expect_bar])) $$ [Hc HO Ha]
  · isplitr; · iexact HI
    isplitl [Hc]; · iexact Hc
    isplitl [HO]; · iexact HO
    isplitr
    · iapply (mayWait_Ow (F := F) c (.reg barS) 0 1 (le_of_eq (lv_bar c)) (fun k' _ => by omega))
      iapply (Ctx_lev m); iexact HC
    iexact Ha
  iintro ⟨HO, Ha, -, Hpay⟩
  ihave Hp := (Entails.of_eq (rest_bar m c)) $$ Hpay
  imod (Rounds.cell_close ER (rd m) (Set.mem_univ κ) (fun h => h) (R := 0 + 1) (duties_later m (barCell c))) $$ [Ha] with Hz
  · isplitr; · iexact HI
    iexact Ha
  iapply Hk
  isplitl [Hz]; · iexact Hz
  isplitl [HO]
  · iexists _; iexact HO
  iexact Hp

theorem ret_step {a : α} : Q a ⊢ WP c (Prog.ret a : Prog (TpuEff nD τ sig (Elt F) Λ₀ .tc) α) Q := by
  show _ ⊢ wp _ _ _ _ _
  rw [wp_ret]
  iintro H; imodintro; iexact H

end Bar

/-! ## Finished tiles -/

theorem fin_ownF : ∀ c : Dev nD, (8 * mq c 1 + mp c 5) % 8 < 4 ∧ ownF (8 * mq c 1 + mp c 5) = c := by decide +kernel
theorem fin_ownB : ∀ c : Dev nD, ¬ (8 * mq c 3 + 4 + mp c 3) % 8 < 4 ∧ ownB (8 * mq c 3 + 4 + mp c 3) = c := by decide +kernel

omit [FloatOps F] in
theorem holds_one {α : Type} (f : S32x128x512.Idx → α) (b : ℕ) (v : (Sn 1).Idx → α)
    (h : ∀ i : S32x128x512.Idx, (i 0).val = b → f i = v (ix (0 : Fin 1) (i 1) (i 2))) : Holds 1 f b v := by
  intro i x h0 h1 h2
  have hx := (x 0).isLt; change (x 0).val < 1 at hx
  rw [h i (by omega)]
  refine congrArg v (funext fun a => ?_)
  match a with
  | 0 => exact Fin.ext (by show 0 = (x 0).val; omega)
  | 1 => exact Fin.ext h1
  | 2 => exact Fin.ext h2

/-- The forward tile that device `c` finishes is tile `8 q + p` of the gathered result; -/
theorem holdsF (c : Dev nD) : Holds 1 (AG m) (8 * mq c 1 + mp c 5) (k0_pay47 (ZF m 3 c)) := by
  refine holds_one _ _ _ fun i hi => ?_
  show agT m (i 0).val _ = _
  rw [hi]
  unfold agT
  rw [if_pos (fin_ownF c).1, (fin_ownF c).2]
/-- and the backward one. -/
theorem holdsB (c : Dev nD) : Holds 1 (AG m) (8 * mq c 3 + 4 + mp c 3) (k0_pay47 (ZB m 3 c)) := by
  refine holds_one _ _ _ fun i hi => ?_
  show agT m (i 0).val _ = _
  rw [hi]
  unfold agT
  rw [if_neg (fin_ownB c).1, (fin_ownB c).2]

end Cert.KernelIdeal.Ring
-- ==== Proof.KernelIdealParts1.lean ====
/-
Parts 2 to 14 of the kernel's body: what each consumes, what it leaves, what it returns.
-/
module

public import proofs.«01_k».proof.Proof.KernelIdealMoves

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- Part 2. -/
theorem part_2 (v20 : BitVec 32) (v24 : BitVec 32) (v28 : BitVec 32) (v32 : BitVec 32) (v36 : BitVec 32)  {Φ : (Σ' (v47 : FVec F S4x512 .bf16) (v49 : FVec F S512x512 .bf16) (v54 : FVec F S1027x512 .bf16) (v67 : FVec F S1024x512 .bf16) (v68 : FVec F S1024x512 .bf16), FVec F S512 .bf16) → sProp 𝕄} :
    iprop(Ctx m ∗ ob c 4 ∗ dutyTok ER (barCell (nb c 3)) 0 0 ∗ barPay (nb c 3) 0 ∗ dutyTok ER (barCell (nb c 2)) 0 1 ∗ barPay (nb c 2) 1 ∗ dutyTok ER (barCell (nb c 1)) 0 2 ∗ barPay (nb c 1) 2 ∗ dutyTok ER (barCell (nb c 0)) 0 3 ∗ barPay (nb c 0) 3 ∗ atPos ER (barCell c) 0 ∅ 0 ∗ cred (tallyAt (barCell c) () 4) ∗ kS m c ∗ wS m c ∗ xS m c)
      ⊢ iprop(((ow c 0 ∗ semVal (barCell c) 0 ∗ land (F := F) (peer c (((0 : Fin 24)).val)) (((0 : Fin 24)).val) ∗ land (F := F) (peer c (((1 : Fin 24)).val)) (((1 : Fin 24)).val) ∗ land (F := F) (peer c (((2 : Fin 24)).val)) (((2 : Fin 24)).val) ∗ land (F := F) (peer c (((18 : Fin 24)).val)) (((18 : Fin 24)).val) ∗ land (F := F) (peer c (((19 : Fin 24)).val)) (((19 : Fin 24)).val) ∗ land (F := F) (peer c (((20 : Fin 24)).val)) (((20 : Fin 24)).val) ∗ land (F := F) (peer c (((3 : Fin 24)).val)) (((3 : Fin 24)).val) ∗ land (F := F) (peer c (((4 : Fin 24)).val)) (((4 : Fin 24)).val) ∗ land (F := F) (peer c (((5 : Fin 24)).val)) (((5 : Fin 24)).val) ∗ land (F := F) (peer c (((21 : Fin 24)).val)) (((21 : Fin 24)).val) ∗ land (F := F) (peer c (((22 : Fin 24)).val)) (((22 : Fin 24)).val) ∗ land (F := F) (peer c (((23 : Fin 24)).val)) (((23 : Fin 24)).val) ∗ land (F := F) (peer c (((6 : Fin 24)).val)) (((6 : Fin 24)).val) ∗ land (F := F) (peer c (((7 : Fin 24)).val)) (((7 : Fin 24)).val) ∗ land (F := F) (peer c (((8 : Fin 24)).val)) (((8 : Fin 24)).val) ∗ land (F := F) (peer c (((12 : Fin 24)).val)) (((12 : Fin 24)).val) ∗ land (F := F) (peer c (((13 : Fin 24)).val)) (((13 : Fin 24)).val) ∗ land (F := F) (peer c (((14 : Fin 24)).val)) (((14 : Fin 24)).val) ∗ land (F := F) (peer c (((9 : Fin 24)).val)) (((9 : Fin 24)).val) ∗ land (F := F) (peer c (((10 : Fin 24)).val)) (((10 : Fin 24)).val) ∗ land (F := F) (peer c (((11 : Fin 24)).val)) (((11 : Fin 24)).val) ∗ land (F := F) (peer c (((15 : Fin 24)).val)) (((15 : Fin 24)).val) ∗ land (F := F) (peer c (((16 : Fin 24)).val)) (((16 : Fin 24)).val) ∗ land (F := F) (peer c (((17 : Fin 24)).val)) (((17 : Fin 24)).val) ∗ kS m c ∗ wS m c ∗ xS m c) -∗ Φ ⟨k0_pay2 (kstg m c), k0_pay3 (wstg m c), k0_pay4 (xr m c (mq c 0)), k0_pay5 (kstg m c) (xr m c (mq c 0)), k0_pay6 (xr m c (mq c 0)), k0_pay7 (kstg m c)⟩)
        -∗ WP c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v20 v24 v28 v32 v36) Φ) := by
  simp only [k0_part2_eq_skeleton]; unfold k0_part2_skel
  simp only [semSignalWord, semWaitWord, Prog.lift, Prog.bind_op, Prog.bind_ret, Prog.pure_eq_ret]
  iintro ⟨#HC, HOW, HBT3, HBP3, HBT2, HBP2, HBT1, HBP1, HBT0, HBP0, HBA, HBC, HK, HW, HX⟩ Hk
  iapply (sig_step m c 3 0 (dev1 c) rfl rfl) $$ [HOW HBT3 HBP3]
  · isplitr; · iexact HC
    isplitl [HOW]; · iexact HOW
    isplitl [HBT3]; · iexact HBT3
    iexact HBP3
  iintro HOW
  iapply (sig_step m c 2 1 (dev2 c) rfl rfl) $$ [HOW HBT2 HBP2]
  · isplitr; · iexact HC
    isplitl [HOW]; · iexact HOW
    isplitl [HBT2]; · iexact HBT2
    iexact HBP2
  iintro HOW
  iapply (sig_step m c 1 2 (dev3 c) rfl rfl) $$ [HOW HBT1 HBP1]
  · isplitr; · iexact HC
    isplitl [HOW]; · iexact HOW
    isplitl [HBT1]; · iexact HBT1
    iexact HBP1
  iintro HOW
  iapply (sig_step m c 0 3 (dev4 c) rfl rfl) $$ [HOW HBT0 HBP0]
  · isplitr; · iexact HC
    isplitl [HOW]; · iexact HOW
    isplitl [HBT0]; · iexact HBT0
    iexact HBP0
  iintro HOW
  iapply (bar_wait m c rfl rfl) $$ [HOW HBA HBC]
  · isplitr; · iexact HC
    isplitl [HOW]; · iexact HOW
    isplitl [HBA]; · iexact HBA
    iexact HBC
  iintro ⟨HBV, HOW, Hb0, Hb1, Hb2, Hb3⟩
  ihave Hb0 := (Entails.of_eq (show barPay (F := F) c 0 = iprop(land (F := F) (peer c (((0 : Fin 24)).val)) (((0 : Fin 24)).val) ∗ land (F := F) (peer c (((1 : Fin 24)).val)) (((1 : Fin 24)).val) ∗ land (F := F) (peer c (((2 : Fin 24)).val)) (((2 : Fin 24)).val) ∗ land (F := F) (peer c (((18 : Fin 24)).val)) (((18 : Fin 24)).val) ∗ land (F := F) (peer c (((19 : Fin 24)).val)) (((19 : Fin 24)).val) ∗ land (F := F) (peer c (((20 : Fin 24)).val)) (((20 : Fin 24)).val)) from rfl)) $$ Hb0
  icases Hb0 with ⟨HL0, HL1, HL2, HL18, HL19, HL20⟩
  ihave Hb1 := (Entails.of_eq (show barPay (F := F) c 1 = iprop(land (F := F) (peer c (((3 : Fin 24)).val)) (((3 : Fin 24)).val) ∗ land (F := F) (peer c (((4 : Fin 24)).val)) (((4 : Fin 24)).val) ∗ land (F := F) (peer c (((5 : Fin 24)).val)) (((5 : Fin 24)).val) ∗ land (F := F) (peer c (((21 : Fin 24)).val)) (((21 : Fin 24)).val) ∗ land (F := F) (peer c (((22 : Fin 24)).val)) (((22 : Fin 24)).val) ∗ land (F := F) (peer c (((23 : Fin 24)).val)) (((23 : Fin 24)).val)) from rfl)) $$ Hb1
  icases Hb1 with ⟨HL3, HL4, HL5, HL21, HL22, HL23⟩
  ihave Hb2 := (Entails.of_eq (show barPay (F := F) c 2 = iprop(land (F := F) (peer c (((6 : Fin 24)).val)) (((6 : Fin 24)).val) ∗ land (F := F) (peer c (((7 : Fin 24)).val)) (((7 : Fin 24)).val) ∗ land (F := F) (peer c (((8 : Fin 24)).val)) (((8 : Fin 24)).val) ∗ land (F := F) (peer c (((12 : Fin 24)).val)) (((12 : Fin 24)).val) ∗ land (F := F) (peer c (((13 : Fin 24)).val)) (((13 : Fin 24)).val) ∗ land (F := F) (peer c (((14 : Fin 24)).val)) (((14 : Fin 24)).val)) from rfl)) $$ Hb2
  icases Hb2 with ⟨HL6, HL7, HL8, HL12, HL13, HL14⟩
  ihave Hb3 := (Entails.of_eq (show barPay (F := F) c 3 = iprop(land (F := F) (peer c (((9 : Fin 24)).val)) (((9 : Fin 24)).val) ∗ land (F := F) (peer c (((10 : Fin 24)).val)) (((10 : Fin 24)).val) ∗ land (F := F) (peer c (((11 : Fin 24)).val)) (((11 : Fin 24)).val) ∗ land (F := F) (peer c (((15 : Fin 24)).val)) (((15 : Fin 24)).val) ∗ land (F := F) (peer c (((16 : Fin 24)).val)) (((16 : Fin 24)).val) ∗ land (F := F) (peer c (((17 : Fin 24)).val)) (((17 : Fin 24)).val)) from rfl)) $$ Hb3
  icases Hb3 with ⟨HL9, HL10, HL11, HL15, HL16, HL17⟩
  iapply (ld_k m c (by decide)) $$ HK; iintro HK
  iapply (ld_w m c (by decide)) $$ HW; iintro HW
  iapply (ld_x m c (mq c 0) (off1 c)) $$ HX; iintro HX
  iapply (ret_step c)
  iapply Hk
  isplitl [HOW]; · iexact HOW
  isplitl [HBV]; · iexact HBV
  isplitl [HL0]; · iexact HL0
  isplitl [HL1]; · iexact HL1
  isplitl [HL2]; · iexact HL2
  isplitl [HL18]; · iexact HL18
  isplitl [HL19]; · iexact HL19
  isplitl [HL20]; · iexact HL20
  isplitl [HL3]; · iexact HL3
  isplitl [HL4]; · iexact HL4
  isplitl [HL5]; · iexact HL5
  isplitl [HL21]; · iexact HL21
  isplitl [HL22]; · iexact HL22
  isplitl [HL23]; · iexact HL23
  isplitl [HL6]; · iexact HL6
  isplitl [HL7]; · iexact HL7
  isplitl [HL8]; · iexact HL8
  isplitl [HL12]; · iexact HL12
  isplitl [HL13]; · iexact HL13
  isplitl [HL14]; · iexact HL14
  isplitl [HL9]; · iexact HL9
  isplitl [HL10]; · iexact HL10
  isplitl [HL11]; · iexact HL11
  isplitl [HL15]; · iexact HL15
  isplitl [HL16]; · iexact HL16
  isplitl [HL17]; · iexact HL17
  isplitl [HK]; · iexact HK
  isplitl [HW]; · iexact HW
  iexact HX

/-- Part 3. -/
theorem part_3 (v20 : BitVec 32) (v0_ : (Sn 8).Idx → F .f32) {Φ : (Σ' (v101 : BitVec 32), BitVec 32) → sProp 𝕄} :
    iprop(Ctx m ∗ accP 8 c (8 * mq c 0) v0_ ∗ jn4 psF c 0)
      ⊢ iprop((∀ (v101 : BitVec 32) (c8_i32_53 : BitVec 32), (accP 4 c (8 * mq c 0) (AF m 0 c) ∗ accP 4 c (8 * mq c 0 + 4) (AB m 0 c) ∗ st4 psF c 0 (k0_pay9 (AF m 0 c))) -∗ Φ ⟨v101, c8_i32_53⟩)
        -∗ WP c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v20 (k0_pay2 (kstg m c)) (k0_pay3 (wstg m c)) (k0_pay4 (xr m c (mq c 0))) (k0_pay5 (kstg m c) (xr m c (mq c 0))) (k0_pay6 (xr m c (mq c 0))) (k0_pay7 (kstg m c))) Φ) := by
  simp only [k0_part3_eq_skeleton]; unfold k0_part3_skel
  simp only [semSignalWord, semWaitWord, Prog.lift, Prog.bind_op, Prog.bind_ret, Prog.pure_eq_ret]
  iintro ⟨#HC, HM0, HpsF0⟩ Hk
  iapply (ld_acc 8 c (8 * mq c 0) (off2 c) _) $$ HM0; iintro HM0
  iapply (st_acc 8 c (8 * mq c 0) (off2 c) _ _) $$ HM0; iintro HM0
  ihave HM0 := (acc_conv 8 c (8 * mq c 0) (w := k0_pay8 (k0_pay2 (kstg m c)) (k0_pay3 (wstg m c)) (k0_pay4 (xr m c (mq c 0))) (k0_pay5 (kstg m c) (xr m c (mq c 0))) (k0_pay6 (xr m c (mq c 0))) (k0_pay7 (kstg m c))) (w' := part m c (mq c 0)) rfl) $$ HM0
  ihave HM0 := (acc_halves c (8 * mq c 0) (part m c (mq c 0))) $$ HM0
  icases HM0 with ⟨HF0, HB0⟩
  ihave HF0 := (acc_conv 4 c (8 * mq c 0) (w := h0 (part m c (mq c 0))) (w' := AF m 0 c) rfl) $$ HF0
  ihave HB0 := (acc_conv 4 c (8 * mq c 0 + 4) (w := h1 (part m c (mq c 0))) (w' := AB m 0 c) rfl) $$ HB0
  iapply (ld_acc 4 c (8 * mq c 0) (off3s0 c) _) $$ HF0; iintro HF0
  iapply (ldj4 c 0 psF rfl) $$ HpsF0; iintro %v106 HpsF0
  iapply (str4 c 0 psF _ rfl) $$ HpsF0; iintro HpsF0
  ihave HpsF0 := (st4_conv c psF 0 (w := k0_pay9 (AF m 0 c)) (w' := k0_pay9 (AF m 0 c)) rfl) $$ HpsF0
  iapply (ret_step c)
  iapply Hk
  isplitl [HF0]; · iexact HF0
  isplitl [HB0]; · iexact HB0
  iexact HpsF0

/-- Part 4. -/
theorem part_4 (v24 : BitVec 32) (v28 : BitVec 32) (v101 : BitVec 32) (c8_i32_53 : BitVec 32)  {Φ : (PUnit) → sProp 𝕄} :
    iprop(Ctx m ∗ accP 4 c (8 * mq c 0 + 4) (AB m 0 c) ∗ jn4 psB c 0 ∗ ow c 0 ∗ s0 c 0 ∗ land (F := F) (peer c (((0 : Fin 24)).val)) (((0 : Fin 24)).val) ∗ st4 psF c 0 (k0_pay9 (AF m 0 c)))
      ⊢ iprop(((accP 4 c (8 * mq c 0 + 4) (AB m 0 c) ∗ st4 psB c 0 (k0_pay9 (AB m 0 c)) ∗ ow c 1 ∗ s1 c 0) -∗ Φ ⟨⟩)
        -∗ WP c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v24 v28 v101 c8_i32_53) Φ) := by
  simp only [k0_part4_eq_skeleton]; unfold k0_part4_skel
  simp only [semSignalWord, semWaitWord, Prog.lift, Prog.bind_op, Prog.bind_ret, Prog.pure_eq_ret]
  iintro ⟨#HC, HB0, HpsB0, HOW, HS0, HL0, HpsF0⟩ Hk
  iapply (ld_acc 4 c (8 * mq c 0 + 4) (off4s0 c) _) $$ HB0; iintro HB0
  iapply (ldj4 c 0 psB rfl) $$ HpsB0; iintro %v114 HpsB0
  iapply (str4 c 0 psB _ rfl) $$ HpsB0; iintro HpsB0
  ihave HpsB0 := (st4_conv c psB 0 (w := k0_pay10 (AB m 0 c)) (w' := k0_pay9 (AB m 0 c)) rfl) $$ HpsB0
  iapply (send4 m c 0 (M := psF) (Mc := pcF) 0 (k0_pay9 (AF m 0 c)) (i := 0) (j := 1) (by decide) (by decide) rfl rfl
      (by show st4 pcF (pr c) 0 (k0_pay9 (AF m 0 (pl (pr c)))) = st4 pcF (pr c) 0 (k0_pay9 (AF m 0 c)); rw [pl_pr])
      (dev5 c) rfl rfl semS0 semR0 (cred4 _)) $$ [HS0 HOW HpsF0 HL0]
  · isplitr; · iexact HC
    isplitl [HS0]; · iexact HS0
    isplitl [HOW]; · iexact HOW
    isplitl [HpsF0]; · iexact HpsF0
    iexact HL0
  iintro ⟨HS0, HOW⟩
  iapply (ret_step c)
  iapply Hk
  isplitl [HB0]; · iexact HB0
  isplitl [HpsB0]; · iexact HpsB0
  isplitl [HOW]; · iexact HOW
  iexact HS0

/-- Part 5. -/
theorem part_5 (v20 : BitVec 32)  {Φ : (FVec F S8x128x512 .f32) → sProp 𝕄} :
    iprop(Ctx m ∗ ow c 1 ∗ s0 c 3 ∗ land (F := F) (peer c (((3 : Fin 24)).val)) (((3 : Fin 24)).val) ∗ st4 psB c 0 (k0_pay9 (AB m 0 c)) ∗ xS m c)
      ⊢ iprop(((ow c 2 ∗ s1 c 3 ∗ xS m c) -∗ Φ (k0_pay11 (k0_pay2 (kstg m c)) (k0_pay3 (wstg m c)) (xr m c (mq c 3))))
        -∗ WP c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v20 (k0_pay2 (kstg m c)) (k0_pay3 (wstg m c))) Φ) := by
  simp only [k0_part5_eq_skeleton]; unfold k0_part5_skel
  simp only [semSignalWord, semWaitWord, Prog.lift, Prog.bind_op, Prog.bind_ret, Prog.pure_eq_ret]
  iintro ⟨#HC, HOW, HS3, HL3, HpsB0, HX⟩ Hk
  iapply (send4 m c 3 (M := psB) (Mc := pcB) 0 (k0_pay9 (AB m 0 c)) (i := 1) (j := 2) (by decide) (by decide) rfl rfl
      (by show st4 pcB (pl c) 0 (k0_pay9 (AB m 0 (pr (pl c)))) = st4 pcB (pl c) 0 (k0_pay9 (AB m 0 c)); rw [pr_pl])
      (dev6 c) rfl rfl semS3 semR3 (cred4 _)) $$ [HS3 HOW HpsB0 HL3]
  · isplitr; · iexact HC
    isplitl [HS3]; · iexact HS3
    isplitl [HOW]; · iexact HOW
    isplitl [HpsB0]; · iexact HpsB0
    iexact HL3
  iintro ⟨HS3, HOW⟩
  iapply (ld_x m c (mq c 3) (off5x3 c)) $$ HX; iintro HX
  iapply (ret_step c)
  iapply Hk
  isplitl [HOW]; · iexact HOW
  isplitl [HS3]; · iexact HS3
  iexact HX

/-- Part 6. -/
theorem part_6 (v20 : BitVec 32) (v3_ : (Sn 8).Idx → F .f32) {Φ : (FVec F S8x128x512 .f32) → sProp 𝕄} :
    iprop(Ctx m ∗ accP 8 c (8 * mq c 3) v3_ ∗ xS m c)
      ⊢ iprop(((accP 4 c (8 * mq c 3) (h0 (part m c (mq c 3))) ∗ accP 4 c (8 * mq c 3 + 4) (h1 (part m c (mq c 3))) ∗ xS m c) -∗ Φ (k0_pay13 (k0_pay2 (kstg m c)) (k0_pay3 (wstg m c)) (xr m c (mq c 1))))
        -∗ WP c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v20 (k0_pay2 (kstg m c)) (k0_pay3 (wstg m c)) (k0_pay11 (k0_pay2 (kstg m c)) (k0_pay3 (wstg m c)) (xr m c (mq c 3)))) Φ) := by
  simp only [k0_part6_eq_skeleton]; unfold k0_part6_skel
  simp only [semSignalWord, semWaitWord, Prog.lift, Prog.bind_op, Prog.bind_ret, Prog.pure_eq_ret]
  iintro ⟨#HC, HM3, HX⟩ Hk
  iapply (ld_acc 8 c (8 * mq c 3) (off6x3 c) _) $$ HM3; iintro HM3
  iapply (st_acc 8 c (8 * mq c 3) (off6x3 c) _ _) $$ HM3; iintro HM3
  ihave HM3 := (acc_conv 8 c (8 * mq c 3) (w := k0_pay12 (k0_pay11 (k0_pay2 (kstg m c)) (k0_pay3 (wstg m c)) (xr m c (mq c 3)))) (w' := part m c (mq c 3)) rfl) $$ HM3
  ihave HM3 := (acc_halves c (8 * mq c 3) (part m c (mq c 3))) $$ HM3
  icases HM3 with ⟨HF3, HB3⟩
  iapply (ld_x m c (mq c 1) (off5x1 c)) $$ HX; iintro HX
  iapply (ret_step c)
  iapply Hk
  isplitl [HF3]; · iexact HF3
  isplitl [HB3]; · iexact HB3
  iexact HX

/-- Part 7. -/
theorem part_7 (v20 : BitVec 32) (v24 : BitVec 32) (v1_ : (Sn 8).Idx → F .f32) {Φ : (Σ' (v237 : BitVec 32), BitVec 32) → sProp 𝕄} :
    iprop(Ctx m ∗ accP 8 c (8 * mq c 1) v1_ ∗ ow c 2 ∗ s1 c 0)
      ⊢ iprop((∀ (v237 : BitVec 32) (v240 : BitVec 32), (accP 4 c (8 * mq c 1) (h0 (part m c (mq c 1))) ∗ accP 4 c (8 * mq c 1 + 4) (h1 (part m c (mq c 1))) ∗ ow c 2 ∗ s3 c 0 ∗ jn4 psF c 0 ∗ st4 pcF c 0 (k0_pay9 (AF m 0 (pl c)))) -∗ Φ ⟨v237, v240⟩)
        -∗ WP c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v20 v24 (k0_pay13 (k0_pay2 (kstg m c)) (k0_pay3 (wstg m c)) (xr m c (mq c 1)))) Φ) := by
  simp only [k0_part7_eq_skeleton]; unfold k0_part7_skel
  simp only [semSignalWord, semWaitWord, Prog.lift, Prog.bind_op, Prog.bind_ret, Prog.pure_eq_ret]
  iintro ⟨#HC, HM1, HOW, HS0⟩ Hk
  iapply (ld_acc 8 c (8 * mq c 1) (off6x1 c) _) $$ HM1; iintro HM1
  iapply (st_acc 8 c (8 * mq c 1) (off6x1 c) _ _) $$ HM1; iintro HM1
  ihave HM1 := (acc_conv 8 c (8 * mq c 1) (w := k0_pay14 (k0_pay13 (k0_pay2 (kstg m c)) (k0_pay3 (wstg m c)) (xr m c (mq c 1)))) (w' := part m c (mq c 1)) rfl) $$ HM1
  ihave HM1 := (acc_halves c (8 * mq c 1) (part m c (mq c 1))) $$ HM1
  icases HM1 with ⟨HF1, HB1⟩
  iapply (wait_send m c 0 2 semS0 (cred4 _)) $$ [HS0 HOW]
  · isplitr; · iexact HC
    isplitl [HS0]; · iexact HS0
    iexact HOW
  iintro ⟨HS0, HOW, HpsF0⟩
  ihave HpsF0 := (Entails.of_eq (show sendPay m c (((0 : Fin 24)).val) = jn4 psF c 0 from rfl)) $$ HpsF0
  iapply (wait_recv m c 0 2 (by decide) semR0 (cred4 _)) $$ [HS0 HOW]
  · isplitr; · iexact HC
    isplitl [HS0]; · iexact HS0
    iexact HOW
  iintro ⟨HS0, HOW, HpcF0⟩
  ihave HpcF0 := (Entails.of_eq (show recvPay m c (((0 : Fin 24)).val) = st4 pcF c 0 (k0_pay9 (AF m 0 (pl c))) from rfl)) $$ HpcF0
  iapply (ret_step c)
  iapply Hk
  isplitl [HF1]; · iexact HF1
  isplitl [HB1]; · iexact HB1
  isplitl [HOW]; · iexact HOW
  isplitl [HS0]; · iexact HS0
  isplitl [HpsF0]; · iexact HpsF0
  iexact HpcF0

/-- Part 8. -/
theorem part_8 (v28 : BitVec 32) (v237 : BitVec 32) (v240 : BitVec 32)  {Φ : (Σ' (v271 : BitVec 32), FVec F S4x128x512 .f32) → sProp 𝕄} :
    iprop(Ctx m ∗ ow c 2 ∗ s1 c 3 ∗ accP 4 c (8 * mq c 3) (h0 (part m c (mq c 3))) ∗ st4 pcF c 0 (k0_pay9 (AF m 0 (pl c))))
      ⊢ iprop((∀ (v271 : BitVec 32), (ow c 2 ∗ s3 c 3 ∗ jn4 psB c 0 ∗ st4 pcB c 0 (k0_pay9 (AB m 0 (pr c))) ∗ accP 4 c (8 * mq c 3) (h0 (part m c (mq c 3))) ∗ st4 pcF c 0 (k0_pay9 (AF m 0 (pl c)))) -∗ Φ ⟨v271, k0_pay15 (h0 (part m c (mq c 3))) (k0_pay9 (AF m 0 (pl c)))⟩)
        -∗ WP c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v28 v237 v240) Φ) := by
  simp only [k0_part8_eq_skeleton]; unfold k0_part8_skel
  simp only [semSignalWord, semWaitWord, Prog.lift, Prog.bind_op, Prog.bind_ret, Prog.pure_eq_ret]
  iintro ⟨#HC, HOW, HS3, HF3, HpcF0⟩ Hk
  iapply (wait_send m c 3 2 semS3 (cred4 _)) $$ [HS3 HOW]
  · isplitr; · iexact HC
    isplitl [HS3]; · iexact HS3
    iexact HOW
  iintro ⟨HS3, HOW, HpsB0⟩
  ihave HpsB0 := (Entails.of_eq (show sendPay m c (((3 : Fin 24)).val) = jn4 psB c 0 from rfl)) $$ HpsB0
  iapply (wait_recv m c 3 2 (by decide) semR3 (cred4 _)) $$ [HS3 HOW]
  · isplitr; · iexact HC
    isplitl [HS3]; · iexact HS3
    iexact HOW
  iintro ⟨HS3, HOW, HpcB0⟩
  ihave HpcB0 := (Entails.of_eq (show recvPay m c (((3 : Fin 24)).val) = st4 pcB c 0 (k0_pay9 (AB m 0 (pr c))) from rfl)) $$ HpcB0
  iapply (ld_acc 4 c (8 * mq c 3) (off3a0 c) _) $$ HF3; iintro HF3
  iapply (ld4 c 0 pcF _ rfl) $$ HpcF0; iintro HpcF0
  iapply (ld_acc 4 c (8 * mq c 3) (off3a0 c) _) $$ HF3; iintro HF3
  iapply (ret_step c)
  iapply Hk
  isplitl [HOW]; · iexact HOW
  isplitl [HS3]; · iexact HS3
  isplitl [HpsB0]; · iexact HpsB0
  isplitl [HpcB0]; · iexact HpcB0
  isplitl [HF3]; · iexact HF3
  iexact HpcF0

/-- Part 9. -/
theorem part_9 (v20 : BitVec 32) (v271 : BitVec 32)  {Φ : (FVec F S4x128x512 .bf16) → sProp 𝕄} :
    iprop(Ctx m ∗ accP 4 c (8 * mq c 3) (h0 (part m c (mq c 3))) ∗ accP 4 c (8 * mq c 1 + 4) (h1 (part m c (mq c 1))) ∗ st4 pcB c 0 (k0_pay9 (AB m 0 (pr c))) ∗ jn4 psF c 1 ∗ jn4 psB c 1)
      ⊢ iprop(((accP 4 c (8 * mq c 3) (AF m 1 c) ∗ accP 4 c (8 * mq c 1 + 4) (AB m 1 c) ∗ st4 pcB c 0 (k0_pay9 (AB m 0 (pr c))) ∗ st4 psF c 1 (k0_pay9 (AF m 1 c)) ∗ jn4 psB c 1) -∗ Φ (k0_pay18 (AB m 1 c)))
        -∗ WP c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v20 v271 (k0_pay15 (h0 (part m c (mq c 3))) (k0_pay9 (AF m 0 (pl c))))) Φ) := by
  simp only [k0_part9_eq_skeleton]; unfold k0_part9_skel
  simp only [semSignalWord, semWaitWord, Prog.lift, Prog.bind_op, Prog.bind_ret, Prog.pure_eq_ret]
  iintro ⟨#HC, HF3, HB1, HpcB0, HpsF1, HpsB1⟩ Hk
  iapply (st_acc 4 c (8 * mq c 3) (off3a0 c) _ _) $$ HF3; iintro HF3
  ihave HF3 := (acc_conv 4 c (8 * mq c 3) (w := (k0_pay15 (h0 (part m c (mq c 3))) (k0_pay9 (AF m 0 (pl c))))) (w' := AF m 1 c) rfl) $$ HF3
  iapply (ld_acc 4 c (8 * mq c 1 + 4) (off7a0 c) _) $$ HB1; iintro HB1
  iapply (ld4 c 0 pcB _ rfl) $$ HpcB0; iintro HpcB0
  iapply (ld_acc 4 c (8 * mq c 1 + 4) (off7a0 c) _) $$ HB1; iintro HB1
  iapply (st_acc 4 c (8 * mq c 1 + 4) (off7a0 c) _ _) $$ HB1; iintro HB1
  ihave HB1 := (acc_conv 4 c (8 * mq c 1 + 4) (w := k0_pay16 (h1 (part m c (mq c 1))) (k0_pay9 (AB m 0 (pr c)))) (w' := AB m 1 c) rfl) $$ HB1
  iapply (ld_acc 4 c (8 * mq c 3) (off3s1 c) _) $$ HF3; iintro HF3
  iapply (ldj4 c 1 psF rfl) $$ HpsF1; iintro %v301 HpsF1
  iapply (str4 c 1 psF _ rfl) $$ HpsF1; iintro HpsF1
  ihave HpsF1 := (st4_conv c psF 1 (w := k0_pay17 (AF m 1 c)) (w' := k0_pay9 (AF m 1 c)) rfl) $$ HpsF1
  iapply (ld_acc 4 c (8 * mq c 1 + 4) (off4s1 c) _) $$ HB1; iintro HB1
  iapply (ldj4 c 1 psB rfl) $$ HpsB1; iintro %v309 HpsB1
  iapply (ret_step c)
  iapply Hk
  isplitl [HF3]; · iexact HF3
  isplitl [HB1]; · iexact HB1
  isplitl [HpcB0]; · iexact HpcB0
  isplitl [HpsF1]; · iexact HpsF1
  iexact HpsB1

/-- Part 10. -/
theorem part_10 (v20 : BitVec 32) (v24 : BitVec 32) (v28 : BitVec 32)  {Φ : (Σ' (v333 : BitVec 32), FVec F S1027x512 .bf16) → sProp 𝕄} :
    iprop(Ctx m ∗ jn4 psB c 1 ∗ ow c 2 ∗ s0 c 1 ∗ land (F := F) (peer c (((1 : Fin 24)).val)) (((1 : Fin 24)).val) ∗ st4 psF c 1 (k0_pay9 (AF m 1 c)) ∗ s0 c 4 ∗ land (F := F) (peer c (((4 : Fin 24)).val)) (((4 : Fin 24)).val) ∗ xS m c)
      ⊢ iprop((∀ (v333 : BitVec 32), (ow c 4 ∗ s1 c 1 ∗ s1 c 4 ∗ xS m c) -∗ Φ ⟨v333, k0_pay20 (xr m c (mq c 2))⟩)
        -∗ WP c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v20 v24 v28 (k0_pay18 (AB m 1 c))) Φ) := by
  simp only [k0_part10_eq_skeleton]; unfold k0_part10_skel
  simp only [semSignalWord, semWaitWord, Prog.lift, Prog.bind_op, Prog.bind_ret, Prog.pure_eq_ret]
  iintro ⟨#HC, HpsB1, HOW, HS1, HL1, HpsF1, HS4, HL4, HX⟩ Hk
  iapply (str4 c 1 psB _ rfl) $$ HpsB1; iintro HpsB1
  ihave HpsB1 := (st4_conv c psB 1 (w := k0_pay19 (k0_pay18 (AB m 1 c))) (w' := k0_pay9 (AB m 1 c)) rfl) $$ HpsB1
  iapply (send4 m c 1 (M := psF) (Mc := pcF) 1 (k0_pay9 (AF m 1 c)) (i := 2) (j := 3) (by decide) (by decide) rfl rfl
      (by show st4 pcF (pr c) 1 (k0_pay9 (AF m 1 (pl (pr c)))) = st4 pcF (pr c) 1 (k0_pay9 (AF m 1 c)); rw [pl_pr])
      (dev7 c) rfl rfl semS1 semR1 (cred4 _)) $$ [HS1 HOW HpsF1 HL1]
  · isplitr; · iexact HC
    isplitl [HS1]; · iexact HS1
    isplitl [HOW]; · iexact HOW
    isplitl [HpsF1]; · iexact HpsF1
    iexact HL1
  iintro ⟨HS1, HOW⟩
  iapply (send4 m c 4 (M := psB) (Mc := pcB) 1 (k0_pay9 (AB m 1 c)) (i := 3) (j := 4) (by decide) (by decide) rfl rfl
      (by show st4 pcB (pl c) 1 (k0_pay9 (AB m 1 (pr (pl c)))) = st4 pcB (pl c) 1 (k0_pay9 (AB m 1 c)); rw [pr_pl])
      (dev8 c) rfl rfl semS4 semR4 (cred4 _)) $$ [HS4 HOW HpsB1 HL4]
  · isplitr; · iexact HC
    isplitl [HS4]; · iexact HS4
    isplitl [HOW]; · iexact HOW
    isplitl [HpsB1]; · iexact HpsB1
    iexact HL4
  iintro ⟨HS4, HOW⟩
  iapply (ld_x m c (mq c 2) (off5x2 c)) $$ HX; iintro HX
  iapply (ret_step c)
  iapply Hk
  isplitl [HOW]; · iexact HOW
  isplitl [HS1]; · iexact HS1
  isplitl [HS4]; · iexact HS4
  iexact HX

/-- Part 11. -/
theorem part_11 (v20 : BitVec 32) (v333 : BitVec 32) (v2_ : (Sn 8).Idx → F .f32) {Φ : (Σ' (v383 : BitVec 32), BitVec 32) → sProp 𝕄} :
    iprop(Ctx m ∗ accP 8 c (8 * mq c 2) v2_)
      ⊢ iprop((∀ (v383 : BitVec 32) (v385 : BitVec 32), (accP 4 c (8 * mq c 2) (h0 (part m c (mq c 2))) ∗ accP 4 c (8 * mq c 2 + 4) (h1 (part m c (mq c 2)))) -∗ Φ ⟨v383, v385⟩)
        -∗ WP c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v20 (k0_pay2 (kstg m c)) (k0_pay3 (wstg m c)) v333 (k0_pay20 (xr m c (mq c 2)))) Φ) := by
  simp only [k0_part11_eq_skeleton]; unfold k0_part11_skel
  simp only [semSignalWord, semWaitWord, Prog.lift, Prog.bind_op, Prog.bind_ret, Prog.pure_eq_ret]
  iintro ⟨#HC, HM2⟩ Hk
  iapply (ld_acc 8 c (8 * mq c 2) (off6x2 c) _) $$ HM2; iintro HM2
  iapply (st_acc 8 c (8 * mq c 2) (off6x2 c) _ _) $$ HM2; iintro HM2
  ihave HM2 := (acc_conv 8 c (8 * mq c 2) (w := k0_pay21 (k0_pay2 (kstg m c)) (k0_pay3 (wstg m c)) (k0_pay20 (xr m c (mq c 2)))) (w' := part m c (mq c 2)) rfl) $$ HM2
  ihave HM2 := (acc_halves c (8 * mq c 2) (part m c (mq c 2))) $$ HM2
  icases HM2 with ⟨HF2, HB2⟩
  iapply (ret_step c)
  iapply Hk
  isplitl [HF2]; · iexact HF2
  iexact HB2

/-- Part 12. -/
theorem part_12 (v24 : BitVec 32) (v385 : BitVec 32)  {Φ : (BitVec 32) → sProp 𝕄} :
    iprop(Ctx m ∗ ow c 4 ∗ s1 c 1 ∗ s1 c 4)
      ⊢ iprop((∀ (v386 : BitVec 32), (ow c 4 ∗ s3 c 1 ∗ jn4 psF c 1 ∗ st4 pcF c 1 (k0_pay9 (AF m 1 (pl c))) ∗ s2 c 4 ∗ jn4 psB c 1) -∗ Φ v386)
        -∗ WP c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 v24 v385) Φ) := by
  simp only [k0_part12_eq_skeleton]; unfold k0_part12_skel
  simp only [semSignalWord, semWaitWord, Prog.lift, Prog.bind_op, Prog.bind_ret, Prog.pure_eq_ret]
  iintro ⟨#HC, HOW, HS1, HS4⟩ Hk
  iapply (wait_send m c 1 4 semS1 (cred4 _)) $$ [HS1 HOW]
  · isplitr; · iexact HC
    isplitl [HS1]; · iexact HS1
    iexact HOW
  iintro ⟨HS1, HOW, HpsF1⟩
  ihave HpsF1 := (Entails.of_eq (show sendPay m c (((1 : Fin 24)).val) = jn4 psF c 1 from rfl)) $$ HpsF1
  iapply (wait_recv m c 1 4 (by decide) semR1 (cred4 _)) $$ [HS1 HOW]
  · isplitr; · iexact HC
    isplitl [HS1]; · iexact HS1
    iexact HOW
  iintro ⟨HS1, HOW, HpcF1⟩
  ihave HpcF1 := (Entails.of_eq (show recvPay m c (((1 : Fin 24)).val) = st4 pcF c 1 (k0_pay9 (AF m 1 (pl c))) from rfl)) $$ HpcF1
  iapply (wait_send m c 4 4 semS4 (cred4 _)) $$ [HS4 HOW]
  · isplitr; · iexact HC
    isplitl [HS4]; · iexact HS4
    iexact HOW
  iintro ⟨HS4, HOW, HpsB1⟩
  ihave HpsB1 := (Entails.of_eq (show sendPay m c (((4 : Fin 24)).val) = jn4 psB c 1 from rfl)) $$ HpsB1
  iapply (ret_step c)
  iapply Hk
  isplitl [HOW]; · iexact HOW
  isplitl [HS1]; · iexact HS1
  isplitl [HpsF1]; · iexact HpsF1
  isplitl [HpcF1]; · iexact HpcF1
  isplitl [HS4]; · iexact HS4
  iexact HpsB1

/-- Part 13. -/
theorem part_13 (v28 : BitVec 32) (v383 : BitVec 32) (v386 : BitVec 32)  {Φ : (FVec F S4x128x512 .f32) → sProp 𝕄} :
    iprop(Ctx m ∗ ow c 4 ∗ s2 c 4 ∗ accP 4 c (8 * mq c 2) (h0 (part m c (mq c 2))) ∗ st4 pcF c 1 (k0_pay9 (AF m 1 (pl c))) ∗ accP 4 c (8 * mq c 2 + 4) (h1 (part m c (mq c 2))))
      ⊢ iprop(((ow c 4 ∗ s3 c 4 ∗ st4 pcB c 1 (k0_pay9 (AB m 1 (pr c))) ∗ accP 4 c (8 * mq c 2) (AF m 2 c) ∗ st4 pcF c 1 (k0_pay9 (AF m 1 (pl c))) ∗ accP 4 c (8 * mq c 2 + 4) (h1 (part m c (mq c 2)))) -∗ Φ (k0_pay23 (h1 (part m c (mq c 2))) (k0_pay9 (AB m 1 (pr c)))))
        -∗ WP c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v28 v383 v386) Φ) := by
  simp only [k0_part13_eq_skeleton]; unfold k0_part13_skel
  simp only [semSignalWord, semWaitWord, Prog.lift, Prog.bind_op, Prog.bind_ret, Prog.pure_eq_ret]
  iintro ⟨#HC, HOW, HS4, HF2, HpcF1, HB2⟩ Hk
  iapply (wait_recv m c 4 4 (by decide) semR4 (cred4 _)) $$ [HS4 HOW]
  · isplitr; · iexact HC
    isplitl [HS4]; · iexact HS4
    iexact HOW
  iintro ⟨HS4, HOW, HpcB1⟩
  ihave HpcB1 := (Entails.of_eq (show recvPay m c (((4 : Fin 24)).val) = st4 pcB c 1 (k0_pay9 (AB m 1 (pr c))) from rfl)) $$ HpcB1
  iapply (ld_acc 4 c (8 * mq c 2) (off3a1 c) _) $$ HF2; iintro HF2
  iapply (ld4 c 1 pcF _ rfl) $$ HpcF1; iintro HpcF1
  iapply (ld_acc 4 c (8 * mq c 2) (off3a1 c) _) $$ HF2; iintro HF2
  iapply (st_acc 4 c (8 * mq c 2) (off3a1 c) _ _) $$ HF2; iintro HF2
  ihave HF2 := (acc_conv 4 c (8 * mq c 2) (w := k0_pay22 (h0 (part m c (mq c 2))) (k0_pay9 (AF m 1 (pl c)))) (w' := AF m 2 c) rfl) $$ HF2
  iapply (ld_acc 4 c (8 * mq c 2 + 4) (off7a1 c) _) $$ HB2; iintro HB2
  iapply (ld4 c 1 pcB _ rfl) $$ HpcB1; iintro HpcB1
  iapply (ret_step c)
  iapply Hk
  isplitl [HOW]; · iexact HOW
  isplitl [HS4]; · iexact HS4
  isplitl [HpcB1]; · iexact HpcB1
  isplitl [HF2]; · iexact HF2
  isplitl [HpcF1]; · iexact HpcF1
  iexact HB2

/-- Part 14. -/
theorem part_14 (v20 : BitVec 32) (v24 : BitVec 32)  {Φ : (PUnit) → sProp 𝕄} :
    iprop(Ctx m ∗ accP 4 c (8 * mq c 2 + 4) (h1 (part m c (mq c 2))) ∗ accP 4 c (8 * mq c 2) (AF m 2 c) ∗ jn4 psF c 2 ∗ jn4 psB c 2)
      ⊢ iprop(((accP 4 c (8 * mq c 2 + 4) (AB m 2 c) ∗ accP 4 c (8 * mq c 2) (AF m 2 c) ∗ st4 psF c 2 (k0_pay9 (AF m 2 c)) ∗ st4 psB c 2 (k0_pay9 (AB m 2 c))) -∗ Φ ⟨⟩)
        -∗ WP c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v20 v24 (k0_pay23 (h1 (part m c (mq c 2))) (k0_pay9 (AB m 1 (pr c))))) Φ) := by
  simp only [k0_part14_eq_skeleton]; unfold k0_part14_skel
  simp only [semSignalWord, semWaitWord, Prog.lift, Prog.bind_op, Prog.bind_ret, Prog.pure_eq_ret]
  iintro ⟨#HC, HB2, HF2, HpsF2, HpsB2⟩ Hk
  iapply (ld_acc 4 c (8 * mq c 2 + 4) (off7a1 c) _) $$ HB2; iintro HB2
  iapply (st_acc 4 c (8 * mq c 2 + 4) (off7a1 c) _ _) $$ HB2; iintro HB2
  ihave HB2 := (acc_conv 4 c (8 * mq c 2 + 4) (w := k0_pay24 (k0_pay23 (h1 (part m c (mq c 2))) (k0_pay9 (AB m 1 (pr c))))) (w' := AB m 2 c) rfl) $$ HB2
  iapply (ld_acc 4 c (8 * mq c 2) (off3s2 c) _) $$ HF2; iintro HF2
  iapply (ldj4 c 2 psF rfl) $$ HpsF2; iintro %v447 HpsF2
  iapply (str4 c 2 psF _ rfl) $$ HpsF2; iintro HpsF2
  ihave HpsF2 := (st4_conv c psF 2 (w := k0_pay25 (AF m 2 c)) (w' := k0_pay9 (AF m 2 c)) rfl) $$ HpsF2
  iapply (ld_acc 4 c (8 * mq c 2 + 4) (off4s2 c) _) $$ HB2; iintro HB2
  iapply (ldj4 c 2 psB rfl) $$ HpsB2; iintro %v455 HpsB2
  iapply (str4 c 2 psB _ rfl) $$ HpsB2; iintro HpsB2
  ihave HpsB2 := (st4_conv c psB 2 (w := k0_pay26 (AB m 2 c)) (w' := k0_pay9 (AB m 2 c)) rfl) $$ HpsB2
  iapply (ret_step c)
  iapply Hk
  isplitl [HB2]; · iexact HB2
  isplitl [HF2]; · iexact HF2
  isplitl [HpsF2]; · iexact HpsF2
  iexact HpsB2

end Cert.KernelIdeal.Ring
-- ==== Proof.KernelIdealParts2.lean ====
/-
Parts 15 to 28 of the kernel's body: what each consumes, what it leaves, what it returns.
-/
module

public import proofs.«01_k».proof.Proof.KernelIdealMoves

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- Part 15. -/
theorem part_15 (v20 : BitVec 32) (v28 : BitVec 32)  {Φ : (Σ' (v480 : BitVec 32), BitVec 32) → sProp 𝕄} :
    iprop(Ctx m ∗ ow c 4 ∗ s0 c 2 ∗ land (F := F) (peer c (((2 : Fin 24)).val)) (((2 : Fin 24)).val) ∗ st4 psF c 2 (k0_pay9 (AF m 2 c)) ∗ s0 c 5 ∗ land (F := F) (peer c (((5 : Fin 24)).val)) (((5 : Fin 24)).val) ∗ st4 psB c 2 (k0_pay9 (AB m 2 c)))
      ⊢ iprop((∀ (v480 : BitVec 32) (v483 : BitVec 32), (ow c 6 ∗ s1 c 2 ∗ s1 c 5) -∗ Φ ⟨v480, v483⟩)
        -∗ WP c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v20 v28) Φ) := by
  simp only [k0_part15_eq_skeleton]; unfold k0_part15_skel
  simp only [semSignalWord, semWaitWord, Prog.lift, Prog.bind_op, Prog.bind_ret, Prog.pure_eq_ret]
  iintro ⟨#HC, HOW, HS2, HL2, HpsF2, HS5, HL5, HpsB2⟩ Hk
  iapply (send4 m c 2 (M := psF) (Mc := pcF) 2 (k0_pay9 (AF m 2 c)) (i := 4) (j := 5) (by decide) (by decide) rfl rfl
      (by show st4 pcF (pr c) 2 (k0_pay9 (AF m 2 (pl (pr c)))) = st4 pcF (pr c) 2 (k0_pay9 (AF m 2 c)); rw [pl_pr])
      (dev9 c) rfl rfl semS2 semR2 (cred4 _)) $$ [HS2 HOW HpsF2 HL2]
  · isplitr; · iexact HC
    isplitl [HS2]; · iexact HS2
    isplitl [HOW]; · iexact HOW
    isplitl [HpsF2]; · iexact HpsF2
    iexact HL2
  iintro ⟨HS2, HOW⟩
  iapply (send4 m c 5 (M := psB) (Mc := pcB) 2 (k0_pay9 (AB m 2 c)) (i := 5) (j := 6) (by decide) (by decide) rfl rfl
      (by show st4 pcB (pl c) 2 (k0_pay9 (AB m 2 (pr (pl c)))) = st4 pcB (pl c) 2 (k0_pay9 (AB m 2 c)); rw [pr_pl])
      (dev10 c) rfl rfl semS5 semR5 (cred4 _)) $$ [HS5 HOW HpsB2 HL5]
  · isplitr; · iexact HC
    isplitl [HS5]; · iexact HS5
    isplitl [HOW]; · iexact HOW
    isplitl [HpsB2]; · iexact HpsB2
    iexact HL5
  iintro ⟨HS5, HOW⟩
  iapply (ret_step c)
  iapply Hk
  isplitl [HOW]; · iexact HOW
  isplitl [HS2]; · iexact HS2
  iexact HS5

/-- Part 16. -/
theorem part_16 (v24 : BitVec 32) (v28 : BitVec 32)  {Φ : (PUnit) → sProp 𝕄} :
    iprop(Ctx m ∗ ow c 6 ∗ s1 c 2 ∗ s1 c 5)
      ⊢ iprop(((ow c 6 ∗ s3 c 2 ∗ jn4 psF c 2 ∗ st4 pcF c 2 (k0_pay9 (AF m 2 (pl c))) ∗ s2 c 5 ∗ jn4 psB c 2) -∗ Φ ⟨⟩)
        -∗ WP c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 v24 v28) Φ) := by
  simp only [k0_part16_eq_skeleton]; unfold k0_part16_skel
  simp only [semSignalWord, semWaitWord, Prog.lift, Prog.bind_op, Prog.bind_ret, Prog.pure_eq_ret]
  iintro ⟨#HC, HOW, HS2, HS5⟩ Hk
  iapply (wait_send m c 2 6 semS2 (cred4 _)) $$ [HS2 HOW]
  · isplitr; · iexact HC
    isplitl [HS2]; · iexact HS2
    iexact HOW
  iintro ⟨HS2, HOW, HpsF2⟩
  ihave HpsF2 := (Entails.of_eq (show sendPay m c (((2 : Fin 24)).val) = jn4 psF c 2 from rfl)) $$ HpsF2
  iapply (wait_recv m c 2 6 (by decide) semR2 (cred4 _)) $$ [HS2 HOW]
  · isplitr; · iexact HC
    isplitl [HS2]; · iexact HS2
    iexact HOW
  iintro ⟨HS2, HOW, HpcF2⟩
  ihave HpcF2 := (Entails.of_eq (show recvPay m c (((2 : Fin 24)).val) = st4 pcF c 2 (k0_pay9 (AF m 2 (pl c))) from rfl)) $$ HpcF2
  iapply (wait_send m c 5 6 semS5 (cred4 _)) $$ [HS5 HOW]
  · isplitr; · iexact HC
    isplitl [HS5]; · iexact HS5
    iexact HOW
  iintro ⟨HS5, HOW, HpsB2⟩
  ihave HpsB2 := (Entails.of_eq (show sendPay m c (((5 : Fin 24)).val) = jn4 psB c 2 from rfl)) $$ HpsB2
  iapply (ret_step c)
  iapply Hk
  isplitl [HOW]; · iexact HOW
  isplitl [HS2]; · iexact HS2
  isplitl [HpsF2]; · iexact HpsF2
  isplitl [HpcF2]; · iexact HpcF2
  isplitl [HS5]; · iexact HS5
  iexact HpsB2

/-- Part 17. -/
theorem part_17 (v19 : BitVec 32) (v20 : BitVec 32) (v480 : BitVec 32) (v483 : BitVec 32)  {Φ : (Σ' (v536 : BitVec 32) (v538 : BitVec 32), BitVec 32) → sProp 𝕄} :
    iprop(Ctx m ∗ ow c 6 ∗ s2 c 5 ∗ accP 4 c (8 * mq c 1) (h0 (part m c (mq c 1))) ∗ st4 pcF c 2 (k0_pay9 (AF m 2 (pl c))) ∗ accP 4 c (8 * mq c 3 + 4) (h1 (part m c (mq c 3))))
      ⊢ iprop((∀ (v536 : BitVec 32) (v538 : BitVec 32) (v541 : BitVec 32), (ow c 6 ∗ s3 c 5 ∗ st4 pcB c 2 (k0_pay9 (AB m 2 (pr c))) ∗ st4 pcF c 2 (k0_pay9 (AF m 2 (pl c))) ∗ accP 1 c (8 * mq c 1 + mp c 0) (ZF m 0 c) ∗ accP 1 c (8 * mq c 1 + mp c 1) (tl (AF m 3 c) (mp c 1)) ∗ accP 1 c (8 * mq c 1 + mp c 2) (tl (AF m 3 c) (mp c 2)) ∗ accP 1 c (8 * mq c 1 + mp c 3) (tl (AF m 3 c) (mp c 3)) ∗ accP 1 c (8 * mq c 3 + 4 + mp c 0) (ZB m 0 c) ∗ accP 1 c (8 * mq c 3 + 4 + mp c 1) (tl (AB m 3 c) (mp c 1)) ∗ accP 1 c (8 * mq c 3 + 4 + mp c 2) (tl (AB m 3 c) (mp c 2)) ∗ accP 1 c (8 * mq c 3 + 4 + mp c 3) (tl (AB m 3 c) (mp c 3))) -∗ Φ ⟨v536, v538, v541⟩)
        -∗ WP c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v19 v20 v480 v483) Φ) := by
  simp only [k0_part17_eq_skeleton]; unfold k0_part17_skel
  simp only [semSignalWord, semWaitWord, Prog.lift, Prog.bind_op, Prog.bind_ret, Prog.pure_eq_ret]
  iintro ⟨#HC, HOW, HS5, HF1, HpcF2, HB3⟩ Hk
  iapply (wait_recv m c 5 6 (by decide) semR5 (cred4 _)) $$ [HS5 HOW]
  · isplitr; · iexact HC
    isplitl [HS5]; · iexact HS5
    iexact HOW
  iintro ⟨HS5, HOW, HpcB2⟩
  ihave HpcB2 := (Entails.of_eq (show recvPay m c (((5 : Fin 24)).val) = st4 pcB c 2 (k0_pay9 (AB m 2 (pr c))) from rfl)) $$ HpcB2
  iapply (ld_acc 4 c (8 * mq c 1) (off3a2 c) _) $$ HF1; iintro HF1
  iapply (ld4 c 2 pcF _ rfl) $$ HpcF2; iintro HpcF2
  iapply (ld_acc 4 c (8 * mq c 1) (off3a2 c) _) $$ HF1; iintro HF1
  iapply (st_acc 4 c (8 * mq c 1) (off3a2 c) _ _) $$ HF1; iintro HF1
  ihave HF1 := (acc_conv 4 c (8 * mq c 1) (w := k0_pay27 (h0 (part m c (mq c 1))) (k0_pay9 (AF m 2 (pl c)))) (w' := AF m 3 c) rfl) $$ HF1
  iapply (ld_acc 4 c (8 * mq c 3 + 4) (off7a2 c) _) $$ HB3; iintro HB3
  iapply (ld4 c 2 pcB _ rfl) $$ HpcB2; iintro HpcB2
  iapply (ld_acc 4 c (8 * mq c 3 + 4) (off7a2 c) _) $$ HB3; iintro HB3
  iapply (st_acc 4 c (8 * mq c 3 + 4) (off7a2 c) _ _) $$ HB3; iintro HB3
  ihave HB3 := (acc_conv 4 c (8 * mq c 3 + 4) (w := k0_pay28 (h1 (part m c (mq c 3))) (k0_pay9 (AB m 2 (pr c)))) (w' := AB m 3 c) rfl) $$ HB3
  ihave HF1 := (acc_tiles c (8 * mq c 1) (AF m 3 c) (perm_p0123 c)) $$ HF1
  icases HF1 with ⟨HTF0, HTF1, HTF2, HTF3⟩
  ihave HTF0 := (acc_conv 1 c (8 * mq c 1 + mp c 0) (w := tl (AF m 3 c) (mp c 0)) (w' := ZF m 0 c) rfl) $$ HTF0
  ihave HB3 := (acc_tiles c (8 * mq c 3 + 4) (AB m 3 c) (perm_p0123 c)) $$ HB3
  icases HB3 with ⟨HTB0, HTB1, HTB2, HTB3⟩
  ihave HTB0 := (acc_conv 1 c (8 * mq c 3 + 4 + mp c 0) (w := tl (AB m 3 c) (mp c 0)) (w' := ZB m 0 c) rfl) $$ HTB0
  iapply (ret_step c)
  iapply Hk
  isplitl [HOW]; · iexact HOW
  isplitl [HS5]; · iexact HS5
  isplitl [HpcB2]; · iexact HpcB2
  isplitl [HpcF2]; · iexact HpcF2
  isplitl [HTF0]; · iexact HTF0
  isplitl [HTF1]; · iexact HTF1
  isplitl [HTF2]; · iexact HTF2
  isplitl [HTF3]; · iexact HTF3
  isplitl [HTB0]; · iexact HTB0
  isplitl [HTB1]; · iexact HTB1
  isplitl [HTB2]; · iexact HTB2
  iexact HTB3

/-- Part 18. -/
theorem part_18 (v19 : BitVec 32) (v32 : BitVec 32) (v536 : BitVec 32) (v538 : BitVec 32) (v541 : BitVec 32)  {Φ : (Σ' (v544 : BitVec 32), BitVec 32) → sProp 𝕄} :
    iprop(Ctx m ∗ accP 1 c (8 * mq c 1 + mp c 0) (ZF m 0 c) ∗ jn3 zsF c 0 ∗ accP 1 c (8 * mq c 3 + 4 + mp c 0) (ZB m 0 c) ∗ jn3 zsB c 0)
      ⊢ iprop((∀ (v544 : BitVec 32) (v549 : BitVec 32), (accP 1 c (8 * mq c 1 + mp c 0) (ZF m 0 c) ∗ st3 zsF c 0 (k0_pay29 (ZF m 0 c)) ∗ accP 1 c (8 * mq c 3 + 4 + mp c 0) (ZB m 0 c) ∗ st3 zsB c 0 (k0_pay29 (ZB m 0 c))) -∗ Φ ⟨v544, v549⟩)
        -∗ WP c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v19 v32 v536 v538 v541) Φ) := by
  simp only [k0_part18_eq_skeleton]; unfold k0_part18_skel
  simp only [semSignalWord, semWaitWord, Prog.lift, Prog.bind_op, Prog.bind_ret, Prog.pure_eq_ret]
  iintro ⟨#HC, HTF0, HzsF0, HTB0, HzsB0⟩ Hk
  iapply (ld_acc 1 c (8 * mq c 1 + mp c 0) (off8s0 c) _) $$ HTF0; iintro HTF0
  iapply (ldj3 c 0 zsF rfl) $$ HzsF0; iintro %v556 HzsF0
  iapply (str3 c 0 zsF _ rfl) $$ HzsF0; iintro HzsF0
  ihave HzsF0 := (st3_conv c zsF 0 (w := k0_pay29 (ZF m 0 c)) (w' := k0_pay29 (ZF m 0 c)) rfl) $$ HzsF0
  iapply (ld_acc 1 c (8 * mq c 3 + 4 + mp c 0) (off9s0 c) _) $$ HTB0; iintro HTB0
  iapply (ldj3 c 0 zsB rfl) $$ HzsB0; iintro %v566 HzsB0
  iapply (str3 c 0 zsB _ rfl) $$ HzsB0; iintro HzsB0
  ihave HzsB0 := (st3_conv c zsB 0 (w := k0_pay30 (ZB m 0 c)) (w' := k0_pay29 (ZB m 0 c)) rfl) $$ HzsB0
  iapply (ret_step c)
  iapply Hk
  isplitl [HTF0]; · iexact HTF0
  isplitl [HzsF0]; · iexact HzsF0
  isplitl [HTB0]; · iexact HTB0
  iexact HzsB0

/-- Part 19. -/
theorem part_19 (v32 : BitVec 32) (v36 : BitVec 32)  {Φ : (PUnit) → sProp 𝕄} :
    iprop(Ctx m ∗ ow c 6 ∗ s0 c 6 ∗ land (F := F) (peer c (((6 : Fin 24)).val)) (((6 : Fin 24)).val) ∗ st3 zsF c 0 (k0_pay29 (ZF m 0 c)) ∗ s0 c 9 ∗ land (F := F) (peer c (((9 : Fin 24)).val)) (((9 : Fin 24)).val) ∗ st3 zsB c 0 (k0_pay29 (ZB m 0 c)))
      ⊢ iprop(((ow c 8 ∗ s2 c 6 ∗ jn3 zsF c 0 ∗ s1 c 9) -∗ Φ ⟨⟩)
        -∗ WP c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v32 v36) Φ) := by
  simp only [k0_part19_eq_skeleton]; unfold k0_part19_skel
  simp only [semSignalWord, semWaitWord, Prog.lift, Prog.bind_op, Prog.bind_ret, Prog.pure_eq_ret]
  iintro ⟨#HC, HOW, HS6, HL6, HzsF0, HS9, HL9, HzsB0⟩ Hk
  iapply (send3 m c 6 (M := zsF) (Mc := zcF) 0 (k0_pay29 (ZF m 0 c)) (i := 6) (j := 7) (by decide) (by decide) rfl rfl
      (by show st3 zcF (zr c) 0 (k0_pay29 (ZF m 0 (zl (zr c)))) = st3 zcF (zr c) 0 (k0_pay29 (ZF m 0 c)); rw [zl_zr])
      (dev11 c) rfl rfl semS6 semR6 (cred3 _)) $$ [HS6 HOW HzsF0 HL6]
  · isplitr; · iexact HC
    isplitl [HS6]; · iexact HS6
    isplitl [HOW]; · iexact HOW
    isplitl [HzsF0]; · iexact HzsF0
    iexact HL6
  iintro ⟨HS6, HOW⟩
  iapply (send3 m c 9 (M := zsB) (Mc := zcB) 0 (k0_pay29 (ZB m 0 c)) (i := 7) (j := 8) (by decide) (by decide) rfl rfl
      (by show st3 zcB (zl c) 0 (k0_pay29 (ZB m 0 (zr (zl c)))) = st3 zcB (zl c) 0 (k0_pay29 (ZB m 0 c)); rw [zr_zl])
      (dev12 c) rfl rfl semS9 semR9 (cred3 _)) $$ [HS9 HOW HzsB0 HL9]
  · isplitr; · iexact HC
    isplitl [HS9]; · iexact HS9
    isplitl [HOW]; · iexact HOW
    isplitl [HzsB0]; · iexact HzsB0
    iexact HL9
  iintro ⟨HS9, HOW⟩
  iapply (wait_send m c 6 8 semS6 (cred3 _)) $$ [HS6 HOW]
  · isplitr; · iexact HC
    isplitl [HS6]; · iexact HS6
    iexact HOW
  iintro ⟨HS6, HOW, HzsF0⟩
  ihave HzsF0 := (Entails.of_eq (show sendPay m c (((6 : Fin 24)).val) = jn3 zsF c 0 from rfl)) $$ HzsF0
  iapply (ret_step c)
  iapply Hk
  isplitl [HOW]; · iexact HOW
  isplitl [HS6]; · iexact HS6
  isplitl [HzsF0]; · iexact HzsF0
  iexact HS9

/-- Part 20. -/
theorem part_20 (v36 : BitVec 32) (v536 : BitVec 32) (v538 : BitVec 32) (v544 : BitVec 32) (v549 : BitVec 32)  {Φ : (Σ' (v618 : BitVec 32) (v621 : BitVec 32) (v624 : FVec F S128x512 .f32), FVec F S128x512 .bf16) → sProp 𝕄} :
    iprop(Ctx m ∗ ow c 8 ∗ s2 c 6 ∗ s1 c 9 ∗ accP 1 c (8 * mq c 1 + mp c 3) (tl (AF m 3 c) (mp c 3)))
      ⊢ iprop((∀ (v618 : BitVec 32) (v621 : BitVec 32), (ow c 8 ∗ s3 c 6 ∗ st3 zcF c 0 (k0_pay29 (ZF m 0 (zl c))) ∗ s3 c 9 ∗ jn3 zsB c 0 ∗ st3 zcB c 0 (k0_pay29 (ZB m 0 (zr c))) ∗ accP 1 c (8 * mq c 1 + mp c 3) (tl (AF m 3 c) (mp c 3))) -∗ Φ ⟨v618, v621, k0_pay31 (tl (AF m 3 c) (mp c 3)), k0_pay32 (k0_pay29 (ZF m 0 (zl c)))⟩)
        -∗ WP c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v36 v536 v538 v544 v549) Φ) := by
  simp only [k0_part20_eq_skeleton]; unfold k0_part20_skel
  simp only [semSignalWord, semWaitWord, Prog.lift, Prog.bind_op, Prog.bind_ret, Prog.pure_eq_ret]
  iintro ⟨#HC, HOW, HS6, HS9, HTF3⟩ Hk
  iapply (wait_recv m c 6 8 (by decide) semR6 (cred3 _)) $$ [HS6 HOW]
  · isplitr; · iexact HC
    isplitl [HS6]; · iexact HS6
    iexact HOW
  iintro ⟨HS6, HOW, HzcF0⟩
  ihave HzcF0 := (Entails.of_eq (show recvPay m c (((6 : Fin 24)).val) = st3 zcF c 0 (k0_pay29 (ZF m 0 (zl c))) from rfl)) $$ HzcF0
  iapply (wait_send m c 9 8 semS9 (cred3 _)) $$ [HS9 HOW]
  · isplitr; · iexact HC
    isplitl [HS9]; · iexact HS9
    iexact HOW
  iintro ⟨HS9, HOW, HzsB0⟩
  ihave HzsB0 := (Entails.of_eq (show sendPay m c (((9 : Fin 24)).val) = jn3 zsB c 0 from rfl)) $$ HzsB0
  iapply (wait_recv m c 9 8 (by decide) semR9 (cred3 _)) $$ [HS9 HOW]
  · isplitr; · iexact HC
    isplitl [HS9]; · iexact HS9
    iexact HOW
  iintro ⟨HS9, HOW, HzcB0⟩
  ihave HzcB0 := (Entails.of_eq (show recvPay m c (((9 : Fin 24)).val) = st3 zcB c 0 (k0_pay29 (ZB m 0 (zr c))) from rfl)) $$ HzcB0
  iapply (ld_acc 1 c (8 * mq c 1 + mp c 3) (off8a0 c) _) $$ HTF3; iintro HTF3
  iapply (ld3 c 0 zcF _ rfl) $$ HzcF0; iintro HzcF0
  iapply (ret_step c)
  iapply Hk
  isplitl [HOW]; · iexact HOW
  isplitl [HS6]; · iexact HS6
  isplitl [HzcF0]; · iexact HzcF0
  isplitl [HS9]; · iexact HS9
  isplitl [HzsB0]; · iexact HzsB0
  isplitl [HzcB0]; · iexact HzcB0
  iexact HTF3

/-- Part 21. -/
theorem part_21 (v19 : BitVec 32) (v536 : BitVec 32) (v618 : BitVec 32) (v621 : BitVec 32)  {Φ : (Σ' (v649 : BitVec 32) (v651 : BitVec 32) (v654 : BitVec 32), FVec F S128x512 .bf16) → sProp 𝕄} :
    iprop(Ctx m ∗ accP 1 c (8 * mq c 1 + mp c 3) (tl (AF m 3 c) (mp c 3)) ∗ accP 1 c (8 * mq c 3 + 4 + mp c 1) (tl (AB m 3 c) (mp c 1)) ∗ st3 zcB c 0 (k0_pay29 (ZB m 0 (zr c))))
      ⊢ iprop((∀ (v649 : BitVec 32) (v651 : BitVec 32) (v654 : BitVec 32), (accP 1 c (8 * mq c 1 + mp c 3) (ZF m 1 c) ∗ accP 1 c (8 * mq c 3 + 4 + mp c 1) (ZB m 1 c) ∗ st3 zcB c 0 (k0_pay29 (ZB m 0 (zr c)))) -∗ Φ ⟨v649, v651, v654, k0_pay35 (ZF m 1 c)⟩)
        -∗ WP c (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v19 v536 v618 v621 (k0_pay31 (tl (AF m 3 c) (mp c 3))) (k0_pay32 (k0_pay29 (ZF m 0 (zl c))))) Φ) := by
  simp only [k0_part21_eq_skeleton]; unfold k0_part21_skel
  simp only [semSignalWord, semWaitWord, Prog.lift, Prog.bind_op, Prog.bind_ret, Prog.pure_eq_ret]
  iintro ⟨#HC, HTF3, HTB1, HzcB0⟩ Hk
  iapply (ld_acc 1 c (8 * mq c 1 + mp c 3) (off8a0 c) _) $$ HTF3; iintro HTF3
  iapply (st_acc 1 c (8 * mq c 1 + mp c 3) (off8a0 c) _ _) $$ HTF3; iintro HTF3
  ihave HTF3 := (acc_conv 1 c (8 * mq c 1 + mp c 3) (w := k0_pay33 (k0_pay31 (tl (AF m 3 c) (mp c 3))) (k0_pay32 (k0_pay29 (ZF m 0 (zl c))))) (w' := ZF m 1 c) rfl) $$ HTF3
  iapply (ld_acc 1 c (8 * mq c 3 + 4 + mp c 1) (off10a0 c) _) $$ HTB1; iintro HTB1
  iapply (ld3 c 0 zcB _ rfl) $$ HzcB0; iintro HzcB0
  iapply (ld_acc 1 c (8 * mq c 3 + 4 + mp c 1) (off10a0 c) _) $$ HTB1; iintro HTB1
  iapply (st_acc 1 c (8 * mq c 3 + 4 + mp c 1) (off10a0 c) _ _) $$ HTB1; iintro HTB1
  ihave HTB1 := (acc_conv 1 c (8 * mq c 3 + 4 + mp c 1) (w := k0_pay34 (tl (AB m 3 c) (mp c 1)) (k0_pay29 (ZB m 0 (zr c)))) (w' := ZB m 1 c) rfl) $$ HTB1
  iapply (ld_acc 1 c (8 * mq c 1 + mp c 3) (off8s1 c) _) $$ HTF3; iintro HTF3
  iapply (ret_step c)
  iapply Hk
  isplitl [HTF3]; · iexact HTF3
  isplitl [HTB1]; · iexact HTB1
  iexact HzcB0

/-- Part 22. -/
theorem part_22 (v32 : BitVec 32) (v36 : BitVec 32) (v538 : BitVec 32) (v651 : BitVec 32)  {Φ : (PUnit) → sProp 𝕄} :
    iprop(Ctx m ∗ jn3 zsF c 1 ∗ accP 1 c (8 * mq c 3 + 4 + mp c 1) (ZB m 1 c) ∗ jn3 zsB c 1 ∗ ow c 8 ∗ s0 c 7 ∗ land (F := F) (peer c (((7 : Fin 24)).val)) (((7 : Fin 24)).val))
      ⊢ iprop(((accP 1 c (8 * mq c 3 + 4 + mp c 1) (ZB m 1 c) ∗ st3 zsB c 1 (k0_pay29 (ZB m 1 c)) ∗ ow c 9 ∗ s1 c 7) -∗ Φ ⟨⟩)
        -∗ WP c (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v32 v36 v538 v651 (k0_pay35 (ZF m 1 c))) Φ) := by
  simp only [k0_part22_eq_skeleton]; unfold k0_part22_skel
  simp only [semSignalWord, semWaitWord, Prog.lift, Prog.bind_op, Prog.bind_ret, Prog.pure_eq_ret]
  iintro ⟨#HC, HzsF1, HTB1, HzsB1, HOW, HS7, HL7⟩ Hk
  iapply (ldj3 c 1 zsF rfl) $$ HzsF1; iintro %v661 HzsF1
  iapply (str3 c 1 zsF _ rfl) $$ HzsF1; iintro HzsF1
  ihave HzsF1 := (st3_conv c zsF 1 (w := k0_pay36 (k0_pay35 (ZF m 1 c))) (w' := k0_pay29 (ZF m 1 c)) rfl) $$ HzsF1
  iapply (ld_acc 1 c (8 * mq c 3 + 4 + mp c 1) (off9s1 c) _) $$ HTB1; iintro HTB1
  iapply (ldj3 c 1 zsB rfl) $$ HzsB1; iintro %v671 HzsB1
  iapply (str3 c 1 zsB _ rfl) $$ HzsB1; iintro HzsB1
  ihave HzsB1 := (st3_conv c zsB 1 (w := k0_pay37 (ZB m 1 c)) (w' := k0_pay29 (ZB m 1 c)) rfl) $$ HzsB1
  iapply (send3 m c 7 (M := zsF) (Mc := zcF) 1 (k0_pay29 (ZF m 1 c)) (i := 8) (j := 9) (by decide) (by decide) rfl rfl
      (by show st3 zcF (zr c) 1 (k0_pay29 (ZF m 1 (zl (zr c)))) = st3 zcF (zr c) 1 (k0_pay29 (ZF m 1 c)); rw [zl_zr])
      (dev13 c) rfl rfl semS7 semR7 (cred3 _)) $$ [HS7 HOW HzsF1 HL7]
  · isplitr; · iexact HC
    isplitl [HS7]; · iexact HS7
    isplitl [HOW]; · iexact HOW
    isplitl [HzsF1]; · iexact HzsF1
    iexact HL7
  iintro ⟨HS7, HOW⟩
  iapply (ret_step c)
  iapply Hk
  isplitl [HTB1]; · iexact HTB1
  isplitl [HzsB1]; · iexact HzsB1
  isplitl [HOW]; · iexact HOW
  iexact HS7

/-- Part 23. -/
theorem part_23 (v32 : BitVec 32)  {Φ : (PUnit) → sProp 𝕄} :
    iprop(Ctx m ∗ ow c 9 ∗ s0 c 10 ∗ land (F := F) (peer c (((10 : Fin 24)).val)) (((10 : Fin 24)).val) ∗ st3 zsB c 1 (k0_pay29 (ZB m 1 c)) ∗ s1 c 7)
      ⊢ iprop(((ow c 10 ∗ s2 c 10 ∗ jn3 zsB c 1 ∗ s3 c 7 ∗ jn3 zsF c 1 ∗ st3 zcF c 1 (k0_pay29 (ZF m 1 (zl c)))) -∗ Φ ⟨⟩)
        -∗ WP c (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v32) Φ) := by
  simp only [k0_part23_eq_skeleton]; unfold k0_part23_skel
  simp only [semSignalWord, semWaitWord, Prog.lift, Prog.bind_op, Prog.bind_ret, Prog.pure_eq_ret]
  iintro ⟨#HC, HOW, HS10, HL10, HzsB1, HS7⟩ Hk
  iapply (send3 m c 10 (M := zsB) (Mc := zcB) 1 (k0_pay29 (ZB m 1 c)) (i := 9) (j := 10) (by decide) (by decide) rfl rfl
      (by show st3 zcB (zl c) 1 (k0_pay29 (ZB m 1 (zr (zl c)))) = st3 zcB (zl c) 1 (k0_pay29 (ZB m 1 c)); rw [zr_zl])
      (dev14 c) rfl rfl semS10 semR10 (cred3 _)) $$ [HS10 HOW HzsB1 HL10]
  · isplitr; · iexact HC
    isplitl [HS10]; · iexact HS10
    isplitl [HOW]; · iexact HOW
    isplitl [HzsB1]; · iexact HzsB1
    iexact HL10
  iintro ⟨HS10, HOW⟩
  iapply (wait_send m c 7 10 semS7 (cred3 _)) $$ [HS7 HOW]
  · isplitr; · iexact HC
    isplitl [HS7]; · iexact HS7
    iexact HOW
  iintro ⟨HS7, HOW, HzsF1⟩
  ihave HzsF1 := (Entails.of_eq (show sendPay m c (((7 : Fin 24)).val) = jn3 zsF c 1 from rfl)) $$ HzsF1
  iapply (wait_recv m c 7 10 (by decide) semR7 (cred3 _)) $$ [HS7 HOW]
  · isplitr; · iexact HC
    isplitl [HS7]; · iexact HS7
    iexact HOW
  iintro ⟨HS7, HOW, HzcF1⟩
  ihave HzcF1 := (Entails.of_eq (show recvPay m c (((7 : Fin 24)).val) = st3 zcF c 1 (k0_pay29 (ZF m 1 (zl c))) from rfl)) $$ HzcF1
  iapply (wait_send m c 10 10 semS10 (cred3 _)) $$ [HS10 HOW]
  · isplitr; · iexact HC
    isplitl [HS10]; · iexact HS10
    iexact HOW
  iintro ⟨HS10, HOW, HzsB1⟩
  ihave HzsB1 := (Entails.of_eq (show sendPay m c (((10 : Fin 24)).val) = jn3 zsB c 1 from rfl)) $$ HzsB1
  iapply (ret_step c)
  iapply Hk
  isplitl [HOW]; · iexact HOW
  isplitl [HS10]; · iexact HS10
  isplitl [HzsB1]; · iexact HzsB1
  isplitl [HS7]; · iexact HS7
  isplitl [HzsF1]; · iexact HzsF1
  iexact HzcF1

/-- Part 24. -/
theorem part_24 (v36 : BitVec 32) (v536 : BitVec 32) (v538 : BitVec 32) (v649 : BitVec 32) (v654 : BitVec 32)  {Φ : (FVec F S128x512 .f32) → sProp 𝕄} :
    iprop(Ctx m ∗ ow c 10 ∗ s2 c 10 ∗ accP 1 c (8 * mq c 1 + mp c 2) (tl (AF m 3 c) (mp c 2)) ∗ st3 zcF c 1 (k0_pay29 (ZF m 1 (zl c))) ∗ accP 1 c (8 * mq c 3 + 4 + mp c 2) (tl (AB m 3 c) (mp c 2)))
      ⊢ iprop(((ow c 10 ∗ s3 c 10 ∗ st3 zcB c 1 (k0_pay29 (ZB m 1 (zr c))) ∗ accP 1 c (8 * mq c 1 + mp c 2) (ZF m 2 c) ∗ st3 zcF c 1 (k0_pay29 (ZF m 1 (zl c))) ∗ accP 1 c (8 * mq c 3 + 4 + mp c 2) (tl (AB m 3 c) (mp c 2))) -∗ Φ (k0_pay39 (tl (AB m 3 c) (mp c 2)) (k0_pay29 (ZB m 1 (zr c)))))
        -∗ WP c (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v36 v536 v538 v649 v654) Φ) := by
  simp only [k0_part24_eq_skeleton]; unfold k0_part24_skel
  simp only [semSignalWord, semWaitWord, Prog.lift, Prog.bind_op, Prog.bind_ret, Prog.pure_eq_ret]
  iintro ⟨#HC, HOW, HS10, HTF2, HzcF1, HTB2⟩ Hk
  iapply (wait_recv m c 10 10 (by decide) semR10 (cred3 _)) $$ [HS10 HOW]
  · isplitr; · iexact HC
    isplitl [HS10]; · iexact HS10
    iexact HOW
  iintro ⟨HS10, HOW, HzcB1⟩
  ihave HzcB1 := (Entails.of_eq (show recvPay m c (((10 : Fin 24)).val) = st3 zcB c 1 (k0_pay29 (ZB m 1 (zr c))) from rfl)) $$ HzcB1
  iapply (ld_acc 1 c (8 * mq c 1 + mp c 2) (off8a1 c) _) $$ HTF2; iintro HTF2
  iapply (ld3 c 1 zcF _ rfl) $$ HzcF1; iintro HzcF1
  iapply (ld_acc 1 c (8 * mq c 1 + mp c 2) (off8a1 c) _) $$ HTF2; iintro HTF2
  iapply (st_acc 1 c (8 * mq c 1 + mp c 2) (off8a1 c) _ _) $$ HTF2; iintro HTF2
  ihave HTF2 := (acc_conv 1 c (8 * mq c 1 + mp c 2) (w := k0_pay38 (tl (AF m 3 c) (mp c 2)) (k0_pay29 (ZF m 1 (zl c)))) (w' := ZF m 2 c) rfl) $$ HTF2
  iapply (ld_acc 1 c (8 * mq c 3 + 4 + mp c 2) (off10a1 c) _) $$ HTB2; iintro HTB2
  iapply (ld3 c 1 zcB _ rfl) $$ HzcB1; iintro HzcB1
  iapply (ld_acc 1 c (8 * mq c 3 + 4 + mp c 2) (off10a1 c) _) $$ HTB2; iintro HTB2
  iapply (ret_step c)
  iapply Hk
  isplitl [HOW]; · iexact HOW
  isplitl [HS10]; · iexact HS10
  isplitl [HzcB1]; · iexact HzcB1
  isplitl [HTF2]; · iexact HTF2
  isplitl [HzcF1]; · iexact HzcF1
  iexact HTB2

/-- Part 25. -/
theorem part_25 (v19 : BitVec 32) (v536 : BitVec 32) (v538 : BitVec 32)  {Φ : (Σ' (v754 : BitVec 32), BitVec 32) → sProp 𝕄} :
    iprop(Ctx m ∗ accP 1 c (8 * mq c 3 + 4 + mp c 2) (tl (AB m 3 c) (mp c 2)) ∗ accP 1 c (8 * mq c 1 + mp c 2) (ZF m 2 c) ∗ jn3 zsF c 2 ∗ jn3 zsB c 2)
      ⊢ iprop((∀ (v754 : BitVec 32) (v759 : BitVec 32), (accP 1 c (8 * mq c 3 + 4 + mp c 2) (ZB m 2 c) ∗ accP 1 c (8 * mq c 1 + mp c 2) (ZF m 2 c) ∗ st3 zsF c 2 (k0_pay29 (ZF m 2 c)) ∗ st3 zsB c 2 (k0_pay29 (ZB m 2 c))) -∗ Φ ⟨v754, v759⟩)
        -∗ WP c (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v19 v536 v538 (k0_pay39 (tl (AB m 3 c) (mp c 2)) (k0_pay29 (ZB m 1 (zr c))))) Φ) := by
  simp only [k0_part25_eq_skeleton]; unfold k0_part25_skel
  simp only [semSignalWord, semWaitWord, Prog.lift, Prog.bind_op, Prog.bind_ret, Prog.pure_eq_ret]
  iintro ⟨#HC, HTB2, HTF2, HzsF2, HzsB2⟩ Hk
  iapply (st_acc 1 c (8 * mq c 3 + 4 + mp c 2) (off10a1 c) _ _) $$ HTB2; iintro HTB2
  ihave HTB2 := (acc_conv 1 c (8 * mq c 3 + 4 + mp c 2) (w := k0_pay40 (k0_pay39 (tl (AB m 3 c) (mp c 2)) (k0_pay29 (ZB m 1 (zr c))))) (w' := ZB m 2 c) rfl) $$ HTB2
  iapply (ld_acc 1 c (8 * mq c 1 + mp c 2) (off8s2 c) _) $$ HTF2; iintro HTF2
  iapply (ldj3 c 2 zsF rfl) $$ HzsF2; iintro %v766 HzsF2
  iapply (str3 c 2 zsF _ rfl) $$ HzsF2; iintro HzsF2
  ihave HzsF2 := (st3_conv c zsF 2 (w := k0_pay41 (ZF m 2 c)) (w' := k0_pay29 (ZF m 2 c)) rfl) $$ HzsF2
  iapply (ld_acc 1 c (8 * mq c 3 + 4 + mp c 2) (off9s2 c) _) $$ HTB2; iintro HTB2
  iapply (ldj3 c 2 zsB rfl) $$ HzsB2; iintro %v776 HzsB2
  iapply (str3 c 2 zsB _ rfl) $$ HzsB2; iintro HzsB2
  ihave HzsB2 := (st3_conv c zsB 2 (w := k0_pay42 (ZB m 2 c)) (w' := k0_pay29 (ZB m 2 c)) rfl) $$ HzsB2
  iapply (ret_step c)
  iapply Hk
  isplitl [HTB2]; · iexact HTB2
  isplitl [HTF2]; · iexact HTF2
  isplitl [HzsF2]; · iexact HzsF2
  iexact HzsB2

/-- Part 26. -/
theorem part_26 (v32 : BitVec 32) (v36 : BitVec 32)  {Φ : (PUnit) → sProp 𝕄} :
    iprop(Ctx m ∗ ow c 10 ∗ s0 c 8 ∗ land (F := F) (peer c (((8 : Fin 24)).val)) (((8 : Fin 24)).val) ∗ st3 zsF c 2 (k0_pay29 (ZF m 2 c)) ∗ s0 c 11 ∗ land (F := F) (peer c (((11 : Fin 24)).val)) (((11 : Fin 24)).val) ∗ st3 zsB c 2 (k0_pay29 (ZB m 2 c)))
      ⊢ iprop(((ow c 12 ∗ s2 c 8 ∗ jn3 zsF c 2 ∗ s1 c 11) -∗ Φ ⟨⟩)
        -∗ WP c (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v32 v36) Φ) := by
  simp only [k0_part26_eq_skeleton]; unfold k0_part26_skel
  simp only [semSignalWord, semWaitWord, Prog.lift, Prog.bind_op, Prog.bind_ret, Prog.pure_eq_ret]
  iintro ⟨#HC, HOW, HS8, HL8, HzsF2, HS11, HL11, HzsB2⟩ Hk
  iapply (send3 m c 8 (M := zsF) (Mc := zcF) 2 (k0_pay29 (ZF m 2 c)) (i := 10) (j := 11) (by decide) (by decide) rfl rfl
      (by show st3 zcF (zr c) 2 (k0_pay29 (ZF m 2 (zl (zr c)))) = st3 zcF (zr c) 2 (k0_pay29 (ZF m 2 c)); rw [zl_zr])
      (dev15 c) rfl rfl semS8 semR8 (cred3 _)) $$ [HS8 HOW HzsF2 HL8]
  · isplitr; · iexact HC
    isplitl [HS8]; · iexact HS8
    isplitl [HOW]; · iexact HOW
    isplitl [HzsF2]; · iexact HzsF2
    iexact HL8
  iintro ⟨HS8, HOW⟩
  iapply (send3 m c 11 (M := zsB) (Mc := zcB) 2 (k0_pay29 (ZB m 2 c)) (i := 11) (j := 12) (by decide) (by decide) rfl rfl
      (by show st3 zcB (zl c) 2 (k0_pay29 (ZB m 2 (zr (zl c)))) = st3 zcB (zl c) 2 (k0_pay29 (ZB m 2 c)); rw [zr_zl])
      (dev16 c) rfl rfl semS11 semR11 (cred3 _)) $$ [HS11 HOW HzsB2 HL11]
  · isplitr; · iexact HC
    isplitl [HS11]; · iexact HS11
    isplitl [HOW]; · iexact HOW
    isplitl [HzsB2]; · iexact HzsB2
    iexact HL11
  iintro ⟨HS11, HOW⟩
  iapply (wait_send m c 8 12 semS8 (cred3 _)) $$ [HS8 HOW]
  · isplitr; · iexact HC
    isplitl [HS8]; · iexact HS8
    iexact HOW
  iintro ⟨HS8, HOW, HzsF2⟩
  ihave HzsF2 := (Entails.of_eq (show sendPay m c (((8 : Fin 24)).val) = jn3 zsF c 2 from rfl)) $$ HzsF2
  iapply (ret_step c)
  iapply Hk
  isplitl [HOW]; · iexact HOW
  isplitl [HS8]; · iexact HS8
  isplitl [HzsF2]; · iexact HzsF2
  iexact HS11

/-- Part 27. -/
theorem part_27 (v32 : BitVec 32) (v36 : BitVec 32) (v536 : BitVec 32) (v538 : BitVec 32) (v754 : BitVec 32) (v759 : BitVec 32)  {Φ : (Σ' (v828 : BitVec 32), BitVec 32) → sProp 𝕄} :
    iprop(Ctx m ∗ ow c 12 ∗ s2 c 8 ∗ s1 c 11)
      ⊢ iprop((∀ (v828 : BitVec 32) (v831 : BitVec 32), (ow c 12 ∗ s3 c 8 ∗ st3 zcF c 2 (k0_pay29 (ZF m 2 (zl c))) ∗ s3 c 11 ∗ jn3 zsB c 2 ∗ st3 zcB c 2 (k0_pay29 (ZB m 2 (zr c)))) -∗ Φ ⟨v828, v831⟩)
        -∗ WP c (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 v32 v36 v536 v538 v754 v759) Φ) := by
  simp only [k0_part27_eq_skeleton]; unfold k0_part27_skel
  simp only [semSignalWord, semWaitWord, Prog.lift, Prog.bind_op, Prog.bind_ret, Prog.pure_eq_ret]
  iintro ⟨#HC, HOW, HS8, HS11⟩ Hk
  iapply (wait_recv m c 8 12 (by decide) semR8 (cred3 _)) $$ [HS8 HOW]
  · isplitr; · iexact HC
    isplitl [HS8]; · iexact HS8
    iexact HOW
  iintro ⟨HS8, HOW, HzcF2⟩
  ihave HzcF2 := (Entails.of_eq (show recvPay m c (((8 : Fin 24)).val) = st3 zcF c 2 (k0_pay29 (ZF m 2 (zl c))) from rfl)) $$ HzcF2
  iapply (wait_send m c 11 12 semS11 (cred3 _)) $$ [HS11 HOW]
  · isplitr; · iexact HC
    isplitl [HS11]; · iexact HS11
    iexact HOW
  iintro ⟨HS11, HOW, HzsB2⟩
  ihave HzsB2 := (Entails.of_eq (show sendPay m c (((11 : Fin 24)).val) = jn3 zsB c 2 from rfl)) $$ HzsB2
  iapply (wait_recv m c 11 12 (by decide) semR11 (cred3 _)) $$ [HS11 HOW]
  · isplitr; · iexact HC
    isplitl [HS11]; · iexact HS11
    iexact HOW
  iintro ⟨HS11, HOW, HzcB2⟩
  ihave HzcB2 := (Entails.of_eq (show recvPay m c (((11 : Fin 24)).val) = st3 zcB c 2 (k0_pay29 (ZB m 2 (zr c))) from rfl)) $$ HzcB2
  iapply (ret_step c)
  iapply Hk
  isplitl [HOW]; · iexact HOW
  isplitl [HS8]; · iexact HS8
  isplitl [HzcF2]; · iexact HzcF2
  isplitl [HS11]; · iexact HS11
  isplitl [HzsB2]; · iexact HzsB2
  iexact HzcB2

/-- Part 28. -/
theorem part_28 (v19 : BitVec 32) (v536 : BitVec 32) (v828 : BitVec 32) (v831 : BitVec 32)  {Φ : (Σ' (v857 : BitVec 32) (v863 : FVec F S128x512 .bf16), Vec F S1x128x512 .bf16) → sProp 𝕄} :
    iprop(Ctx m ∗ accP 1 c (8 * mq c 1 + mp c 1) (tl (AF m 3 c) (mp c 1)) ∗ st3 zcF c 2 (k0_pay29 (ZF m 2 (zl c))) ∗ accP 1 c (8 * mq c 3 + 4 + mp c 3) (tl (AB m 3 c) (mp c 3)) ∗ st3 zcB c 2 (k0_pay29 (ZB m 2 (zr c))) ∗ agJ 1 c (8 * mq c 1 + mp c 5))
      ⊢ iprop((∀ (v857 : BitVec 32) (v867 : Vec F S1x128x512 .bf16), (accP 1 c (8 * mq c 1 + mp c 1) (ZF m 3 c) ∗ st3 zcF c 2 (k0_pay29 (ZF m 2 (zl c))) ∗ accP 1 c (8 * mq c 3 + 4 + mp c 3) (ZB m 3 c) ∗ st3 zcB c 2 (k0_pay29 (ZB m 2 (zr c))) ∗ agJ 1 c (8 * mq c 1 + mp c 5)) -∗ Φ ⟨v857, k0_pay45 (ZF m 3 c), v867⟩)
        -∗ WP c (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v19 v536 v828 v831) Φ) := by
  simp only [k0_part28_eq_skeleton]; unfold k0_part28_skel
  simp only [semSignalWord, semWaitWord, Prog.lift, Prog.bind_op, Prog.bind_ret, Prog.pure_eq_ret]
  iintro ⟨#HC, HTF1, HzcF2, HTB3, HzcB2, HGA5⟩ Hk
  iapply (ld_acc 1 c (8 * mq c 1 + mp c 1) (off8a2 c) _) $$ HTF1; iintro HTF1
  iapply (ld3 c 2 zcF _ rfl) $$ HzcF2; iintro HzcF2
  iapply (ld_acc 1 c (8 * mq c 1 + mp c 1) (off8a2 c) _) $$ HTF1; iintro HTF1
  iapply (st_acc 1 c (8 * mq c 1 + mp c 1) (off8a2 c) _ _) $$ HTF1; iintro HTF1
  ihave HTF1 := (acc_conv 1 c (8 * mq c 1 + mp c 1) (w := k0_pay43 (tl (AF m 3 c) (mp c 1)) (k0_pay29 (ZF m 2 (zl c)))) (w' := ZF m 3 c) rfl) $$ HTF1
  iapply (ld_acc 1 c (8 * mq c 3 + 4 + mp c 3) (off10a2 c) _) $$ HTB3; iintro HTB3
  iapply (ld3 c 2 zcB _ rfl) $$ HzcB2; iintro HzcB2
  iapply (ld_acc 1 c (8 * mq c 3 + 4 + mp c 3) (off10a2 c) _) $$ HTB3; iintro HTB3
  iapply (st_acc 1 c (8 * mq c 3 + 4 + mp c 3) (off10a2 c) _ _) $$ HTB3; iintro HTB3
  ihave HTB3 := (acc_conv 1 c (8 * mq c 3 + 4 + mp c 3) (w := k0_pay44 (tl (AB m 3 c) (mp c 3)) (k0_pay29 (ZB m 2 (zr c)))) (w' := ZB m 3 c) rfl) $$ HTB3
  iapply (ld_acc 1 c (8 * mq c 1 + mp c 1) (off11o c) _) $$ HTF1; iintro HTF1
  iapply (ld_agJ 1 c (8 * mq c 1 + mp c 5) (off11g c)) $$ HGA5; iintro %v867 HGA5
  iapply (ret_step c)
  iapply Hk
  isplitl [HTF1]; · iexact HTF1
  isplitl [HzcF2]; · iexact HzcF2
  isplitl [HTB3]; · iexact HTB3
  isplitl [HzcB2]; · iexact HzcB2
  iexact HGA5

end Cert.KernelIdeal.Ring
-- ==== Proof.KernelIdealParts3.lean ====
/-
Parts 29 to 40 of the kernel's body: what each consumes, what it leaves, what it returns.
-/
module

public import proofs.«01_k».proof.Proof.KernelIdealMoves

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- Part 29. -/
theorem part_29 (v19 : BitVec 32) (v32 : BitVec 32) (v536 : BitVec 32) (v538 : BitVec 32) (v857 : BitVec 32) (v867 : Vec F S1x128x512 .bf16)  {Φ : (PUnit) → sProp 𝕄} :
    iprop(Ctx m ∗ agJ 1 c (8 * mq c 1 + mp c 5) ∗ accP 1 c (8 * mq c 3 + 4 + mp c 3) (ZB m 3 c) ∗ agJ 1 c (8 * mq c 3 + 4 + mp c 3))
      ⊢ iprop(((agP m 1 c (8 * mq c 1 + mp c 5) ∗ accP 1 c (8 * mq c 3 + 4 + mp c 3) (ZB m 3 c) ∗ agP m 1 c (8 * mq c 3 + 4 + mp c 3)) -∗ Φ ⟨⟩)
        -∗ WP c (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v19 v32 v536 v538 v857 (k0_pay45 (ZF m 3 c)) v867) Φ) := by
  simp only [k0_part29_eq_skeleton]; unfold k0_part29_skel
  simp only [semSignalWord, semWaitWord, Prog.lift, Prog.bind_op, Prog.bind_ret, Prog.pure_eq_ret]
  iintro ⟨#HC, HGA5, HTB3, HGB3⟩ Hk
  iapply (st_ag m 1 c (8 * mq c 1 + mp c 5) (off11g c) _ (holdsF m c)) $$ HGA5; iintro HGA5
  iapply (ld_acc 1 c (8 * mq c 3 + 4 + mp c 3) (off9o c) _) $$ HTB3; iintro HTB3
  iapply (ld_agJ 1 c (8 * mq c 3 + 4 + mp c 3) (off9o c)) $$ HGB3; iintro %v881 HGB3
  iapply (st_ag m 1 c (8 * mq c 3 + 4 + mp c 3) (off9o c) _ (holdsB m c)) $$ HGB3; iintro HGB3
  iapply (ret_step c)
  iapply Hk
  isplitl [HGA5]; · iexact HGA5
  isplitl [HTB3]; · iexact HTB3
  iexact HGB3

/-- Part 30. -/
theorem part_30 (v32 : BitVec 32) (v36 : BitVec 32)  {Φ : (PUnit) → sProp 𝕄} :
    iprop(Ctx m ∗ ow c 12 ∗ s0 c 12 ∗ land (F := F) (peer c (((12 : Fin 24)).val)) (((12 : Fin 24)).val) ∗ agP m 1 c (8 * mq c 1 + mp c 5) ∗ s0 c 15 ∗ land (F := F) (peer c (((15 : Fin 24)).val)) (((15 : Fin 24)).val) ∗ agP m 1 c (8 * mq c 3 + 4 + mp c 3))
      ⊢ iprop(((ow c 14 ∗ s3 c 12 ∗ agP m 1 c (8 * mq c 1 + mp c 5) ∗ s1 c 15 ∗ agP m 1 c (8 * mq c 1 + mp c 4)) -∗ Φ ⟨⟩)
        -∗ WP c (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v32 v36) Φ) := by
  simp only [k0_part30_eq_skeleton]; unfold k0_part30_skel
  simp only [semSignalWord, semWaitWord, Prog.lift, Prog.bind_op, Prog.bind_ret, Prog.pure_eq_ret]
  iintro ⟨#HC, HOW, HS12, HL12, HGA5, HS15, HL15, HGB3⟩ Hk
  iapply (sendA1 m c 12 (8 * mq c 1 + mp c 5) (i := 12) (j := 13) (by decide) (by decide) rfl (congrArg (agJ 1 (zr c)) (nzA0 c)) (congrArg (agP m 1 (zr c)) (nzA0 c))
      (dev17 c) (off12s0 c) semS12 semR12 credA1) $$ [HS12 HOW HGA5 HL12]
  · isplitr; · iexact HC
    isplitl [HS12]; · iexact HS12
    isplitl [HOW]; · iexact HOW
    isplitl [HGA5]; · iexact HGA5
    iexact HL12
  iintro ⟨HS12, HOW⟩
  iapply (sendA1 m c 15 (8 * mq c 3 + 4 + mp c 3) (i := 13) (j := 14) (by decide) (by decide) rfl (congrArg (agJ 1 (zl c)) (nzB0 c)) (congrArg (agP m 1 (zl c)) (nzB0 c))
      (dev18 c) (off13s0 c) semS15 semR15 credA1) $$ [HS15 HOW HGB3 HL15]
  · isplitr; · iexact HC
    isplitl [HS15]; · iexact HS15
    isplitl [HOW]; · iexact HOW
    isplitl [HGB3]; · iexact HGB3
    iexact HL15
  iintro ⟨HS15, HOW⟩
  iapply (wait_send m c 12 14 semS12 (credA1)) $$ [HS12 HOW]
  · isplitr; · iexact HC
    isplitl [HS12]; · iexact HS12
    iexact HOW
  iintro ⟨HS12, HOW, HGA5⟩
  ihave HGA5 := (Entails.of_eq (show sendPay m c (((12 : Fin 24)).val) = agP m 1 c (8 * mq c 1 + mp c 5) from rfl)) $$ HGA5
  iapply (wait_recv m c 12 14 (by decide) semR12 (credA1)) $$ [HS12 HOW]
  · isplitr; · iexact HC
    isplitl [HS12]; · iexact HS12
    iexact HOW
  iintro ⟨HS12, HOW, HGA4⟩
  ihave HGA4 := (Entails.of_eq (show recvPay m c (((12 : Fin 24)).val) = agP m 1 c (8 * mq c 1 + mp c 4) from rfl)) $$ HGA4
  iapply (ret_step c)
  iapply Hk
  isplitl [HOW]; · iexact HOW
  isplitl [HS12]; · iexact HS12
  isplitl [HGA5]; · iexact HGA5
  isplitl [HS15]; · iexact HS15
  iexact HGA4

/-- Part 31. -/
theorem part_31 (v19 : BitVec 32) (v32 : BitVec 32) (v36 : BitVec 32) (v536 : BitVec 32) (v538 : BitVec 32)  {Φ : (PUnit) → sProp 𝕄} :
    iprop(Ctx m ∗ ow c 14 ∗ s1 c 15)
      ⊢ iprop(((ow c 14 ∗ s3 c 15 ∗ agP m 1 c (8 * mq c 3 + 4 + mp c 3) ∗ agP m 1 c (8 * mq c 3 + 4 + mp c 4)) -∗ Φ ⟨⟩)
        -∗ WP c (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v19 v32 v36 v536 v538) Φ) := by
  simp only [k0_part31_eq_skeleton]; unfold k0_part31_skel
  simp only [semSignalWord, semWaitWord, Prog.lift, Prog.bind_op, Prog.bind_ret, Prog.pure_eq_ret]
  iintro ⟨#HC, HOW, HS15⟩ Hk
  iapply (wait_send m c 15 14 semS15 (credA1)) $$ [HS15 HOW]
  · isplitr; · iexact HC
    isplitl [HS15]; · iexact HS15
    iexact HOW
  iintro ⟨HS15, HOW, HGB3⟩
  ihave HGB3 := (Entails.of_eq (show sendPay m c (((15 : Fin 24)).val) = agP m 1 c (8 * mq c 3 + 4 + mp c 3) from rfl)) $$ HGB3
  iapply (wait_recv m c 15 14 (by decide) semR15 (credA1)) $$ [HS15 HOW]
  · isplitr; · iexact HC
    isplitl [HS15]; · iexact HS15
    iexact HOW
  iintro ⟨HS15, HOW, HGB4⟩
  ihave HGB4 := (Entails.of_eq (show recvPay m c (((15 : Fin 24)).val) = agP m 1 c (8 * mq c 3 + 4 + mp c 4) from rfl)) $$ HGB4
  iapply (ret_step c)
  iapply Hk
  isplitl [HOW]; · iexact HOW
  isplitl [HS15]; · iexact HS15
  isplitl [HGB3]; · iexact HGB3
  iexact HGB4

/-- Part 32. -/
theorem part_32 (v32 : BitVec 32) (v36 : BitVec 32)  {Φ : (PUnit) → sProp 𝕄} :
    iprop(Ctx m ∗ ow c 14 ∗ s0 c 13 ∗ land (F := F) (peer c (((13 : Fin 24)).val)) (((13 : Fin 24)).val) ∗ agP m 1 c (8 * mq c 1 + mp c 4) ∗ s0 c 16 ∗ land (F := F) (peer c (((16 : Fin 24)).val)) (((16 : Fin 24)).val) ∗ agP m 1 c (8 * mq c 3 + 4 + mp c 4))
      ⊢ iprop(((ow c 16 ∗ s3 c 13 ∗ agP m 1 c (8 * mq c 1 + mp c 4) ∗ s1 c 16 ∗ agP m 1 c (8 * mq c 1 + mp c 3)) -∗ Φ ⟨⟩)
        -∗ WP c (k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v32 v36) Φ) := by
  simp only [k0_part32_eq_skeleton]; unfold k0_part32_skel
  simp only [semSignalWord, semWaitWord, Prog.lift, Prog.bind_op, Prog.bind_ret, Prog.pure_eq_ret]
  iintro ⟨#HC, HOW, HS13, HL13, HGA4, HS16, HL16, HGB4⟩ Hk
  iapply (sendA1 m c 13 (8 * mq c 1 + mp c 4) (i := 14) (j := 15) (by decide) (by decide) rfl (congrArg (agJ 1 (zr c)) (nzA1 c)) (congrArg (agP m 1 (zr c)) (nzA1 c))
      (dev19 c) (off12s1 c) semS13 semR13 credA1) $$ [HS13 HOW HGA4 HL13]
  · isplitr; · iexact HC
    isplitl [HS13]; · iexact HS13
    isplitl [HOW]; · iexact HOW
    isplitl [HGA4]; · iexact HGA4
    iexact HL13
  iintro ⟨HS13, HOW⟩
  iapply (sendA1 m c 16 (8 * mq c 3 + 4 + mp c 4) (i := 15) (j := 16) (by decide) (by decide) rfl (congrArg (agJ 1 (zl c)) (nzB1 c)) (congrArg (agP m 1 (zl c)) (nzB1 c))
      (dev20 c) (off13s1 c) semS16 semR16 credA1) $$ [HS16 HOW HGB4 HL16]
  · isplitr; · iexact HC
    isplitl [HS16]; · iexact HS16
    isplitl [HOW]; · iexact HOW
    isplitl [HGB4]; · iexact HGB4
    iexact HL16
  iintro ⟨HS16, HOW⟩
  iapply (wait_send m c 13 16 semS13 (credA1)) $$ [HS13 HOW]
  · isplitr; · iexact HC
    isplitl [HS13]; · iexact HS13
    iexact HOW
  iintro ⟨HS13, HOW, HGA4⟩
  ihave HGA4 := (Entails.of_eq (show sendPay m c (((13 : Fin 24)).val) = agP m 1 c (8 * mq c 1 + mp c 4) from rfl)) $$ HGA4
  iapply (wait_recv m c 13 16 (by decide) semR13 (credA1)) $$ [HS13 HOW]
  · isplitr; · iexact HC
    isplitl [HS13]; · iexact HS13
    iexact HOW
  iintro ⟨HS13, HOW, HGA3⟩
  ihave HGA3 := (Entails.of_eq (show recvPay m c (((13 : Fin 24)).val) = agP m 1 c (8 * mq c 1 + mp c 3) from rfl)) $$ HGA3
  iapply (ret_step c)
  iapply Hk
  isplitl [HOW]; · iexact HOW
  isplitl [HS13]; · iexact HS13
  isplitl [HGA4]; · iexact HGA4
  isplitl [HS16]; · iexact HS16
  iexact HGA3

/-- Part 33. -/
theorem part_33 (v19 : BitVec 32) (v32 : BitVec 32) (v36 : BitVec 32) (v536 : BitVec 32) (v538 : BitVec 32)  {Φ : (PUnit) → sProp 𝕄} :
    iprop(Ctx m ∗ ow c 16 ∗ s1 c 16)
      ⊢ iprop(((ow c 16 ∗ s3 c 16 ∗ agP m 1 c (8 * mq c 3 + 4 + mp c 4) ∗ agP m 1 c (8 * mq c 3 + 4 + mp c 5)) -∗ Φ ⟨⟩)
        -∗ WP c (k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v19 v32 v36 v536 v538) Φ) := by
  simp only [k0_part33_eq_skeleton]; unfold k0_part33_skel
  simp only [semSignalWord, semWaitWord, Prog.lift, Prog.bind_op, Prog.bind_ret, Prog.pure_eq_ret]
  iintro ⟨#HC, HOW, HS16⟩ Hk
  iapply (wait_send m c 16 16 semS16 (credA1)) $$ [HS16 HOW]
  · isplitr; · iexact HC
    isplitl [HS16]; · iexact HS16
    iexact HOW
  iintro ⟨HS16, HOW, HGB4⟩
  ihave HGB4 := (Entails.of_eq (show sendPay m c (((16 : Fin 24)).val) = agP m 1 c (8 * mq c 3 + 4 + mp c 4) from rfl)) $$ HGB4
  iapply (wait_recv m c 16 16 (by decide) semR16 (credA1)) $$ [HS16 HOW]
  · isplitr; · iexact HC
    isplitl [HS16]; · iexact HS16
    iexact HOW
  iintro ⟨HS16, HOW, HGB5⟩
  ihave HGB5 := (Entails.of_eq (show recvPay m c (((16 : Fin 24)).val) = agP m 1 c (8 * mq c 3 + 4 + mp c 5) from rfl)) $$ HGB5
  iapply (ret_step c)
  iapply Hk
  isplitl [HOW]; · iexact HOW
  isplitl [HS16]; · iexact HS16
  isplitl [HGB4]; · iexact HGB4
  iexact HGB5

/-- Part 34. -/
theorem part_34 (v32 : BitVec 32) (v36 : BitVec 32)  {Φ : (PUnit) → sProp 𝕄} :
    iprop(Ctx m ∗ ow c 16 ∗ s0 c 14 ∗ land (F := F) (peer c (((14 : Fin 24)).val)) (((14 : Fin 24)).val) ∗ agP m 1 c (8 * mq c 1 + mp c 3) ∗ s0 c 17 ∗ land (F := F) (peer c (((17 : Fin 24)).val)) (((17 : Fin 24)).val) ∗ agP m 1 c (8 * mq c 3 + 4 + mp c 5))
      ⊢ iprop(((ow c 18 ∗ s2 c 14 ∗ agP m 1 c (8 * mq c 1 + mp c 3) ∗ s1 c 17) -∗ Φ ⟨⟩)
        -∗ WP c (k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v32 v36) Φ) := by
  simp only [k0_part34_eq_skeleton]; unfold k0_part34_skel
  simp only [semSignalWord, semWaitWord, Prog.lift, Prog.bind_op, Prog.bind_ret, Prog.pure_eq_ret]
  iintro ⟨#HC, HOW, HS14, HL14, HGA3, HS17, HL17, HGB5⟩ Hk
  iapply (sendA1 m c 14 (8 * mq c 1 + mp c 3) (i := 16) (j := 17) (by decide) (by decide) rfl (congrArg (agJ 1 (zr c)) (nzA2 c)) (congrArg (agP m 1 (zr c)) (nzA2 c))
      (dev21 c) (off12s2 c) semS14 semR14 credA1) $$ [HS14 HOW HGA3 HL14]
  · isplitr; · iexact HC
    isplitl [HS14]; · iexact HS14
    isplitl [HOW]; · iexact HOW
    isplitl [HGA3]; · iexact HGA3
    iexact HL14
  iintro ⟨HS14, HOW⟩
  iapply (sendA1 m c 17 (8 * mq c 3 + 4 + mp c 5) (i := 17) (j := 18) (by decide) (by decide) rfl (congrArg (agJ 1 (zl c)) (nzB2 c)) (congrArg (agP m 1 (zl c)) (nzB2 c))
      (dev22 c) (off13s2 c) semS17 semR17 credA1) $$ [HS17 HOW HGB5 HL17]
  · isplitr; · iexact HC
    isplitl [HS17]; · iexact HS17
    isplitl [HOW]; · iexact HOW
    isplitl [HGB5]; · iexact HGB5
    iexact HL17
  iintro ⟨HS17, HOW⟩
  iapply (wait_send m c 14 18 semS14 (credA1)) $$ [HS14 HOW]
  · isplitr; · iexact HC
    isplitl [HS14]; · iexact HS14
    iexact HOW
  iintro ⟨HS14, HOW, HGA3⟩
  ihave HGA3 := (Entails.of_eq (show sendPay m c (((14 : Fin 24)).val) = agP m 1 c (8 * mq c 1 + mp c 3) from rfl)) $$ HGA3
  iapply (ret_step c)
  iapply Hk
  isplitl [HOW]; · iexact HOW
  isplitl [HS14]; · iexact HS14
  isplitl [HGA3]; · iexact HGA3
  iexact HS17

/-- Part 35. -/
theorem part_35 (v20 : BitVec 32) (v24 : BitVec 32) (v36 : BitVec 32)  {Φ : (PUnit) → sProp 𝕄} :
    iprop(Ctx m ∗ ow c 18 ∗ s2 c 14 ∗ s1 c 17 ∗ agP m 1 c (8 * mq c 1 + mp c 5) ∗ agP m 1 c (8 * mq c 1 + mp c 4) ∗ agP m 1 c (8 * mq c 1 + mp c 3) ∗ agP m 1 c (8 * mq c 3 + 4 + mp c 3) ∗ agP m 1 c (8 * mq c 3 + 4 + mp c 4))
      ⊢ iprop(((ow c 18 ∗ s3 c 14 ∗ s3 c 17 ∗ agP m 4 c (8 * mq c 5) ∗ agP m 4 c (8 * mq c 3 + 4)) -∗ Φ ⟨⟩)
        -∗ WP c (k0_part35 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v20 v24 v36) Φ) := by
  simp only [k0_part35_eq_skeleton]; unfold k0_part35_skel
  simp only [semSignalWord, semWaitWord, Prog.lift, Prog.bind_op, Prog.bind_ret, Prog.pure_eq_ret]
  iintro ⟨#HC, HOW, HS14, HS17, HGA5, HGA4, HGA3, HGB3, HGB4⟩ Hk
  iapply (wait_recv m c 14 18 (by decide) semR14 (credA1)) $$ [HS14 HOW]
  · isplitr; · iexact HC
    isplitl [HS14]; · iexact HS14
    iexact HOW
  iintro ⟨HS14, HOW, HGA2⟩
  ihave HGA2 := (Entails.of_eq (show recvPay m c (((14 : Fin 24)).val) = agP m 1 c (8 * mq c 1 + mp c 2) from rfl)) $$ HGA2
  iapply (wait_send m c 17 18 semS17 (credA1)) $$ [HS17 HOW]
  · isplitr; · iexact HC
    isplitl [HS17]; · iexact HS17
    iexact HOW
  iintro ⟨HS17, HOW, HGB5⟩
  ihave HGB5 := (Entails.of_eq (show sendPay m c (((17 : Fin 24)).val) = agP m 1 c (8 * mq c 3 + 4 + mp c 5) from rfl)) $$ HGB5
  iapply (wait_recv m c 17 18 (by decide) semR17 (credA1)) $$ [HS17 HOW]
  · isplitr; · iexact HC
    isplitl [HS17]; · iexact HS17
    iexact HOW
  iintro ⟨HS17, HOW, HGB6⟩
  ihave HGB6 := (Entails.of_eq (show recvPay m c (((17 : Fin 24)).val) = agP m 1 c (8 * mq c 3 + 4 + mp c 6) from rfl)) $$ HGB6
  ihave HHA5 := (ag_joinA m c) $$ [HGA5 HGA4 HGA3 HGA2]
  · isplitl [HGA5]; · iexact HGA5
    isplitl [HGA4]; · iexact HGA4
    isplitl [HGA3]; · iexact HGA3
    iexact HGA2
  ihave HHB3 := (ag_joinB m c) $$ [HGB3 HGB4 HGB5 HGB6]
  · isplitl [HGB3]; · iexact HGB3
    isplitl [HGB4]; · iexact HGB4
    isplitl [HGB5]; · iexact HGB5
    iexact HGB6
  iapply (ret_step c)
  iapply Hk
  isplitl [HOW]; · iexact HOW
  isplitl [HS14]; · iexact HS14
  isplitl [HS17]; · iexact HS17
  isplitl [HHA5]; · iexact HHA5
  iexact HHB3

/-- Part 36. -/
theorem part_36 (v24 : BitVec 32) (v28 : BitVec 32)  {Φ : (PUnit) → sProp 𝕄} :
    iprop(Ctx m ∗ ow c 18 ∗ s0 c 18 ∗ land (F := F) (peer c (((18 : Fin 24)).val)) (((18 : Fin 24)).val) ∗ agP m 4 c (8 * mq c 5) ∗ s0 c 21 ∗ land (F := F) (peer c (((21 : Fin 24)).val)) (((21 : Fin 24)).val) ∗ agP m 4 c (8 * mq c 3 + 4))
      ⊢ iprop(((ow c 20 ∗ s3 c 18 ∗ agP m 4 c (8 * mq c 5) ∗ s1 c 21 ∗ agP m 4 c (8 * mq c 4)) -∗ Φ ⟨⟩)
        -∗ WP c (k0_part36 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v24 v28) Φ) := by
  simp only [k0_part36_eq_skeleton]; unfold k0_part36_skel
  simp only [semSignalWord, semWaitWord, Prog.lift, Prog.bind_op, Prog.bind_ret, Prog.pure_eq_ret]
  iintro ⟨#HC, HOW, HS18, HL18, HHA5, HS21, HL21, HHB3⟩ Hk
  iapply (sendA4 m c 18 (8 * mq c 5) (i := 18) (j := 19) (by decide) (by decide) rfl (congrArg (agJ 4 (pr c)) (npA0 c)) (congrArg (agP m 4 (pr c)) (npA0 c))
      (dev23 c) (off14s0 c) semS18 semR18 credA4) $$ [HS18 HOW HHA5 HL18]
  · isplitr; · iexact HC
    isplitl [HS18]; · iexact HS18
    isplitl [HOW]; · iexact HOW
    isplitl [HHA5]; · iexact HHA5
    iexact HL18
  iintro ⟨HS18, HOW⟩
  iapply (sendA4 m c 21 (8 * mq c 3 + 4) (i := 19) (j := 20) (by decide) (by decide) rfl (congrArg (agJ 4 (pl c)) (npB0 c)) (congrArg (agP m 4 (pl c)) (npB0 c))
      (dev24 c) (off15s0 c) semS21 semR21 credA4) $$ [HS21 HOW HHB3 HL21]
  · isplitr; · iexact HC
    isplitl [HS21]; · iexact HS21
    isplitl [HOW]; · iexact HOW
    isplitl [HHB3]; · iexact HHB3
    iexact HL21
  iintro ⟨HS21, HOW⟩
  iapply (wait_send m c 18 20 semS18 (credA4)) $$ [HS18 HOW]
  · isplitr; · iexact HC
    isplitl [HS18]; · iexact HS18
    iexact HOW
  iintro ⟨HS18, HOW, HHA5⟩
  ihave HHA5 := (Entails.of_eq (show sendPay m c (((18 : Fin 24)).val) = agP m 4 c (8 * mq c 5) from rfl)) $$ HHA5
  iapply (wait_recv m c 18 20 (by decide) semR18 (credA4)) $$ [HS18 HOW]
  · isplitr; · iexact HC
    isplitl [HS18]; · iexact HS18
    iexact HOW
  iintro ⟨HS18, HOW, HHA4⟩
  ihave HHA4 := (Entails.of_eq (show recvPay m c (((18 : Fin 24)).val) = agP m 4 c (8 * mq c 4) from rfl)) $$ HHA4
  iapply (ret_step c)
  iapply Hk
  isplitl [HOW]; · iexact HOW
  isplitl [HS18]; · iexact HS18
  isplitl [HHA5]; · iexact HHA5
  isplitl [HS21]; · iexact HS21
  iexact HHA4

/-- Part 37. -/
theorem part_37 (v20 : BitVec 32) (v24 : BitVec 32) (v28 : BitVec 32)  {Φ : (BitVec 32) → sProp 𝕄} :
    iprop(Ctx m ∗ ow c 20 ∗ s1 c 21 ∗ s0 c 19 ∗ land (F := F) (peer c (((19 : Fin 24)).val)) (((19 : Fin 24)).val) ∗ agP m 4 c (8 * mq c 4))
      ⊢ iprop((∀ (c1_i32_967 : BitVec 32), (ow c 21 ∗ s3 c 21 ∗ agP m 4 c (8 * mq c 3 + 4) ∗ agP m 4 c (8 * mq c 4 + 4) ∗ s1 c 19) -∗ Φ c1_i32_967)
        -∗ WP c (k0_part37 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v20 v24 v28) Φ) := by
  simp only [k0_part37_eq_skeleton]; unfold k0_part37_skel
  simp only [semSignalWord, semWaitWord, Prog.lift, Prog.bind_op, Prog.bind_ret, Prog.pure_eq_ret]
  iintro ⟨#HC, HOW, HS21, HS19, HL19, HHA4⟩ Hk
  iapply (wait_send m c 21 20 semS21 (credA4)) $$ [HS21 HOW]
  · isplitr; · iexact HC
    isplitl [HS21]; · iexact HS21
    iexact HOW
  iintro ⟨HS21, HOW, HHB3⟩
  ihave HHB3 := (Entails.of_eq (show sendPay m c (((21 : Fin 24)).val) = agP m 4 c (8 * mq c 3 + 4) from rfl)) $$ HHB3
  iapply (wait_recv m c 21 20 (by decide) semR21 (credA4)) $$ [HS21 HOW]
  · isplitr; · iexact HC
    isplitl [HS21]; · iexact HS21
    iexact HOW
  iintro ⟨HS21, HOW, HHB4⟩
  ihave HHB4 := (Entails.of_eq (show recvPay m c (((21 : Fin 24)).val) = agP m 4 c (8 * mq c 4 + 4) from rfl)) $$ HHB4
  iapply (sendA4 m c 19 (8 * mq c 4) (i := 20) (j := 21) (by decide) (by decide) rfl (congrArg (agJ 4 (pr c)) (npA1 c)) (congrArg (agP m 4 (pr c)) (npA1 c))
      (dev25 c) (off14s1 c) semS19 semR19 credA4) $$ [HS19 HOW HHA4 HL19]
  · isplitr; · iexact HC
    isplitl [HS19]; · iexact HS19
    isplitl [HOW]; · iexact HOW
    isplitl [HHA4]; · iexact HHA4
    iexact HL19
  iintro ⟨HS19, HOW⟩
  iapply (ret_step c)
  iapply Hk
  isplitl [HOW]; · iexact HOW
  isplitl [HS21]; · iexact HS21
  isplitl [HHB3]; · iexact HHB3
  isplitl [HHB4]; · iexact HHB4
  iexact HS19

/-- Part 38. -/
theorem part_38 (v24 : BitVec 32) (v28 : BitVec 32) (c1_i32_967 : BitVec 32)  {Φ : (PUnit) → sProp 𝕄} :
    iprop(Ctx m ∗ ow c 21 ∗ s0 c 22 ∗ land (F := F) (peer c (((22 : Fin 24)).val)) (((22 : Fin 24)).val) ∗ agP m 4 c (8 * mq c 4 + 4) ∗ s1 c 19)
      ⊢ iprop(((ow c 22 ∗ s2 c 22 ∗ agP m 4 c (8 * mq c 4 + 4) ∗ s3 c 19 ∗ agP m 4 c (8 * mq c 4) ∗ agP m 4 c (8 * mq c 3)) -∗ Φ ⟨⟩)
        -∗ WP c (k0_part38 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v24 v28 c1_i32_967) Φ) := by
  simp only [k0_part38_eq_skeleton]; unfold k0_part38_skel
  simp only [semSignalWord, semWaitWord, Prog.lift, Prog.bind_op, Prog.bind_ret, Prog.pure_eq_ret]
  iintro ⟨#HC, HOW, HS22, HL22, HHB4, HS19⟩ Hk
  iapply (sendA4 m c 22 (8 * mq c 4 + 4) (i := 21) (j := 22) (by decide) (by decide) rfl (congrArg (agJ 4 (pl c)) (npB1 c)) (congrArg (agP m 4 (pl c)) (npB1 c))
      (dev26 c) (off15s1 c) semS22 semR22 credA4) $$ [HS22 HOW HHB4 HL22]
  · isplitr; · iexact HC
    isplitl [HS22]; · iexact HS22
    isplitl [HOW]; · iexact HOW
    isplitl [HHB4]; · iexact HHB4
    iexact HL22
  iintro ⟨HS22, HOW⟩
  iapply (wait_send m c 19 22 semS19 (credA4)) $$ [HS19 HOW]
  · isplitr; · iexact HC
    isplitl [HS19]; · iexact HS19
    iexact HOW
  iintro ⟨HS19, HOW, HHA4⟩
  ihave HHA4 := (Entails.of_eq (show sendPay m c (((19 : Fin 24)).val) = agP m 4 c (8 * mq c 4) from rfl)) $$ HHA4
  iapply (wait_recv m c 19 22 (by decide) semR19 (credA4)) $$ [HS19 HOW]
  · isplitr; · iexact HC
    isplitl [HS19]; · iexact HS19
    iexact HOW
  iintro ⟨HS19, HOW, HHA3⟩
  ihave HHA3 := (Entails.of_eq (show recvPay m c (((19 : Fin 24)).val) = agP m 4 c (8 * mq c 3) from rfl)) $$ HHA3
  iapply (wait_send m c 22 22 semS22 (credA4)) $$ [HS22 HOW]
  · isplitr; · iexact HC
    isplitl [HS22]; · iexact HS22
    iexact HOW
  iintro ⟨HS22, HOW, HHB4⟩
  ihave HHB4 := (Entails.of_eq (show sendPay m c (((22 : Fin 24)).val) = agP m 4 c (8 * mq c 4 + 4) from rfl)) $$ HHB4
  iapply (ret_step c)
  iapply Hk
  isplitl [HOW]; · iexact HOW
  isplitl [HS22]; · iexact HS22
  isplitl [HHB4]; · iexact HHB4
  isplitl [HS19]; · iexact HS19
  isplitl [HHA4]; · iexact HHA4
  iexact HHA3

/-- Part 39. -/
theorem part_39 (v20 : BitVec 32) (v24 : BitVec 32) (v28 : BitVec 32)  {Φ : (PUnit) → sProp 𝕄} :
    iprop(Ctx m ∗ ow c 22 ∗ s2 c 22 ∗ s0 c 20 ∗ land (F := F) (peer c (((20 : Fin 24)).val)) (((20 : Fin 24)).val) ∗ agP m 4 c (8 * mq c 3))
      ⊢ iprop(((ow c 23 ∗ s3 c 22 ∗ agP m 4 c (8 * mq c 5 + 4) ∗ s1 c 20) -∗ Φ ⟨⟩)
        -∗ WP c (k0_part39 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v20 v24 v28) Φ) := by
  simp only [k0_part39_eq_skeleton]; unfold k0_part39_skel
  simp only [semSignalWord, semWaitWord, Prog.lift, Prog.bind_op, Prog.bind_ret, Prog.pure_eq_ret]
  iintro ⟨#HC, HOW, HS22, HS20, HL20, HHA3⟩ Hk
  iapply (wait_recv m c 22 22 (by decide) semR22 (credA4)) $$ [HS22 HOW]
  · isplitr; · iexact HC
    isplitl [HS22]; · iexact HS22
    iexact HOW
  iintro ⟨HS22, HOW, HHB5⟩
  ihave HHB5 := (Entails.of_eq (show recvPay m c (((22 : Fin 24)).val) = agP m 4 c (8 * mq c 5 + 4) from rfl)) $$ HHB5
  iapply (sendA4 m c 20 (8 * mq c 3) (i := 22) (j := 23) (by decide) (by decide) rfl (congrArg (agJ 4 (pr c)) (npA2 c)) (congrArg (agP m 4 (pr c)) (npA2 c))
      (dev27 c) (off14s2 c) semS20 semR20 credA4) $$ [HS20 HOW HHA3 HL20]
  · isplitr; · iexact HC
    isplitl [HS20]; · iexact HS20
    isplitl [HOW]; · iexact HOW
    isplitl [HHA3]; · iexact HHA3
    iexact HL20
  iintro ⟨HS20, HOW⟩
  iapply (ret_step c)
  iapply Hk
  isplitl [HOW]; · iexact HOW
  isplitl [HS22]; · iexact HS22
  isplitl [HHB5]; · iexact HHB5
  iexact HS20

/-- Part 40. -/
theorem part_40 (v24 : BitVec 32) (v28 : BitVec 32)  {Φ : (Vec F S32x128x512 .bf16) → sProp 𝕄} :
    iprop(Ctx m ∗ ow c 23 ∗ s0 c 23 ∗ land (F := F) (peer c (((23 : Fin 24)).val)) (((23 : Fin 24)).val) ∗ agP m 4 c (8 * mq c 5 + 4) ∗ s1 c 20 ∗ agP m 4 c (8 * mq c 5) ∗ agP m 4 c (8 * mq c 4) ∗ agP m 4 c (8 * mq c 3 + 4) ∗ agP m 4 c (8 * mq c 4 + 4))
      ⊢ iprop(((ow c 24 ∗ s3 c 23 ∗ s3 c 20 ∗ (((c : Thread nD τ).loc cc0_scratch1) ↦{fullShare} AG m)) -∗ Φ (AG m))
        -∗ WP c (k0_part40 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 c v24 v28) Φ) := by
  simp only [k0_part40_eq_skeleton]; unfold k0_part40_skel
  simp only [semSignalWord, semWaitWord, Prog.lift, Prog.bind_op, Prog.bind_ret, Prog.pure_eq_ret]
  iintro ⟨#HC, HOW, HS23, HL23, HHB5, HS20, HHA5, HHA4, HHB3, HHB4⟩ Hk
  iapply (sendA4 m c 23 (8 * mq c 5 + 4) (i := 23) (j := 24) (by decide) (by decide) rfl (congrArg (agJ 4 (pl c)) (npB2 c)) (congrArg (agP m 4 (pl c)) (npB2 c))
      (dev28 c) (off15s2 c) semS23 semR23 credA4) $$ [HS23 HOW HHB5 HL23]
  · isplitr; · iexact HC
    isplitl [HS23]; · iexact HS23
    isplitl [HOW]; · iexact HOW
    isplitl [HHB5]; · iexact HHB5
    iexact HL23
  iintro ⟨HS23, HOW⟩
  iapply (wait_send m c 20 24 semS20 (credA4)) $$ [HS20 HOW]
  · isplitr; · iexact HC
    isplitl [HS20]; · iexact HS20
    iexact HOW
  iintro ⟨HS20, HOW, HHA3⟩
  ihave HHA3 := (Entails.of_eq (show sendPay m c (((20 : Fin 24)).val) = agP m 4 c (8 * mq c 3) from rfl)) $$ HHA3
  iapply (wait_recv m c 20 24 (by decide) semR20 (credA4)) $$ [HS20 HOW]
  · isplitr; · iexact HC
    isplitl [HS20]; · iexact HS20
    iexact HOW
  iintro ⟨HS20, HOW, HHA2⟩
  ihave HHA2 := (Entails.of_eq (show recvPay m c (((20 : Fin 24)).val) = agP m 4 c (8 * mq c 2) from rfl)) $$ HHA2
  iapply (wait_send m c 23 24 semS23 (credA4)) $$ [HS23 HOW]
  · isplitr; · iexact HC
    isplitl [HS23]; · iexact HS23
    iexact HOW
  iintro ⟨HS23, HOW, HHB5⟩
  ihave HHB5 := (Entails.of_eq (show sendPay m c (((23 : Fin 24)).val) = agP m 4 c (8 * mq c 5 + 4) from rfl)) $$ HHB5
  iapply (wait_recv m c 23 24 (by decide) semR23 (credA4)) $$ [HS23 HOW]
  · isplitr; · iexact HC
    isplitl [HS23]; · iexact HS23
    iexact HOW
  iintro ⟨HS23, HOW, HHB6⟩
  ihave HHB6 := (Entails.of_eq (show recvPay m c (((23 : Fin 24)).val) = agP m 4 c (8 * mq c 6 + 4) from rfl)) $$ HHB6
  ihave HAGW := (ag_end m c) $$ [HHA5 HHA4 HHA3 HHA2 HHB3 HHB4 HHB5 HHB6]
  · isplitl [HHA5 HHA4 HHA3 HHA2]
    · isplitl [HHA5]; · iexact HHA5
      isplitl [HHA4]; · iexact HHA4
      isplitl [HHA3] <;> iassumption
    · isplitl [HHB3]; · iexact HHB3
      isplitl [HHB4]; · iexact HHB4
      isplitl [HHB5] <;> iassumption
  iapply (ld_agw m c (by decide)) $$ HAGW; iintro HAGW
  iapply (ret_step c)
  iapply Hk
  isplitl [HOW]; · iexact HOW
  isplitl [HS23]; · iexact HS23
  isplitl [HS20]; · iexact HS20
  iexact HAGW

end Cert.KernelIdeal.Ring
-- ==== Proof.KernelIdealBody.lean ====
/-
The kernel's body on one device, part after part.
-/
module

public import proofs.«01_k».proof.Proof.KernelIdealParts1
public import proofs.«01_k».proof.Proof.KernelIdealParts2
public import proofs.«01_k».proof.Proof.KernelIdealParts3

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- What the body starts from. -/
def bodyPre (v0_ v1_ v2_ v3_ : (Sn 8).Idx → F .f32) : sProp 𝕄 :=
  iprop(ob c 4 ∗ dutyTok ER (barCell (nb c 3)) 0 0 ∗ barPay (nb c 3) 0 ∗ dutyTok ER (barCell (nb c 2)) 0 1 ∗ barPay (nb c 2) 1 ∗ dutyTok ER (barCell (nb c 1)) 0 2 ∗ barPay (nb c 1) 2 ∗ dutyTok ER (barCell (nb c 0)) 0 3 ∗ barPay (nb c 0) 3 ∗ atPos ER (barCell c) 0 ∅ 0 ∗ cred (tallyAt (barCell c) () 4) ∗ s0 c 0 ∗ s0 c 1 ∗ s0 c 2 ∗ s0 c 3 ∗ s0 c 4 ∗ s0 c 5 ∗ s0 c 6 ∗ s0 c 7 ∗ s0 c 8 ∗ s0 c 9 ∗ s0 c 10 ∗ s0 c 11 ∗ s0 c 12 ∗ s0 c 13 ∗ s0 c 14 ∗ s0 c 15 ∗ s0 c 16 ∗ s0 c 17 ∗ s0 c 18 ∗ s0 c 19 ∗ s0 c 20 ∗ s0 c 21 ∗ s0 c 22 ∗ s0 c 23 ∗ accP 8 c (8 * mq c 0) v0_ ∗ accP 8 c (8 * mq c 1) v1_ ∗ accP 8 c (8 * mq c 2) v2_ ∗ accP 8 c (8 * mq c 3) v3_ ∗ jn4 psF c 0 ∗ jn4 psF c 1 ∗ jn4 psF c 2 ∗ jn4 psB c 0 ∗ jn4 psB c 1 ∗ jn4 psB c 2 ∗ jn3 zsF c 0 ∗ jn3 zsF c 1 ∗ jn3 zsF c 2 ∗ jn3 zsB c 0 ∗ jn3 zsB c 1 ∗ jn3 zsB c 2 ∗ agJ 1 c (8 * mq c 1 + mp c 5) ∗ agJ 1 c (8 * mq c 3 + 4 + mp c 3) ∗ xS m c ∗ kS m c ∗ wS m c ∗ oJ c)

/-- What the body leaves. -/
def bodyPost : sProp 𝕄 :=
  iprop(ow c 24 ∗ s3 c 0 ∗ s3 c 1 ∗ s3 c 2 ∗ s3 c 3 ∗ s3 c 4 ∗ s3 c 5 ∗ s3 c 6 ∗ s3 c 7 ∗ s3 c 8 ∗ s3 c 9 ∗ s3 c 10 ∗ s3 c 11 ∗ s3 c 12 ∗ s3 c 13 ∗ s3 c 14 ∗ s3 c 15 ∗ s3 c 16 ∗ s3 c 17 ∗ s3 c 18 ∗ s3 c 19 ∗ s3 c 20 ∗ s3 c 21 ∗ s3 c 22 ∗ s3 c 23 ∗ xS m c ∗ kS m c ∗ wS m c ∗ ((c : Thread nD τ).loc cc0_stg3_0 ↦{fullShare} outV m) ∗ semVal (barCell c) 0 ∗ accP 4 c (8 * mq c 0) (AF m 0 c) ∗ accP 4 c (8 * mq c 0 + 4) (AB m 0 c) ∗ accP 4 c (8 * mq c 3) (AF m 1 c) ∗ accP 4 c (8 * mq c 1 + 4) (AB m 1 c) ∗ jn4 psF c 0 ∗ st4 pcF c 0 (k0_pay9 (AF m 0 (pl c))) ∗ jn4 psB c 0 ∗ st4 pcB c 0 (k0_pay9 (AB m 0 (pr c))) ∗ accP 4 c (8 * mq c 2) (AF m 2 c) ∗ accP 4 c (8 * mq c 2 + 4) (AB m 2 c) ∗ jn4 psF c 1 ∗ st4 pcF c 1 (k0_pay9 (AF m 1 (pl c))) ∗ jn4 psB c 1 ∗ st4 pcB c 1 (k0_pay9 (AB m 1 (pr c))) ∗ jn4 psF c 2 ∗ st4 pcF c 2 (k0_pay9 (AF m 2 (pl c))) ∗ jn4 psB c 2 ∗ st4 pcB c 2 (k0_pay9 (AB m 2 (pr c))) ∗ accP 1 c (8 * mq c 1 + mp c 0) (ZF m 0 c) ∗ accP 1 c (8 * mq c 1 + mp c 1) (ZF m 3 c) ∗ accP 1 c (8 * mq c 1 + mp c 2) (ZF m 2 c) ∗ accP 1 c (8 * mq c 1 + mp c 3) (ZF m 1 c) ∗ accP 1 c (8 * mq c 3 + 4 + mp c 0) (ZB m 0 c) ∗ accP 1 c (8 * mq c 3 + 4 + mp c 1) (ZB m 1 c) ∗ accP 1 c (8 * mq c 3 + 4 + mp c 2) (ZB m 2 c) ∗ accP 1 c (8 * mq c 3 + 4 + mp c 3) (ZB m 3 c) ∗ jn3 zsF c 0 ∗ st3 zcF c 0 (k0_pay29 (ZF m 0 (zl c))) ∗ jn3 zsB c 0 ∗ st3 zcB c 0 (k0_pay29 (ZB m 0 (zr c))) ∗ jn3 zsF c 1 ∗ st3 zcF c 1 (k0_pay29 (ZF m 1 (zl c))) ∗ jn3 zsB c 1 ∗ st3 zcB c 1 (k0_pay29 (ZB m 1 (zr c))) ∗ jn3 zsF c 2 ∗ st3 zcF c 2 (k0_pay29 (ZF m 2 (zl c))) ∗ jn3 zsB c 2 ∗ st3 zcB c 2 (k0_pay29 (ZB m 2 (zr c))) ∗ (((c : Thread nD τ).loc cc0_scratch1) ↦{fullShare} AG m))

theorem bind_step {α β : Type} {p : Prog (TpuEff nD τ sig (Elt F) Λ₀ .tc) β} {k : β → Prog (TpuEff nD τ sig (Elt F) Λ₀ .tc) α} {Q : α → sProp 𝕄} :
    WP c p (fun a => WP c (k a) Q) ⊢ WP c (p >>= k) Q := by
  show wp _ _ _ _ _ ⊢ wp _ _ _ _ _
  rw [wp_bind]

theorem part_1 {Φ : (Σ' (d0 : Dev nD) (v19 : BitVec 32) (v20 : BitVec 32) (v24 : BitVec 32) (v28 : BitVec 32) (v32 : BitVec 32), BitVec 32) → sProp 𝕄} :
    (iprop(∀ (v19 v20 v24 v28 v32 v36 : BitVec 32), Φ ⟨c, v19, v20, v24, v28, v32, v36⟩) : sProp 𝕄) ⊢ WP c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11) Φ := by
  simp only [k0_part1_eq_skeleton]; unfold k0_part1_skel
  simp only [Prog.lift, Prog.bind_op, Prog.bind_ret, Prog.pure_eq_ret]
  show _ ⊢ wp _ _ _ _ _
  rw [wp_deviceId]
  iintro Hk
  iapply (ret_step c)
  iapply Hk

theorem body_wp (v0_ v1_ v2_ v3_ : (Sn 8).Idx → F .f32) {Q : PUnit → sProp 𝕄} :
    iprop(Ctx m ∗ bodyPre m c v0_ v1_ v2_ v3_) ⊢ iprop((bodyPost m c -∗ Q ⟨⟩) -∗ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11) Q) := by
  simp only [cc0_body_eq_skeleton]; unfold cc0_body_skel bodyPre bodyPost
  iintro ⟨#HC, HOW, HBT3, HBP3, HBT2, HBP2, HBT1, HBP1, HBT0, HBP0, HBA, HBC, HS0, HS1, HS2, HS3, HS4, HS5, HS6, HS7, HS8, HS9, HS10, HS11, HS12, HS13, HS14, HS15, HS16, HS17, HS18, HS19, HS20, HS21, HS22, HS23, HM0, HM1, HM2, HM3, HpsF0, HpsF1, HpsF2, HpsB0, HpsB1, HpsB2, HzsF0, HzsF1, HzsF2, HzsB0, HzsB1, HzsB2, HGA5, HGB3, HX, HK, HW, HO⟩ Hk
  iapply (bind_step c)
  iapply (part_1 c)
  iintro %v19 %v20 %v24 %v28 %v32 %v36
  iapply (bind_step c)
  iapply (part_2 m c v20 v24 v28 v32 v36 ) $$ [HOW HBT3 HBP3 HBT2 HBP2 HBT1 HBP1 HBT0 HBP0 HBA HBC HK HW HX]
  · isplitr; · iexact HC
    isplitl [HOW]; · iexact HOW
    isplitl [HBT3]; · iexact HBT3
    isplitl [HBP3]; · iexact HBP3
    isplitl [HBT2]; · iexact HBT2
    isplitl [HBP2]; · iexact HBP2
    isplitl [HBT1]; · iexact HBT1
    isplitl [HBP1]; · iexact HBP1
    isplitl [HBT0]; · iexact HBT0
    isplitl [HBP0]; · iexact HBP0
    isplitl [HBA]; · iexact HBA
    isplitl [HBC]; · iexact HBC
    isplitl [HK]; · iexact HK
    isplitl [HW]; · iexact HW
    iexact HX
  iintro ⟨HOW, HBV, HL0, HL1, HL2, HL18, HL19, HL20, HL3, HL4, HL5, HL21, HL22, HL23, HL6, HL7, HL8, HL12, HL13, HL14, HL9, HL10, HL11, HL15, HL16, HL17, HK, HW, HX⟩
  iapply (bind_step c)
  iapply (part_3 m c v20 v0_) $$ [HM0 HpsF0]
  · isplitr; · iexact HC
    isplitl [HM0]; · iexact HM0
    iexact HpsF0
  iintro %v101 %c8_i32_53 ⟨HF0, HB0, HpsF0⟩
  iapply (bind_step c)
  iapply (part_4 m c v24 v28 v101 c8_i32_53 ) $$ [HB0 HpsB0 HOW HS0 HL0 HpsF0]
  · isplitr; · iexact HC
    isplitl [HB0]; · iexact HB0
    isplitl [HpsB0]; · iexact HpsB0
    isplitl [HOW]; · iexact HOW
    isplitl [HS0]; · iexact HS0
    isplitl [HL0]; · iexact HL0
    iexact HpsF0
  iintro ⟨HB0, HpsB0, HOW, HS0⟩
  iapply (bind_step c)
  iapply (part_5 m c v20 ) $$ [HOW HS3 HL3 HpsB0 HX]
  · isplitr; · iexact HC
    isplitl [HOW]; · iexact HOW
    isplitl [HS3]; · iexact HS3
    isplitl [HL3]; · iexact HL3
    isplitl [HpsB0]; · iexact HpsB0
    iexact HX
  iintro ⟨HOW, HS3, HX⟩
  iapply (bind_step c)
  iapply (part_6 m c v20 v3_) $$ [HM3 HX]
  · isplitr; · iexact HC
    isplitl [HM3]; · iexact HM3
    iexact HX
  iintro ⟨HF3, HB3, HX⟩
  iapply (bind_step c)
  iapply (part_7 m c v20 v24 v1_) $$ [HM1 HOW HS0]
  · isplitr; · iexact HC
    isplitl [HM1]; · iexact HM1
    isplitl [HOW]; · iexact HOW
    iexact HS0
  iintro %v237 %v240 ⟨HF1, HB1, HOW, HS0, HpsF0, HpcF0⟩
  iapply (bind_step c)
  iapply (part_8 m c v28 v237 v240 ) $$ [HOW HS3 HF3 HpcF0]
  · isplitr; · iexact HC
    isplitl [HOW]; · iexact HOW
    isplitl [HS3]; · iexact HS3
    isplitl [HF3]; · iexact HF3
    iexact HpcF0
  iintro %v271 ⟨HOW, HS3, HpsB0, HpcB0, HF3, HpcF0⟩
  iapply (bind_step c)
  iapply (part_9 m c v20 v271 ) $$ [HF3 HB1 HpcB0 HpsF1 HpsB1]
  · isplitr; · iexact HC
    isplitl [HF3]; · iexact HF3
    isplitl [HB1]; · iexact HB1
    isplitl [HpcB0]; · iexact HpcB0
    isplitl [HpsF1]; · iexact HpsF1
    iexact HpsB1
  iintro ⟨HF3, HB1, HpcB0, HpsF1, HpsB1⟩
  iapply (bind_step c)
  iapply (part_10 m c v20 v24 v28 ) $$ [HpsB1 HOW HS1 HL1 HpsF1 HS4 HL4 HX]
  · isplitr; · iexact HC
    isplitl [HpsB1]; · iexact HpsB1
    isplitl [HOW]; · iexact HOW
    isplitl [HS1]; · iexact HS1
    isplitl [HL1]; · iexact HL1
    isplitl [HpsF1]; · iexact HpsF1
    isplitl [HS4]; · iexact HS4
    isplitl [HL4]; · iexact HL4
    iexact HX
  iintro %v333 ⟨HOW, HS1, HS4, HX⟩
  iapply (bind_step c)
  iapply (part_11 m c v20 v333 v2_) $$ [HM2]
  · isplitr; · iexact HC
    iexact HM2
  iintro %v383 %v385 ⟨HF2, HB2⟩
  iapply (bind_step c)
  iapply (part_12 m c v24 v385 ) $$ [HOW HS1 HS4]
  · isplitr; · iexact HC
    isplitl [HOW]; · iexact HOW
    isplitl [HS1]; · iexact HS1
    iexact HS4
  iintro %v386 ⟨HOW, HS1, HpsF1, HpcF1, HS4, HpsB1⟩
  iapply (bind_step c)
  iapply (part_13 m c v28 v383 v386 ) $$ [HOW HS4 HF2 HpcF1 HB2]
  · isplitr; · iexact HC
    isplitl [HOW]; · iexact HOW
    isplitl [HS4]; · iexact HS4
    isplitl [HF2]; · iexact HF2
    isplitl [HpcF1]; · iexact HpcF1
    iexact HB2
  iintro ⟨HOW, HS4, HpcB1, HF2, HpcF1, HB2⟩
  iapply (bind_step c)
  iapply (part_14 m c v20 v24 ) $$ [HB2 HF2 HpsF2 HpsB2]
  · isplitr; · iexact HC
    isplitl [HB2]; · iexact HB2
    isplitl [HF2]; · iexact HF2
    isplitl [HpsF2]; · iexact HpsF2
    iexact HpsB2
  iintro ⟨HB2, HF2, HpsF2, HpsB2⟩
  iapply (bind_step c)
  iapply (part_15 m c v20 v28 ) $$ [HOW HS2 HL2 HpsF2 HS5 HL5 HpsB2]
  · isplitr; · iexact HC
    isplitl [HOW]; · iexact HOW
    isplitl [HS2]; · iexact HS2
    isplitl [HL2]; · iexact HL2
    isplitl [HpsF2]; · iexact HpsF2
    isplitl [HS5]; · iexact HS5
    isplitl [HL5]; · iexact HL5
    iexact HpsB2
  iintro %v480 %v483 ⟨HOW, HS2, HS5⟩
  iapply (bind_step c)
  iapply (part_16 m c v24 v28 ) $$ [HOW HS2 HS5]
  · isplitr; · iexact HC
    isplitl [HOW]; · iexact HOW
    isplitl [HS2]; · iexact HS2
    iexact HS5
  iintro ⟨HOW, HS2, HpsF2, HpcF2, HS5, HpsB2⟩
  iapply (bind_step c)
  iapply (part_17 m c v19 v20 v480 v483 ) $$ [HOW HS5 HF1 HpcF2 HB3]
  · isplitr; · iexact HC
    isplitl [HOW]; · iexact HOW
    isplitl [HS5]; · iexact HS5
    isplitl [HF1]; · iexact HF1
    isplitl [HpcF2]; · iexact HpcF2
    iexact HB3
  iintro %v536 %v538 %v541 ⟨HOW, HS5, HpcB2, HpcF2, HTF0, HTF1, HTF2, HTF3, HTB0, HTB1, HTB2, HTB3⟩
  iapply (bind_step c)
  iapply (part_18 m c v19 v32 v536 v538 v541 ) $$ [HTF0 HzsF0 HTB0 HzsB0]
  · isplitr; · iexact HC
    isplitl [HTF0]; · iexact HTF0
    isplitl [HzsF0]; · iexact HzsF0
    isplitl [HTB0]; · iexact HTB0
    iexact HzsB0
  iintro %v544 %v549 ⟨HTF0, HzsF0, HTB0, HzsB0⟩
  iapply (bind_step c)
  iapply (part_19 m c v32 v36 ) $$ [HOW HS6 HL6 HzsF0 HS9 HL9 HzsB0]
  · isplitr; · iexact HC
    isplitl [HOW]; · iexact HOW
    isplitl [HS6]; · iexact HS6
    isplitl [HL6]; · iexact HL6
    isplitl [HzsF0]; · iexact HzsF0
    isplitl [HS9]; · iexact HS9
    isplitl [HL9]; · iexact HL9
    iexact HzsB0
  iintro ⟨HOW, HS6, HzsF0, HS9⟩
  iapply (bind_step c)
  iapply (part_20 m c v36 v536 v538 v544 v549 ) $$ [HOW HS6 HS9 HTF3]
  · isplitr; · iexact HC
    isplitl [HOW]; · iexact HOW
    isplitl [HS6]; · iexact HS6
    isplitl [HS9]; · iexact HS9
    iexact HTF3
  iintro %v618 %v621 ⟨HOW, HS6, HzcF0, HS9, HzsB0, HzcB0, HTF3⟩
  iapply (bind_step c)
  iapply (part_21 m c v19 v536 v618 v621 ) $$ [HTF3 HTB1 HzcB0]
  · isplitr; · iexact HC
    isplitl [HTF3]; · iexact HTF3
    isplitl [HTB1]; · iexact HTB1
    iexact HzcB0
  iintro %v649 %v651 %v654 ⟨HTF3, HTB1, HzcB0⟩
  iapply (bind_step c)
  iapply (part_22 m c v32 v36 v538 v651 ) $$ [HzsF1 HTB1 HzsB1 HOW HS7 HL7]
  · isplitr; · iexact HC
    isplitl [HzsF1]; · iexact HzsF1
    isplitl [HTB1]; · iexact HTB1
    isplitl [HzsB1]; · iexact HzsB1
    isplitl [HOW]; · iexact HOW
    isplitl [HS7]; · iexact HS7
    iexact HL7
  iintro ⟨HTB1, HzsB1, HOW, HS7⟩
  iapply (bind_step c)
  iapply (part_23 m c v32 ) $$ [HOW HS10 HL10 HzsB1 HS7]
  · isplitr; · iexact HC
    isplitl [HOW]; · iexact HOW
    isplitl [HS10]; · iexact HS10
    isplitl [HL10]; · iexact HL10
    isplitl [HzsB1]; · iexact HzsB1
    iexact HS7
  iintro ⟨HOW, HS10, HzsB1, HS7, HzsF1, HzcF1⟩
  iapply (bind_step c)
  iapply (part_24 m c v36 v536 v538 v649 v654 ) $$ [HOW HS10 HTF2 HzcF1 HTB2]
  · isplitr; · iexact HC
    isplitl [HOW]; · iexact HOW
    isplitl [HS10]; · iexact HS10
    isplitl [HTF2]; · iexact HTF2
    isplitl [HzcF1]; · iexact HzcF1
    iexact HTB2
  iintro ⟨HOW, HS10, HzcB1, HTF2, HzcF1, HTB2⟩
  iapply (bind_step c)
  iapply (part_25 m c v19 v536 v538 ) $$ [HTB2 HTF2 HzsF2 HzsB2]
  · isplitr; · iexact HC
    isplitl [HTB2]; · iexact HTB2
    isplitl [HTF2]; · iexact HTF2
    isplitl [HzsF2]; · iexact HzsF2
    iexact HzsB2
  iintro %v754 %v759 ⟨HTB2, HTF2, HzsF2, HzsB2⟩
  iapply (bind_step c)
  iapply (part_26 m c v32 v36 ) $$ [HOW HS8 HL8 HzsF2 HS11 HL11 HzsB2]
  · isplitr; · iexact HC
    isplitl [HOW]; · iexact HOW
    isplitl [HS8]; · iexact HS8
    isplitl [HL8]; · iexact HL8
    isplitl [HzsF2]; · iexact HzsF2
    isplitl [HS11]; · iexact HS11
    isplitl [HL11]; · iexact HL11
    iexact HzsB2
  iintro ⟨HOW, HS8, HzsF2, HS11⟩
  iapply (bind_step c)
  iapply (part_27 m c v32 v36 v536 v538 v754 v759 ) $$ [HOW HS8 HS11]
  · isplitr; · iexact HC
    isplitl [HOW]; · iexact HOW
    isplitl [HS8]; · iexact HS8
    iexact HS11
  iintro %v828 %v831 ⟨HOW, HS8, HzcF2, HS11, HzsB2, HzcB2⟩
  iapply (bind_step c)
  iapply (part_28 m c v19 v536 v828 v831 ) $$ [HTF1 HzcF2 HTB3 HzcB2 HGA5]
  · isplitr; · iexact HC
    isplitl [HTF1]; · iexact HTF1
    isplitl [HzcF2]; · iexact HzcF2
    isplitl [HTB3]; · iexact HTB3
    isplitl [HzcB2]; · iexact HzcB2
    iexact HGA5
  iintro %v857 %v867 ⟨HTF1, HzcF2, HTB3, HzcB2, HGA5⟩
  iapply (bind_step c)
  iapply (part_29 m c v19 v32 v536 v538 v857 v867 ) $$ [HGA5 HTB3 HGB3]
  · isplitr; · iexact HC
    isplitl [HGA5]; · iexact HGA5
    isplitl [HTB3]; · iexact HTB3
    iexact HGB3
  iintro ⟨HGA5, HTB3, HGB3⟩
  iapply (bind_step c)
  iapply (part_30 m c v32 v36 ) $$ [HOW HS12 HL12 HGA5 HS15 HL15 HGB3]
  · isplitr; · iexact HC
    isplitl [HOW]; · iexact HOW
    isplitl [HS12]; · iexact HS12
    isplitl [HL12]; · iexact HL12
    isplitl [HGA5]; · iexact HGA5
    isplitl [HS15]; · iexact HS15
    isplitl [HL15]; · iexact HL15
    iexact HGB3
  iintro ⟨HOW, HS12, HGA5, HS15, HGA4⟩
  iapply (bind_step c)
  iapply (part_31 m c v19 v32 v36 v536 v538 ) $$ [HOW HS15]
  · isplitr; · iexact HC
    isplitl [HOW]; · iexact HOW
    iexact HS15
  iintro ⟨HOW, HS15, HGB3, HGB4⟩
  iapply (bind_step c)
  iapply (part_32 m c v32 v36 ) $$ [HOW HS13 HL13 HGA4 HS16 HL16 HGB4]
  · isplitr; · iexact HC
    isplitl [HOW]; · iexact HOW
    isplitl [HS13]; · iexact HS13
    isplitl [HL13]; · iexact HL13
    isplitl [HGA4]; · iexact HGA4
    isplitl [HS16]; · iexact HS16
    isplitl [HL16]; · iexact HL16
    iexact HGB4
  iintro ⟨HOW, HS13, HGA4, HS16, HGA3⟩
  iapply (bind_step c)
  iapply (part_33 m c v19 v32 v36 v536 v538 ) $$ [HOW HS16]
  · isplitr; · iexact HC
    isplitl [HOW]; · iexact HOW
    iexact HS16
  iintro ⟨HOW, HS16, HGB4, HGB5⟩
  iapply (bind_step c)
  iapply (part_34 m c v32 v36 ) $$ [HOW HS14 HL14 HGA3 HS17 HL17 HGB5]
  · isplitr; · iexact HC
    isplitl [HOW]; · iexact HOW
    isplitl [HS14]; · iexact HS14
    isplitl [HL14]; · iexact HL14
    isplitl [HGA3]; · iexact HGA3
    isplitl [HS17]; · iexact HS17
    isplitl [HL17]; · iexact HL17
    iexact HGB5
  iintro ⟨HOW, HS14, HGA3, HS17⟩
  iapply (bind_step c)
  iapply (part_35 m c v20 v24 v36 ) $$ [HOW HS14 HS17 HGA5 HGA4 HGA3 HGB3 HGB4]
  · isplitr; · iexact HC
    isplitl [HOW]; · iexact HOW
    isplitl [HS14]; · iexact HS14
    isplitl [HS17]; · iexact HS17
    isplitl [HGA5]; · iexact HGA5
    isplitl [HGA4]; · iexact HGA4
    isplitl [HGA3]; · iexact HGA3
    isplitl [HGB3]; · iexact HGB3
    iexact HGB4
  iintro ⟨HOW, HS14, HS17, HHA5, HHB3⟩
  iapply (bind_step c)
  iapply (part_36 m c v24 v28 ) $$ [HOW HS18 HL18 HHA5 HS21 HL21 HHB3]
  · isplitr; · iexact HC
    isplitl [HOW]; · iexact HOW
    isplitl [HS18]; · iexact HS18
    isplitl [HL18]; · iexact HL18
    isplitl [HHA5]; · iexact HHA5
    isplitl [HS21]; · iexact HS21
    isplitl [HL21]; · iexact HL21
    iexact HHB3
  iintro ⟨HOW, HS18, HHA5, HS21, HHA4⟩
  iapply (bind_step c)
  iapply (part_37 m c v20 v24 v28 ) $$ [HOW HS21 HS19 HL19 HHA4]
  · isplitr; · iexact HC
    isplitl [HOW]; · iexact HOW
    isplitl [HS21]; · iexact HS21
    isplitl [HS19]; · iexact HS19
    isplitl [HL19]; · iexact HL19
    iexact HHA4
  iintro %c1_i32_967 ⟨HOW, HS21, HHB3, HHB4, HS19⟩
  iapply (bind_step c)
  iapply (part_38 m c v24 v28 c1_i32_967 ) $$ [HOW HS22 HL22 HHB4 HS19]
  · isplitr; · iexact HC
    isplitl [HOW]; · iexact HOW
    isplitl [HS22]; · iexact HS22
    isplitl [HL22]; · iexact HL22
    isplitl [HHB4]; · iexact HHB4
    iexact HS19
  iintro ⟨HOW, HS22, HHB4, HS19, HHA4, HHA3⟩
  iapply (bind_step c)
  iapply (part_39 m c v20 v24 v28 ) $$ [HOW HS22 HS20 HL20 HHA3]
  · isplitr; · iexact HC
    isplitl [HOW]; · iexact HOW
    isplitl [HS22]; · iexact HS22
    isplitl [HS20]; · iexact HS20
    isplitl [HL20]; · iexact HL20
    iexact HHA3
  iintro ⟨HOW, HS22, HHB5, HS20⟩
  iapply (bind_step c)
  iapply (part_40 m c v24 v28 ) $$ [HOW HS23 HL23 HHB5 HS20 HHA5 HHA4 HHB3 HHB4]
  · isplitr; · iexact HC
    isplitl [HOW]; · iexact HOW
    isplitl [HS23]; · iexact HS23
    isplitl [HL23]; · iexact HL23
    isplitl [HHB5]; · iexact HHB5
    isplitl [HS20]; · iexact HS20
    isplitl [HHA5]; · iexact HHA5
    isplitl [HHA4]; · iexact HHA4
    isplitl [HHB3]; · iexact HHB3
    iexact HHB4
  iintro ⟨HOW, HS23, HS20, HAGW⟩
  simp only [Prog.lift, Prog.bind_op, Prog.bind_ret, Prog.pure_eq_ret]
  iapply (ld_o c) $$ HO; iintro %vo HO
  iapply (st_o c _ (by decide)) $$ HO; iintro HO
  iapply (ret_step c)
  iapply Hk
  isplitl [HOW]; · iexact HOW
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HS18]; · iexact HS18
  isplitl [HS19]; · iexact HS19
  isplitl [HS20]; · iexact HS20
  isplitl [HS21]; · iexact HS21
  isplitl [HS22]; · iexact HS22
  isplitl [HS23]; · iexact HS23
  isplitl [HX]; · iexact HX
  isplitl [HK]; · iexact HK
  isplitl [HW]; · iexact HW
  isplitl [HO]; · iexact HO
  isplitl [HBV]; · iexact HBV
  isplitl [HF0]; · iexact HF0
  isplitl [HB0]; · iexact HB0
  isplitl [HF3]; · iexact HF3
  isplitl [HB1]; · iexact HB1
  isplitl [HpsF0]; · iexact HpsF0
  isplitl [HpcF0]; · iexact HpcF0
  isplitl [HpsB0]; · iexact HpsB0
  isplitl [HpcB0]; · iexact HpcB0
  isplitl [HF2]; · iexact HF2
  isplitl [HB2]; · iexact HB2
  isplitl [HpsF1]; · iexact HpsF1
  isplitl [HpcF1]; · iexact HpcF1
  isplitl [HpsB1]; · iexact HpsB1
  isplitl [HpcB1]; · iexact HpcB1
  isplitl [HpsF2]; · iexact HpsF2
  isplitl [HpcF2]; · iexact HpcF2
  isplitl [HpsB2]; · iexact HpsB2
  isplitl [HpcB2]; · iexact HpcB2
  isplitl [HTF0]; · iexact HTF0
  isplitl [HTF1]; · iexact HTF1
  isplitl [HTF2]; · iexact HTF2
  isplitl [HTF3]; · iexact HTF3
  isplitl [HTB0]; · iexact HTB0
  isplitl [HTB1]; · iexact HTB1
  isplitl [HTB2]; · iexact HTB2
  isplitl [HTB3]; · iexact HTB3
  isplitl [HzsF0]; · iexact HzsF0
  isplitl [HzcF0]; · iexact HzcF0
  isplitl [HzsB0]; · iexact HzsB0
  isplitl [HzcB0]; · iexact HzcB0
  isplitl [HzsF1]; · iexact HzsF1
  isplitl [HzcF1]; · iexact HzcF1
  isplitl [HzsB1]; · iexact HzsB1
  isplitl [HzcB1]; · iexact HzcB1
  isplitl [HzsF2]; · iexact HzsF2
  isplitl [HzcF2]; · iexact HzcF2
  isplitl [HzsB2]; · iexact HzsB2
  isplitl [HzcB2]; · iexact HzcB2
  iexact HAGW

end Cert.KernelIdeal.Ring
-- ==== Proof.KernelIdealMem.lean ====
/-
What a device holds when the kernel starts and ends, sorted for the body.
-/
module

public import proofs.«01_k».proof.Proof.KernelIdealBody

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

section Mem

theorem barPay3 : (barPay (F := F) (nb c 3) 0 : sProp 𝕄) = iprop(land c 0 ∗ land c 1 ∗ land c 2 ∗ land c 18 ∗ land c 19 ∗ land c 20) := by
  show iprop(land (pr (pl c)) 0 ∗ land (pr (pl c)) 1 ∗ land (pr (pl c)) 2 ∗ land (pr (pl c)) 18 ∗ land (pr (pl c)) 19 ∗ land (pr (pl c)) 20) = _
  rw [pr_pl]
theorem barPay2 : (barPay (F := F) (nb c 2) 1 : sProp 𝕄) = iprop(land c 3 ∗ land c 4 ∗ land c 5 ∗ land c 21 ∗ land c 22 ∗ land c 23) := by
  show iprop(land (pl (pr c)) 3 ∗ land (pl (pr c)) 4 ∗ land (pl (pr c)) 5 ∗ land (pl (pr c)) 21 ∗ land (pl (pr c)) 22 ∗ land (pl (pr c)) 23) = _
  rw [pl_pr]
theorem barPay1 : (barPay (F := F) (nb c 1) 2 : sProp 𝕄) = iprop(land c 6 ∗ land c 7 ∗ land c 8 ∗ land c 12 ∗ land c 13 ∗ land c 14) := by
  show iprop(land (zr (zl c)) 6 ∗ land (zr (zl c)) 7 ∗ land (zr (zl c)) 8 ∗ land (zr (zl c)) 12 ∗ land (zr (zl c)) 13 ∗ land (zr (zl c)) 14) = _
  rw [zr_zl]
theorem barPay0 : (barPay (F := F) (nb c 0) 3 : sProp 𝕄) = iprop(land c 9 ∗ land c 10 ∗ land c 11 ∗ land c 15 ∗ land c 16 ∗ land c 17) := by
  show iprop(land (zl (zr c)) 9 ∗ land (zl (zr c)) 10 ∗ land (zl (zr c)) 11 ∗ land (zl (zr c)) 15 ∗ land (zl (zr c)) 16 ∗ land (zl (zr c)) 17) = _
  rw [zl_zr]

/-- The kernel's scratch buffers, each whole at some contents. -/
def scratch : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f))

theorem pcF_start : iprop(∃ f : Buf (Elt F) ((c : Thread nD τ).loc cc0_scratch2), ((c : Thread nD τ).loc cc0_scratch2) ↦{fullShare} f) ⊢ (iprop(jn4 pcF c 0 ∗ jn4 pcF c 1 ∗ jn4 pcF c 2) : sProp 𝕄) :=
  (slots4 c cc0_scratch2 pcF (fun _ => View.set_slice _ _) (View.set_whole _)).1
theorem pcF_end : iprop(jn4 pcF c 0 ∗ jn4 pcF c 1 ∗ jn4 pcF c 2) ⊢ (iprop(∃ f : Buf (Elt F) ((c : Thread nD τ).loc cc0_scratch2), ((c : Thread nD τ).loc cc0_scratch2) ↦{fullShare} f) : sProp 𝕄) :=
  (slots4 c cc0_scratch2 pcF (fun _ => View.set_slice _ _) (View.set_whole _)).2
theorem pcB_start : iprop(∃ f : Buf (Elt F) ((c : Thread nD τ).loc cc0_scratch3), ((c : Thread nD τ).loc cc0_scratch3) ↦{fullShare} f) ⊢ (iprop(jn4 pcB c 0 ∗ jn4 pcB c 1 ∗ jn4 pcB c 2) : sProp 𝕄) :=
  (slots4 c cc0_scratch3 pcB (fun _ => View.set_slice _ _) (View.set_whole _)).1
theorem pcB_end : iprop(jn4 pcB c 0 ∗ jn4 pcB c 1 ∗ jn4 pcB c 2) ⊢ (iprop(∃ f : Buf (Elt F) ((c : Thread nD τ).loc cc0_scratch3), ((c : Thread nD τ).loc cc0_scratch3) ↦{fullShare} f) : sProp 𝕄) :=
  (slots4 c cc0_scratch3 pcB (fun _ => View.set_slice _ _) (View.set_whole _)).2
theorem psF_start : iprop(∃ f : Buf (Elt F) ((c : Thread nD τ).loc cc0_scratch4), ((c : Thread nD τ).loc cc0_scratch4) ↦{fullShare} f) ⊢ (iprop(jn4 psF c 0 ∗ jn4 psF c 1 ∗ jn4 psF c 2) : sProp 𝕄) :=
  (slots4 c cc0_scratch4 psF (fun _ => View.set_slice _ _) (View.set_whole _)).1
theorem psF_end : iprop(jn4 psF c 0 ∗ jn4 psF c 1 ∗ jn4 psF c 2) ⊢ (iprop(∃ f : Buf (Elt F) ((c : Thread nD τ).loc cc0_scratch4), ((c : Thread nD τ).loc cc0_scratch4) ↦{fullShare} f) : sProp 𝕄) :=
  (slots4 c cc0_scratch4 psF (fun _ => View.set_slice _ _) (View.set_whole _)).2
theorem psB_start : iprop(∃ f : Buf (Elt F) ((c : Thread nD τ).loc cc0_scratch5), ((c : Thread nD τ).loc cc0_scratch5) ↦{fullShare} f) ⊢ (iprop(jn4 psB c 0 ∗ jn4 psB c 1 ∗ jn4 psB c 2) : sProp 𝕄) :=
  (slots4 c cc0_scratch5 psB (fun _ => View.set_slice _ _) (View.set_whole _)).1
theorem psB_end : iprop(jn4 psB c 0 ∗ jn4 psB c 1 ∗ jn4 psB c 2) ⊢ (iprop(∃ f : Buf (Elt F) ((c : Thread nD τ).loc cc0_scratch5), ((c : Thread nD τ).loc cc0_scratch5) ↦{fullShare} f) : sProp 𝕄) :=
  (slots4 c cc0_scratch5 psB (fun _ => View.set_slice _ _) (View.set_whole _)).2
theorem zcF_start : iprop(∃ f : Buf (Elt F) ((c : Thread nD τ).loc cc0_scratch6), ((c : Thread nD τ).loc cc0_scratch6) ↦{fullShare} f) ⊢ (iprop(jn3 zcF c 0 ∗ jn3 zcF c 1 ∗ jn3 zcF c 2) : sProp 𝕄) :=
  (slots3 c cc0_scratch6 zcF (fun _ => View.set_slice _ _) (View.set_whole _)).1
theorem zcF_end : iprop(jn3 zcF c 0 ∗ jn3 zcF c 1 ∗ jn3 zcF c 2) ⊢ (iprop(∃ f : Buf (Elt F) ((c : Thread nD τ).loc cc0_scratch6), ((c : Thread nD τ).loc cc0_scratch6) ↦{fullShare} f) : sProp 𝕄) :=
  (slots3 c cc0_scratch6 zcF (fun _ => View.set_slice _ _) (View.set_whole _)).2
theorem zcB_start : iprop(∃ f : Buf (Elt F) ((c : Thread nD τ).loc cc0_scratch7), ((c : Thread nD τ).loc cc0_scratch7) ↦{fullShare} f) ⊢ (iprop(jn3 zcB c 0 ∗ jn3 zcB c 1 ∗ jn3 zcB c 2) : sProp 𝕄) :=
  (slots3 c cc0_scratch7 zcB (fun _ => View.set_slice _ _) (View.set_whole _)).1
theorem zcB_end : iprop(jn3 zcB c 0 ∗ jn3 zcB c 1 ∗ jn3 zcB c 2) ⊢ (iprop(∃ f : Buf (Elt F) ((c : Thread nD τ).loc cc0_scratch7), ((c : Thread nD τ).loc cc0_scratch7) ↦{fullShare} f) : sProp 𝕄) :=
  (slots3 c cc0_scratch7 zcB (fun _ => View.set_slice _ _) (View.set_whole _)).2
theorem zsF_start : iprop(∃ f : Buf (Elt F) ((c : Thread nD τ).loc cc0_scratch8), ((c : Thread nD τ).loc cc0_scratch8) ↦{fullShare} f) ⊢ (iprop(jn3 zsF c 0 ∗ jn3 zsF c 1 ∗ jn3 zsF c 2) : sProp 𝕄) :=
  (slots3 c cc0_scratch8 zsF (fun _ => View.set_slice _ _) (View.set_whole _)).1
theorem zsF_end : iprop(jn3 zsF c 0 ∗ jn3 zsF c 1 ∗ jn3 zsF c 2) ⊢ (iprop(∃ f : Buf (Elt F) ((c : Thread nD τ).loc cc0_scratch8), ((c : Thread nD τ).loc cc0_scratch8) ↦{fullShare} f) : sProp 𝕄) :=
  (slots3 c cc0_scratch8 zsF (fun _ => View.set_slice _ _) (View.set_whole _)).2
theorem zsB_start : iprop(∃ f : Buf (Elt F) ((c : Thread nD τ).loc cc0_scratch9), ((c : Thread nD τ).loc cc0_scratch9) ↦{fullShare} f) ⊢ (iprop(jn3 zsB c 0 ∗ jn3 zsB c 1 ∗ jn3 zsB c 2) : sProp 𝕄) :=
  (slots3 c cc0_scratch9 zsB (fun _ => View.set_slice _ _) (View.set_whole _)).1
theorem zsB_end : iprop(jn3 zsB c 0 ∗ jn3 zsB c 1 ∗ jn3 zsB c 2) ⊢ (iprop(∃ f : Buf (Elt F) ((c : Thread nD τ).loc cc0_scratch9), ((c : Thread nD τ).loc cc0_scratch9) ↦{fullShare} f) : sProp 𝕄) :=
  (slots3 c cc0_scratch9 zsB (fun _ => View.set_slice _ _) (View.set_whole _)).2

/-- The scratch buffers at entry: the accumulator's macro blocks, the send slots, the two tiles the device finishes
    itself, and the landing places its signals hand its neighbours. -/
theorem scratch_start : scratch c ⊢ (iprop(∃ v0_ v1_ v2_ v3_ : (Sn 8).Idx → F .f32, accP 8 c (8 * mq c 0) v0_ ∗ accP 8 c (8 * mq c 1) v1_ ∗ accP 8 c (8 * mq c 2) v2_ ∗ accP 8 c (8 * mq c 3) v3_ ∗ jn4 psF c 0 ∗ jn4 psF c 1 ∗ jn4 psF c 2 ∗ jn4 psB c 0 ∗ jn4 psB c 1 ∗ jn4 psB c 2 ∗ jn3 zsF c 0 ∗ jn3 zsF c 1 ∗ jn3 zsF c 2 ∗ jn3 zsB c 0 ∗ jn3 zsB c 1 ∗ jn3 zsB c 2 ∗ agJ 1 c (8 * mq c 1 + mp c 5) ∗ agJ 1 c (8 * mq c 3 + 4 + mp c 3)
      ∗ barPay (nb c 3) 0 ∗ barPay (nb c 2) 1 ∗ barPay (nb c 1) 2 ∗ barPay (nb c 0) 3) : sProp 𝕄) := by
  rw [barPay3, barPay2, barPay1, barPay0, show land (F := F) c 0 = jn4 pcF c 0 from rfl, show land (F := F) c 1 = jn4 pcF c 1 from rfl, show land (F := F) c 2 = jn4 pcF c 2 from rfl, show land (F := F) c 3 = jn4 pcB c 0 from rfl, show land (F := F) c 4 = jn4 pcB c 1 from rfl, show land (F := F) c 5 = jn4 pcB c 2 from rfl, show land (F := F) c 6 = jn3 zcF c 0 from rfl, show land (F := F) c 7 = jn3 zcF c 1 from rfl, show land (F := F) c 8 = jn3 zcF c 2 from rfl, show land (F := F) c 9 = jn3 zcB c 0 from rfl, show land (F := F) c 10 = jn3 zcB c 1 from rfl, show land (F := F) c 11 = jn3 zcB c 2 from rfl]
  unfold scratch
  iintro ⟨HA, HG, HpcF, HpcB, HpsF, HpsB, HzcF, HzcB, HzsF, HzsB⟩
  ihave HA := (acc_start c) $$ HA
  icases HA with ⟨%v0_, %v1_, %v2_, %v3_, HM0, HM1, HM2, HM3⟩
  ihave HG := (ag_start c) $$ HG
  icases HG with ⟨HGA5, HGB3, HL12, HL13, HL14, HL15, HL16, HL17, HL18, HL19, HL20, HL21, HL22, HL23⟩
  ihave HpcF := (pcF_start c) $$ HpcF
  icases HpcF with ⟨HL0, HL1, HL2⟩
  ihave HpcB := (pcB_start c) $$ HpcB
  icases HpcB with ⟨HL3, HL4, HL5⟩
  ihave HpsF := (psF_start c) $$ HpsF
  icases HpsF with ⟨HpsF0, HpsF1, HpsF2⟩
  ihave HpsB := (psB_start c) $$ HpsB
  icases HpsB with ⟨HpsB0, HpsB1, HpsB2⟩
  ihave HzcF := (zcF_start c) $$ HzcF
  icases HzcF with ⟨HL6, HL7, HL8⟩
  ihave HzcB := (zcB_start c) $$ HzcB
  icases HzcB with ⟨HL9, HL10, HL11⟩
  ihave HzsF := (zsF_start c) $$ HzsF
  icases HzsF with ⟨HzsF0, HzsF1, HzsF2⟩
  ihave HzsB := (zsB_start c) $$ HzsB
  icases HzsB with ⟨HzsB0, HzsB1, HzsB2⟩
  iexists v0_, v1_, v2_, v3_
  isplitl [HM0]; · iexact HM0
  isplitl [HM1]; · iexact HM1
  isplitl [HM2]; · iexact HM2
  isplitl [HM3]; · iexact HM3
  isplitl [HpsF0]; · iexact HpsF0
  isplitl [HpsF1]; · iexact HpsF1
  isplitl [HpsF2]; · iexact HpsF2
  isplitl [HpsB0]; · iexact HpsB0
  isplitl [HpsB1]; · iexact HpsB1
  isplitl [HpsB2]; · iexact HpsB2
  isplitl [HzsF0]; · iexact HzsF0
  isplitl [HzsF1]; · iexact HzsF1
  isplitl [HzsF2]; · iexact HzsF2
  isplitl [HzsB0]; · iexact HzsB0
  isplitl [HzsB1]; · iexact HzsB1
  isplitl [HzsB2]; · iexact HzsB2
  isplitl [HGA5]; · iexact HGA5
  isplitl [HGB3]; · iexact HGB3
  isplitl [HL0 HL1 HL2 HL18 HL19 HL20]
  · isplitl [HL0]; · iexact HL0
    isplitl [HL1]; · iexact HL1
    isplitl [HL2]; · iexact HL2
    isplitl [HL18]; · iexact HL18
    isplitl [HL19]; · iexact HL19
    iexact HL20
  isplitl [HL3 HL4 HL5 HL21 HL22 HL23]
  · isplitl [HL3]; · iexact HL3
    isplitl [HL4]; · iexact HL4
    isplitl [HL5]; · iexact HL5
    isplitl [HL21]; · iexact HL21
    isplitl [HL22]; · iexact HL22
    iexact HL23
  isplitl [HL6 HL7 HL8 HL12 HL13 HL14]
  · isplitl [HL6]; · iexact HL6
    isplitl [HL7]; · iexact HL7
    isplitl [HL8]; · iexact HL8
    isplitl [HL12]; · iexact HL12
    isplitl [HL13]; · iexact HL13
    iexact HL14
  isplitl [HL9]; · iexact HL9
  isplitl [HL10]; · iexact HL10
  isplitl [HL11]; · iexact HL11
  isplitl [HL15]; · iexact HL15
  isplitl [HL16]; · iexact HL16
  iexact HL17

/-- and at exit. -/
theorem scratch_end : iprop(accP 4 c (8 * mq c 0) (AF m 0 c) ∗ accP 4 c (8 * mq c 0 + 4) (AB m 0 c) ∗ accP 4 c (8 * mq c 3) (AF m 1 c) ∗ accP 4 c (8 * mq c 1 + 4) (AB m 1 c) ∗ jn4 psF c 0 ∗ st4 pcF c 0 (k0_pay9 (AF m 0 (pl c))) ∗ jn4 psB c 0 ∗ st4 pcB c 0 (k0_pay9 (AB m 0 (pr c))) ∗ accP 4 c (8 * mq c 2) (AF m 2 c) ∗ accP 4 c (8 * mq c 2 + 4) (AB m 2 c) ∗ jn4 psF c 1 ∗ st4 pcF c 1 (k0_pay9 (AF m 1 (pl c))) ∗ jn4 psB c 1 ∗ st4 pcB c 1 (k0_pay9 (AB m 1 (pr c))) ∗ jn4 psF c 2 ∗ st4 pcF c 2 (k0_pay9 (AF m 2 (pl c))) ∗ jn4 psB c 2 ∗ st4 pcB c 2 (k0_pay9 (AB m 2 (pr c))) ∗ accP 1 c (8 * mq c 1 + mp c 0) (ZF m 0 c) ∗ accP 1 c (8 * mq c 1 + mp c 1) (ZF m 3 c) ∗ accP 1 c (8 * mq c 1 + mp c 2) (ZF m 2 c) ∗ accP 1 c (8 * mq c 1 + mp c 3) (ZF m 1 c) ∗ accP 1 c (8 * mq c 3 + 4 + mp c 0) (ZB m 0 c) ∗ accP 1 c (8 * mq c 3 + 4 + mp c 1) (ZB m 1 c) ∗ accP 1 c (8 * mq c 3 + 4 + mp c 2) (ZB m 2 c) ∗ accP 1 c (8 * mq c 3 + 4 + mp c 3) (ZB m 3 c) ∗ jn3 zsF c 0 ∗ st3 zcF c 0 (k0_pay29 (ZF m 0 (zl c))) ∗ jn3 zsB c 0 ∗ st3 zcB c 0 (k0_pay29 (ZB m 0 (zr c))) ∗ jn3 zsF c 1 ∗ st3 zcF c 1 (k0_pay29 (ZF m 1 (zl c))) ∗ jn3 zsB c 1 ∗ st3 zcB c 1 (k0_pay29 (ZB m 1 (zr c))) ∗ jn3 zsF c 2 ∗ st3 zcF c 2 (k0_pay29 (ZF m 2 (zl c))) ∗ jn3 zsB c 2 ∗ st3 zcB c 2 (k0_pay29 (ZB m 2 (zr c))) ∗ (((c : Thread nD τ).loc cc0_scratch1) ↦{fullShare} AG m)) ⊢ (scratch c : sProp 𝕄) := by
  unfold scratch
  iintro ⟨HF0, HB0, HF3, HB1, HpsF0, HpcF0, HpsB0, HpcB0, HF2, HB2, HpsF1, HpcF1, HpsB1, HpcB1, HpsF2, HpcF2, HpsB2, HpcB2, HTF0, HTF1, HTF2, HTF3, HTB0, HTB1, HTB2, HTB3, HzsF0, HzcF0, HzsB0, HzcB0, HzsF1, HzcF1, HzsB1, HzcB1, HzsF2, HzcF2, HzsB2, HzcB2, HAGW⟩
  ihave HF0 := (acc_junk 4 c (8 * mq c 0) (AF m 0 c)) $$ HF0
  ihave HF2 := (acc_junk 4 c (8 * mq c 2) (AF m 2 c)) $$ HF2
  ihave HF3 := (acc_junk 4 c (8 * mq c 3) (AF m 1 c)) $$ HF3
  ihave HB0 := (acc_junk 4 c (8 * mq c 0 + 4) (AB m 0 c)) $$ HB0
  ihave HB1 := (acc_junk 4 c (8 * mq c 1 + 4) (AB m 1 c)) $$ HB1
  ihave HB2 := (acc_junk 4 c (8 * mq c 2 + 4) (AB m 2 c)) $$ HB2
  ihave HTF := (acc_half_end (F := F) c (8 * mq c 1) (perm_p0123 c)) $$ [HTF0 HTF1 HTF2 HTF3]
  · isplitl [HTF0]; · iexact HTF0
    isplitl [HTF1]; · iexact HTF1
    isplitl [HTF2]; · iexact HTF2
    iexact HTF3
  ihave HTB := (acc_half_end (F := F) c (8 * mq c 3 + 4) (perm_p0123 c)) $$ [HTB0 HTB1 HTB2 HTB3]
  · isplitl [HTB0]; · iexact HTB0
    isplitl [HTB1]; · iexact HTB1
    isplitl [HTB2]; · iexact HTB2
    iexact HTB3
  isplitl [HF0 HB0 HTF HB1 HF2 HB2 HF3 HTB]
  · iapply (acc_end (F := F) c)
    isplitl [HF0 HB0]; · (isplitl [HF0] <;> iassumption)
    isplitl [HTF HB1]; · (isplitl [HTF] <;> iassumption)
    isplitl [HF2 HB2]; · (isplitl [HF2] <;> iassumption)
    isplitl [HF3] <;> iassumption
  isplitl [HAGW]; · iexists _; iexact HAGW
  isplitl [HpcF0 HpcF1 HpcF2]
  · iapply (pcF_end c)
    isplitl [HpcF0]; · (unfold jn4; iexists _; iexact HpcF0)
    isplitl [HpcF1]; · (unfold jn4; iexists _; iexact HpcF1)
    (unfold jn4; iexists _; iexact HpcF2)
  isplitl [HpcB0 HpcB1 HpcB2]
  · iapply (pcB_end c)
    isplitl [HpcB0]; · (unfold jn4; iexists _; iexact HpcB0)
    isplitl [HpcB1]; · (unfold jn4; iexists _; iexact HpcB1)
    (unfold jn4; iexists _; iexact HpcB2)
  isplitl [HpsF0 HpsF1 HpsF2]
  · iapply (psF_end c)
    isplitl [HpsF0]; · iexact HpsF0
    isplitl [HpsF1]; · iexact HpsF1
    iexact HpsF2
  isplitl [HpsB0 HpsB1 HpsB2]
  · iapply (psB_end c)
    isplitl [HpsB0]; · iexact HpsB0
    isplitl [HpsB1]; · iexact HpsB1
    iexact HpsB2
  isplitl [HzcF0 HzcF1 HzcF2]
  · iapply (zcF_end c)
    isplitl [HzcF0]; · (unfold jn3; iexists _; iexact HzcF0)
    isplitl [HzcF1]; · (unfold jn3; iexists _; iexact HzcF1)
    (unfold jn3; iexists _; iexact HzcF2)
  isplitl [HzcB0 HzcB1 HzcB2]
  · iapply (zcB_end c)
    isplitl [HzcB0]; · (unfold jn3; iexists _; iexact HzcB0)
    isplitl [HzcB1]; · (unfold jn3; iexists _; iexact HzcB1)
    (unfold jn3; iexists _; iexact HzcB2)
  isplitl [HzsF0 HzsF1 HzsF2]
  · iapply (zsF_end c)
    isplitl [HzsF0]; · iexact HzsF0
    isplitl [HzsF1]; · iexact HzsF1
    iexact HzsF2
  iapply (zsB_end c)
  isplitl [HzsB0]; · iexact HzsB0
  isplitl [HzsB1]; · iexact HzsB1
  iexact HzsB2

end Mem

end Cert.KernelIdeal.Ring
-- ==== Proof.KernelIdealLaunch.lean ====
/-
The launch: the ghost state dealt to the devices, the body's obligation, and the run of the whole program.
-/
module

public import proofs.«01_k».proof.Proof.KernelIdealMem
public import Idealize.ShloMosaic.Lib.Pipeline.CollectiveSegs

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Copies one by one, cells one by one -/

theorem bigSep24 (Φ : Fin 24 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) :=
  bigSep_univ_eq_bigSepL [0, 1, 2, 3, 4, 5, 6, 7, 8, 9, 10, 11, 12, 13, 14, 15, 16, 17, 18, 19, 20, 21, 22, 23] (by decide) (by decide) Φ
theorem bigSep4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A device's cells: its barrier cell, its send cells, its receive cells. -/
def cellIx : Unit ⊕ (Fin 24 ⊕ Fin 24) → Fin 49 := Sum.elim (fun _ => 0) (Sum.elim jS jR)
theorem cellIx_bij : Function.Bijective cellIx := by
  rw [Fintype.bijective_iff_injective_and_card]
  refine ⟨?_, by simp⟩
  rintro (_ | k | k) (_ | k' | k') h <;> have h' := congrArg Fin.val h <;> simp [cellIx, jS, jR] at h' ⊢
  · exact Fin.ext h'
  · omega
  · omega
  · exact Fin.ext h'
theorem bigSep49 (Φ : Fin 49 → sProp 𝕄) :
    bigSep Finset.univ Φ = iprop(Φ 0 ∗ (bigSep Finset.univ fun k : Fin 24 => Φ (jS k)) ∗ bigSep Finset.univ fun k : Fin 24 => Φ (jR k)) := by
  rw [bigSep_univ_equiv (Equiv.ofBijective cellIx cellIx_bij), bigSep_univ_sum, bigSep_univ_sum, bigSep_univ_of_subsingleton ()]
  rfl

theorem csem_inj : Function.Injective csem := by
  intro j j' h
  unfold csem at h
  by_cases h0 : j.val = 0 <;> by_cases h1 : j'.val = 0
  · exact Fin.ext (h0.trans h1.symm)
  · rw [if_pos h0, if_neg h1] at h; cases h
  · rw [if_neg h0, if_pos h1] at h; cases h
  · rw [if_neg h0, if_neg h1] at h
    have h2 := congrArg Fin.val (SemLoc.dma.inj h)
    have h3 : 3 + j.val = 3 + j'.val := h2
    exact Fin.ext (by omega)

theorem kcell_inj : Function.Injective kcell := by
  rintro ⟨c, k⟩ ⟨c', k'⟩ h
  have h1 : c = c' := congrArg (fun g : GSem nD τ sig => g.1.1) h
  subst h1
  rw [csem_inj (show csem k = csem k' from congrArg Prod.snd h)]

/-! ## The launch's ghost state -/

def ringCells : Finset (GSem nD τ sig) := Finset.univ.map ⟨kcell, kcell_inj⟩

/-- The duties of a device's own cells: four at its barrier cell, one at each send and each receive cell. -/
def tokOf (p : Dev nD × (Fin 4 ⊕ (Fin 24 ⊕ Fin 24))) : GSem nD τ sig × ℕ × Fin 4 :=
  match p.2 with
  | .inl d => (barCell p.1, 0, d)
  | .inr (.inl k) => (sendCell p.1 k, 0, 0)
  | .inr (.inr k) => (recvCell p.1 k, 0, 0)
theorem sendS_inj {k k' : Fin 24} (h : sendS k = sendS k') : k = k' := by
  have h2 : 4 + k.val = 4 + k'.val := congrArg Fin.val h
  exact Fin.ext (by omega)
theorem recvS_inj {k k' : Fin 24} (h : recvS k = recvS k') : k = k' := by
  have h2 : 28 + k.val = 28 + k'.val := congrArg Fin.val h
  exact Fin.ext (by omega)
theorem send_ne_recv (k k' : Fin 24) : sendS k ≠ recvS k' := fun h => by
  have h2 : 4 + k.val = 28 + k'.val := congrArg Fin.val h
  have := k.isLt; omega
theorem tokOf_inj : Function.Injective tokOf := by
  rintro ⟨c, j⟩ ⟨c', j'⟩ h
  have h1 : c = c' := by
    have := congrArg (fun x : GSem nD τ sig × ℕ × Fin 4 => x.1.1.1) h
    rcases j with d | k | k <;> rcases j' with d' | k' | k' <;> exact this
  subst h1
  have hs := congrArg (fun x : GSem nD τ sig × ℕ × Fin 4 => x.1.2) h
  have hd := congrArg (fun x : GSem nD τ sig × ℕ × Fin 4 => x.2.2) h
  rcases j with d | k | k <;> rcases j' with d' | k' | k' <;> dsimp only [tokOf] at hs hd
  · rw [hd]
  · cases hs
  · cases hs
  · cases hs
  · rw [sendS_inj (SemLoc.dma.inj hs)]
  · exact absurd (SemLoc.dma.inj hs) (send_ne_recv k k')
  · cases hs
  · exact absurd (SemLoc.dma.inj hs).symm (send_ne_recv k' k)
  · rw [recvS_inj (SemLoc.dma.inj hs)]
def ringToks : Finset (GSem nD τ sig × ℕ × Fin 4) := Finset.univ.map ⟨tokOf, tokOf_inj⟩

def u₀ : UU := (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 0 ∗ dutyTok ER (barCell c) 0 1 ∗ dutyTok ER (barCell c) 0 2 ∗ dutyTok ER (barCell c) 0 3)
    ∗ (bigSep Finset.univ fun k : Fin 24 => dutyTok ER (sendCell c k) 0 0) ∗ bigSep Finset.univ fun k : Fin 24 => dutyTok ER (recvCell c k) 0 0)
/-- The duty tokens that device `c` pays with. -/
def payToks (c : Dev nD) : sProp 𝕄 :=
  iprop((dutyTok ER (barCell (nb c 3)) 0 0 ∗ dutyTok ER (barCell (nb c 2)) 0 1 ∗ dutyTok ER (barCell (nb c 1)) 0 2 ∗ dutyTok ER (barCell (nb c 0)) 0 3)
    ∗ (bigSep Finset.univ fun k : Fin 24 => dutyTok ER (sendCell c k) 0 0) ∗ bigSep Finset.univ fun k : Fin 24 => dutyTok ER (recvCell (peer c k) k) 0 0)

/-- A device's share of the launch's ghost state. -/
def G (c : Dev nD) : sProp 𝕄 :=
  iprop((bigSep Finset.univ fun k : Fin 49 => roundState ER (rd m) (kcell (c, k)) 0)
    ∗ (bigSep Finset.univ fun k : Fin 49 => iprop(atPos ER (kcell (c, k)) 0 ∅ 0 ∗ reached ER (kcell (c, k)) 0)) ∗ toks c)

/-- Its positions and the tokens it pays with; -/
def linear (c : Dev nD) : sProp 𝕄 :=
  iprop((bigSep Finset.univ fun k : Fin 49 => atPos ER (kcell (c, k)) 0 ∅ 0) ∗ payToks c)
/-- what the global step makes of its share. -/
def G' (c : Dev nD) : sProp 𝕄 := iprop((∃ K, records m K) ∗ linear c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 49 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_univ_sum, bigSep4]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Semaphores -/

/-- The kernel's own semaphores: one send and one receive semaphore a copy. -/
def osem : Fin 24 ⊕ Fin 24 → SemLoc sig := Sum.elim (fun k => .dma (sendS k)) (fun k => .dma (recvS k))
theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = iprop((bigSep Finset.univ fun k : Fin 24 => semVal (sendCell c k) 0) ∗ bigSep Finset.univ fun k : Fin 24 => semVal (recvCell c k) 0) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem kcell49 (Φ : GSem nD τ sig → sProp 𝕄) (c : Dev nD) : (bigSep Finset.univ fun k : Fin 49 => Φ (kcell (c, k)))
    = iprop(Φ (barCell c) ∗ (bigSep Finset.univ fun k : Fin 24 => Φ (sendCell c k)) ∗ bigSep Finset.univ fun k : Fin 24 => Φ (recvCell c k)) := by
  rw [bigSep49, show kcell (c, 0) = barCell c from rfl]
  rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 49 => semVal (kcell (c, k)) 0 : sProp 𝕄) := by
  rw [ownSems0_eq, unscopedSems0_eq, kcell49 (fun g => semVal g 0)]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 49 => iprop(∃ κ : ℕ, cellInv ER (rd m) κ (kcell (c, k))))
          ∗ (bigSep Finset.univ fun k : Fin 49 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 49 => semVal (kcell (c, k)) 0) ∗ bigSep Finset.univ fun k : Fin 49 => roundState ER (rd m) (kcell (c, k)) 0)
      ⊢ (|={Set.univ}=> bigSep Finset.univ fun k : Fin 49 => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt over the mesh -/

set_option backward.proofsInPublic true in
def eqPr : Dev nD ≃ Dev nD := ⟨pr, pl, pl_pr, pr_pl⟩
set_option backward.proofsInPublic true in
def eqZr : Dev nD ≃ Dev nD := ⟨zr, zl, zl_zr, zr_zl⟩
set_option backward.proofsInPublic true in
def eqPeer (k : Fin 24) : Dev nD ≃ Dev nD := ⟨fun c => peer c k, fun c => orig c k, fun c => orig_peer c k, fun c => peer_orig c k⟩

theorem toks_around : (bigSep Finset.univ fun c : Dev nD => (toks c : sProp 𝕄)) ⊢ bigSep Finset.univ fun c : Dev nD => payToks c := by
  have hR : (bigSep Finset.univ fun c : Dev nD => bigSep Finset.univ fun k : Fin 24 => (dutyTok ER (recvCell c k) 0 0 : sProp 𝕄))
      = bigSep Finset.univ fun c : Dev nD => bigSep Finset.univ fun k : Fin 24 => dutyTok ER (recvCell (peer c k) k) 0 0 := by
    rw [BI.bigSep_univ_comm, BI.bigSep_univ_comm (fun (c : Dev nD) (k : Fin 24) => (dutyTok ER (recvCell (peer c k) k) 0 0 : sProp 𝕄))]
    exact bigSep_congr fun k _ => bigSep_univ_equiv (eqPeer k) _
  unfold toks payToks
  simp only [bigSep_sep']
  rw [bigSep_univ_equiv eqPr.symm (fun c : Dev nD => (dutyTok ER (barCell c) 0 0 : sProp 𝕄)),
    bigSep_univ_equiv eqPr (fun c : Dev nD => (dutyTok ER (barCell c) 0 1 : sProp 𝕄)),
    bigSep_univ_equiv eqZr.symm (fun c : Dev nD => (dutyTok ER (barCell c) 0 2 : sProp 𝕄)),
    bigSep_univ_equiv eqZr (fun c : Dev nD => (dutyTok ER (barCell c) 0 3 : sProp 𝕄)), hR]
  exact BI.Entails.refl _

theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 49 => iprop(∃ κ : ℕ, cellInv ER (rd m) κ (kcell (c, k))))
          ∗ (bigSep Finset.univ fun k : Fin 49 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun p : Dev nD × Fin 49 => iprop(∃ κ : ℕ, cellInv ER (rd m) κ (kcell p))),
    bigSep_congr (s := Finset.univ) (fun (c : Dev nD) _ => bigSep_sep' Finset.univ (fun k : Fin 49 => (atPos ER (kcell (c, k)) 0 ∅ 0 : sProp 𝕄)) (fun k => reached ER (kcell (c, k)) 0)),
    bigSep_sep', ← bigSep_univ_prod (fun p : Dev nD × Fin 49 => (reached ER (kcell p) 0 : sProp 𝕄))]
  iintro ⟨HI, ⟨Hat, #HR⟩, Htok⟩
  ihave HK := (BI.bigSep_exists_pi Finset.univ (fun (p : Dev nD × Fin 49) (κ : ℕ) => (cellInv ER (rd m) κ (kcell p) : sProp 𝕄))) $$ HI
  icases HK with ⟨%K, #HI⟩
  ihave Htk := (toks_around (F := F)) $$ Htok
  iapply (with_shared (R := records m K) (Φ := fun c : Dev nD => linear c) fun c _ => show iprop(records m K ∗ linear c) ⊢ G' m c from by
    unfold G'
    iintro ⟨#H, HL⟩
    isplitr; · iexists K; iexact H
    iexact HL)
  isplitr
  · unfold records; isplitl; · iexact HI
    iexact HR
  · iapply (Entails.of_eq (show iprop((bigSep Finset.univ fun c : Dev nD => bigSep Finset.univ fun k : Fin 49 => (atPos ER (kcell (c, k)) 0 ∅ 0 : sProp 𝕄)) ∗ bigSep Finset.univ payToks)
      = bigSep Finset.univ (fun c : Dev nD => linear c) from by unfold linear; rw [bigSep_sep']))
    isplitl [Hat]; · iexact Hat
    iexact Htk

/-- The global step: every semaphore of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem recvCell_inj {a b : Dev nD} {k k' : Fin 24} (h : recvCell a k = recvCell b k') : a = b ∧ k = k' :=
  ⟨congrArg (fun g : GSem nD τ sig => g.1.1) h, recvS_inj (SemLoc.dma.inj (congrArg Prod.snd h))⟩
theorem barCell_inj {a b : Dev nD} (h : barCell a = barCell b) : a = b := congrArg (fun g : GSem nD τ sig => g.1.1) h
theorem bar_ne_recv (a b : Dev nD) (k : Fin 24) : barCell a ≠ recvCell b k := fun h => by cases congrArg Prod.snd h

theorem Ow_recv (d c : Dev nD) (k : Fin 24) : Ow d 0 (recvCell c k) () = if d = orig c k then NN k else 0 := by
  unfold Ow
  rw [Finset.sum_apply, Finsupp.finset_sum_apply, Finset.sum_eq_single k]
  · rw [if_pos (Nat.zero_le _), tallyAt_apply]
    by_cases h : d = orig c k
    · rw [if_pos h, if_pos ⟨by rw [h, peer_orig], rfl⟩]
    · rw [if_neg h, if_neg fun h' => h (by rw [(recvCell_inj h'.1).1, orig_peer])]
  · intro k' _ hk
    rw [if_pos (Nat.zero_le _), tallyAt_apply, if_neg fun h' => hk (recvCell_inj h'.1).2.symm]
  · intro h; exact absurd (Finset.mem_univ k) h
theorem Ob_recv (d c : Dev nD) (k : Fin 24) (j : ℕ) : Ob d j (recvCell c k) () = if d = orig c k then NN k else 0 := by
  induction j with
  | zero => exact Ow_recv d c k
  | succ j ih =>
    show (Ob d j + tallyAt (barCell (nb d j)) () 1) (recvCell c k) () = _
    rw [Pi.add_apply, Finsupp.add_apply, ih, tallyAt_apply, if_neg (fun (h'' : recvCell c k = barCell (nb d j) ∧ () = ()) => bar_ne_recv _ _ _ h''.1.symm), Nat.add_zero]
theorem Ow_bar (d c : Dev nD) : Ow d 0 (barCell c) () = 0 := by
  unfold Ow
  rw [Finset.sum_apply, Finsupp.finset_sum_apply]
  refine Finset.sum_eq_zero fun k _ => ?_
  rw [if_pos (Nat.zero_le _), tallyAt_apply, if_neg fun h' => bar_ne_recv _ _ _ h'.1]
theorem Ob_bar_succ (d c : Dev nD) (j : ℕ) : Ob d (j + 1) (barCell c) () = Ob d j (barCell c) () + if c = nb d j then 1 else 0 := by
  show (Ob d j + tallyAt (barCell (nb d j)) () 1) (barCell c) () = _
  rw [Pi.add_apply, Finsupp.add_apply, tallyAt_apply]
  by_cases h : c = nb d j
  · rw [if_pos h, if_pos ⟨by rw [h], rfl⟩]
  · rw [if_neg h, if_neg fun h' => h (barCell_inj h'.1)]
theorem Ob_bar (d c : Dev nD) : Ob d 4 (barCell c) ()
    = (if c = nb d 0 then 1 else 0) + (if c = nb d 1 then 1 else 0) + (if c = nb d 2 then 1 else 0) + (if c = nb d 3 then 1 else 0) := by
  rw [Ob_bar_succ, Ob_bar_succ, Ob_bar_succ, Ob_bar_succ, show Ob d 0 (barCell c) () = 0 from Ow_bar d c, Nat.zero_add]

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => Ob_bar d c]
  revert c; decide +kernel
theorem launch_recv (c : Dev nD) (k : Fin 24) :
    tallyOn (recvCell c k) (launchCredit (Pipeline.owing O₀) 0 (recvCell c k)) = (tallyAt (recvCell c k) () (NN k) : CellTallies nD τ sig Unit) := by
  unfold tallyAt; refine congrArg _ (Finsupp.ext fun u => ?_); cases u
  rw [Pipeline.launchCredit_owing, Finsupp.single_eq_same, Finset.sum_congr rfl fun d _ => Ob_recv d c k 4, Finset.sum_ite_eq' Finset.univ (orig c k) fun _ => NN k,
    if_pos (Finset.mem_univ _)]

def credEmb : Unit ⊕ Fin 24 ↪ SemLoc sig := ⟨Sum.elim (fun _ => .reg barS) (fun k => .dma (recvS k)), by
  rintro (_ | k) (_ | k') h
  · rfl
  · cases h
  · cases h
  · rw [recvS_inj (SemLoc.dma.inj h)]⟩

theorem creds (c : Dev nD) :
    (Pipeline.launchCred O₀ c : sProp 𝕄) ⊢ iprop(cred (tallyAt (barCell c) () 4) ∗ bigSep Finset.univ fun k : Fin 24 => cred (tallyAt (recvCell c k) () (NN k))) := by
  unfold Pipeline.launchCred
  refine (bigSep_subset (Finset.subset_univ (Finset.univ.map credEmb))).trans ?_
  rw [bigSep_map, bigSep_univ_sum, bigSep_univ_of_subsingleton ()]
  refine BI.sep_mono ?_ (Entails.of_eq (bigSep_congr fun k _ => ?_))
  · show cred (tallyOn (barCell c) (launchCredit (Pipeline.owing O₀) 0 (barCell c))) ⊢ _
    rw [launch_bar]
  · show cred (tallyOn (recvCell c k) (launchCredit (Pipeline.owing O₀) 0 (recvCell c k))) = _
    rw [launch_recv]

/-! ## The proof data -/

/-- What device `c` starts the kernel from, beside its buffers and what it owes. -/
def start (c : Dev nD) : sProp 𝕄 :=
  iprop(Ctx m ∗ (dutyTok ER (barCell (nb c 3)) 0 0 ∗ dutyTok ER (barCell (nb c 2)) 0 1 ∗ dutyTok ER (barCell (nb c 1)) 0 2 ∗ dutyTok ER (barCell (nb c 0)) 0 3)
    ∗ atPos ER (barCell c) 0 ∅ 0 ∗ cred (tallyAt (barCell c) () 4) ∗ bigSep Finset.univ fun k : Fin 24 => s0 c k)

def Φ₀ (c : Dev nD) : sProp 𝕄 := iprop(start m c ∗ scratch c)
/-- At the end every cell is closed, its counter zero. -/
def Φ₁ (c : Dev nD) : sProp 𝕄 := iprop(semVal (barCell c) 0 ∗ (bigSep Finset.univ fun k : Fin 24 => s3 c k) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => kstg m c
    | ⟨2, _⟩ => wstg m c
    | ⟨3, _⟩ => outV m
  Φ t := match t with
    | ⟨0, _⟩ => Φ₀ m c
    | ⟨_ + 1, _⟩ => Φ₁ c
  q _ := fullShare
  owed t := match t with
    | ⟨0, _⟩ => O₀ c
    | ⟨_ + 1, _⟩ => 0

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hs0 : (bigSep Finset.univ fun k : Fin 24 => (s0 c k : sProp 𝕄)) = iprop((bigSep Finset.univ fun k : Fin 24 => dutyTok ER (sendCell c k) 0 0)
      ∗ (bigSep Finset.univ fun k : Fin 24 => dutyTok ER (recvCell (peer c k) k) 0 0) ∗ (bigSep Finset.univ fun k : Fin 24 => atPos ER (sendCell c k) 0 ∅ 0)
      ∗ (bigSep Finset.univ fun k : Fin 24 => atPos ER (recvCell c k) 0 ∅ 0) ∗ bigSep Finset.univ fun k : Fin 24 => cred (tallyAt (recvCell c k) () (NN k))) := by
    unfold s0; simp only [bigSep_sep']
  unfold start G' linear payToks
  rw [hs0, kcell49 (fun g => atPos ER g 0 ∅ 0)]
  iintro ⟨-, Hlev, Hcr, -, HK, ⟨HaB, HaS, HaR⟩, HtB, HtS, HtR⟩
  ihave Hc := (creds (F := F) c) $$ Hcr
  icases Hc with ⟨HcB, HcR⟩
  imodintro
  isplitl
  · isplitl [HK Hlev]
    · unfold Ctx; isplitl [HK] <;> iassumption
    isplitl [HtB]; · iexact HtB
    isplitl [HaB]; · iexact HaB
    isplitl [HcB]; · iexact HcB
    isplitl [HtS]; · iexact HtS
    isplitl [HtR]; · iexact HtR
    isplitl [HaS]; · iexact HaS
    isplitl [HaR]; · iexact HaR
    iexact HcR
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  have hs3 : (bigSep Finset.univ fun k : Fin 24 => (s3 c k : sProp 𝕄))
      = iprop((bigSep Finset.univ fun k : Fin 24 => semVal (sendCell c k) 0) ∗ bigSep Finset.univ fun k : Fin 24 => semVal (recvCell c k) 0) := by
    unfold s3; rw [bigSep_sep']
  rw [show (dats m ρ 0 c).Φ (Fin.last cfg0.N) = Φ₁ c from rfl, scopedRest0_eq, ownSems0_eq, unscopedSems0_eq]
  unfold Φ₁ scratch
  rw [hs3]

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The body's obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def obPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def obPost (c : Dev nD) : sProp 𝕄 :=
  iprop(Φ₁ c ∗ (dats m ρ 0 c).owesAt () t0_0.succ ∗ stg c cc0_stg0_0 (xstg m c) ∗ stg c cc0_stg1_0 (kstg m c) ∗ stg c cc0_stg2_0 (wstg m c) ∗ stg c cc0_stg3_0 (outV m))

theorem before_x (c : Dev nD) (d) : (dats m ρ 0 c).before (0 : Fin 4) t0_0 d = xstg m c := by unfold Dat.before; rw [if_pos (fetch0_0 t0_0)]; rfl
theorem before_k (c : Dev nD) (d) : (dats m ρ 0 c).before (1 : Fin 4) t0_0 d = kstg m c := by unfold Dat.before; rw [if_pos (fetch0_1 t0_0)]; rfl
theorem before_w (c : Dev nD) (d) : (dats m ρ 0 c).before (2 : Fin 4) t0_0 d = wstg m c := by unfold Dat.before; rw [if_pos (fetch0_2 t0_0)]; rfl

theorem sound_body (c : Dev nD) :
    obPre m ρ c ⊢ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11) (fun _ => obPost m ρ c) := by
  unfold obPre Φ₀ start
  rw [bigSep24]
  iintro ⟨⟨⟨#HC, ⟨HBT3, HBT2, HBT1, HBT0⟩, HBA, HBC, HS0, HS1, HS2, HS3, HS4, HS5, HS6, HS7, HS8, HS9, HS10, HS11, HS12, HS13, HS14, HS15, HS16, HS17, HS18, HS19, HS20, HS21, HS22, HS23⟩, Hscr⟩, HO1, ⟨%d0, %f0, %h0, HX⟩, ⟨%d1, %f1, %h1, HK⟩, ⟨%d2, %f2, %h2, HW⟩, ⟨%d3, %f3, %h3, HO⟩⟩
  rw [before_x] at h0; rw [before_k] at h1; rw [before_w] at h2
  subst h0 h1 h2
  unfold Dat.owesAt Pipeline.owesWithin
  icases HO1 with ⟨%W, %hW, HO1⟩
  rw [show (dats m ρ 0 c).owed t0_0.castSucc = Ob c 4 from rfl]
  ihave Hscr := (scratch_start (F := F) c) $$ Hscr
  icases Hscr with ⟨%v0_, %v1_, %v2_, %v3_, HM0, HM1, HM2, HM3, HpsF0, HpsF1, HpsF2, HpsB0, HpsB1, HpsB2, HzsF0, HzsF1, HzsF2, HzsB0, HzsB1, HzsB2, HGA5, HGB3, HBP3, HBP2, HBP1, HBP0⟩
  iapply (body_wp m c v0_ v1_ v2_ v3_) $$ [HO1 HBT3 HBT2 HBT1 HBT0 HBA HBC HS0 HS1 HS2 HS3 HS4 HS5 HS6 HS7 HS8 HS9 HS10 HS11 HS12 HS13 HS14 HS15 HS16 HS17 HS18 HS19 HS20 HS21 HS22 HS23 HX HK HW HO HM0 HM1 HM2 HM3 HpsF0 HpsF1 HpsF2 HpsB0 HpsB1 HpsB2 HzsF0 HzsF1 HzsF2 HzsB0 HzsB1 HzsB2 HGA5 HGB3 HBP3 HBP2 HBP1 HBP0]
  · isplitr; · iexact HC
    unfold bodyPre
    isplitl [HO1]; · (unfold ob; iexists W; iexact HO1)
    isplitl [HBT3]; · iexact HBT3
    isplitl [HBP3]; · iexact HBP3
    isplitl [HBT2]; · iexact HBT2
    isplitl [HBP2]; · iexact HBP2
    isplitl [HBT1]; · iexact HBT1
    isplitl [HBP1]; · iexact HBP1
    isplitl [HBT0]; · iexact HBT0
    isplitl [HBP0]; · iexact HBP0
    isplitl [HBA]; · iexact HBA
    isplitl [HBC]; · iexact HBC
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    isplitl [HS16]; · iexact HS16
    isplitl [HS17]; · iexact HS17
    isplitl [HS18]; · iexact HS18
    isplitl [HS19]; · iexact HS19
    isplitl [HS20]; · iexact HS20
    isplitl [HS21]; · iexact HS21
    isplitl [HS22]; · iexact HS22
    isplitl [HS23]; · iexact HS23
    isplitl [HM0]; · iexact HM0
    isplitl [HM1]; · iexact HM1
    isplitl [HM2]; · iexact HM2
    isplitl [HM3]; · iexact HM3
    isplitl [HpsF0]; · iexact HpsF0
    isplitl [HpsF1]; · iexact HpsF1
    isplitl [HpsF2]; · iexact HpsF2
    isplitl [HpsB0]; · iexact HpsB0
    isplitl [HpsB1]; · iexact HpsB1
    isplitl [HpsB2]; · iexact HpsB2
    isplitl [HzsF0]; · iexact HzsF0
    isplitl [HzsF1]; · iexact HzsF1
    isplitl [HzsF2]; · iexact HzsF2
    isplitl [HzsB0]; · iexact HzsB0
    isplitl [HzsB1]; · iexact HzsB1
    isplitl [HzsB2]; · iexact HzsB2
    isplitl [HGA5]; · iexact HGA5
    isplitl [HGB3]; · iexact HGB3
    isplitl [HX]; · (unfold xS; iexact HX)
    isplitl [HK]; · (unfold kS; iexact HK)
    isplitl [HW]; · (unfold wS; iexact HW)
    (unfold oJ; iexists f3; iexact HO)
  unfold bodyPost
  iintro ⟨HOW, HS0, HS1, HS2, HS3, HS4, HS5, HS6, HS7, HS8, HS9, HS10, HS11, HS12, HS13, HS14, HS15, HS16, HS17, HS18, HS19, HS20, HS21, HS22, HS23, HX, HK, HW, HO, HBV, HF0, HB0, HF3, HB1, HpsF0, HpcF0, HpsB0, HpcB0, HF2, HB2, HpsF1, HpcF1, HpsB1, HpcB1, HpsF2, HpcF2, HpsB2, HpcB2, HTF0, HTF1, HTF2, HTF3, HTB0, HTB1, HTB2, HTB3, HzsF0, HzcF0, HzsB0, HzcB0, HzsF1, HzcF1, HzsB1, HzcB1, HzsF2, HzcF2, HzsB2, HzcB2, HAGW⟩
  unfold obPost Φ₁ Dat.owesAt Pipeline.owesWithin
  rw [show (dats m ρ 0 c).owed t0_0.succ = 0 from rfl, bigSep24]
  isplitl [HBV HS0 HS1 HS2 HS3 HS4 HS5 HS6 HS7 HS8 HS9 HS10 HS11 HS12 HS13 HS14 HS15 HS16 HS17 HS18 HS19 HS20 HS21 HS22 HS23 HF0 HB0 HF3 HB1 HpsF0 HpcF0 HpsB0 HpcB0 HF2 HB2 HpsF1 HpcF1 HpsB1 HpcB1 HpsF2 HpcF2 HpsB2 HpcB2 HTF0 HTF1 HTF2 HTF3 HTB0 HTB1 HTB2 HTB3 HzsF0 HzcF0 HzsB0 HzcB0 HzsF1 HzcF1 HzsB1 HzcB1 HzsF2 HzcF2 HzsB2 HzcB2 HAGW]
  · isplitl [HBV]; · iexact HBV
    isplitl [HS0 HS1 HS2 HS3 HS4 HS5 HS6 HS7 HS8 HS9 HS10 HS11 HS12 HS13 HS14 HS15 HS16 HS17 HS18 HS19 HS20 HS21 HS22 HS23]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      iexact HS23
    iapply (scratch_end m c)
    isplitl [HF0]; · iexact HF0
    isplitl [HB0]; · iexact HB0
    isplitl [HF3]; · iexact HF3
    isplitl [HB1]; · iexact HB1
    isplitl [HpsF0]; · iexact HpsF0
    isplitl [HpcF0]; · iexact HpcF0
    isplitl [HpsB0]; · iexact HpsB0
    isplitl [HpcB0]; · iexact HpcB0
    isplitl [HF2]; · iexact HF2
    isplitl [HB2]; · iexact HB2
    isplitl [HpsF1]; · iexact HpsF1
    isplitl [HpcF1]; · iexact HpcF1
    isplitl [HpsB1]; · iexact HpsB1
    isplitl [HpcB1]; · iexact HpcB1
    isplitl [HpsF2]; · iexact HpsF2
    isplitl [HpcF2]; · iexact HpcF2
    isplitl [HpsB2]; · iexact HpsB2
    isplitl [HpcB2]; · iexact HpcB2
    isplitl [HTF0]; · iexact HTF0
    isplitl [HTF1]; · iexact HTF1
    isplitl [HTF2]; · iexact HTF2
    isplitl [HTF3]; · iexact HTF3
    isplitl [HTB0]; · iexact HTB0
    isplitl [HTB1]; · iexact HTB1
    isplitl [HTB2]; · iexact HTB2
    isplitl [HTB3]; · iexact HTB3
    isplitl [HzsF0]; · iexact HzsF0
    isplitl [HzcF0]; · iexact HzcF0
    isplitl [HzsB0]; · iexact HzsB0
    isplitl [HzcB0]; · iexact HzcB0
    isplitl [HzsF1]; · iexact HzsF1
    isplitl [HzcF1]; · iexact HzcF1
    isplitl [HzsB1]; · iexact HzsB1
    isplitl [HzcB1]; · iexact HzcB1
    isplitl [HzsF2]; · iexact HzsF2
    isplitl [HzcF2]; · iexact HzcF2
    isplitl [HzsB2]; · iexact HzsB2
    isplitl [HzcB2]; · iexact HzcB2
    iexact HAGW
  unfold ow
  icases HOW with ⟨%W', HOW⟩
  rw [Ow_end]
  isplitl [HOW]
  · iexists W'
    isplitr; · (ipureintro; exact fun _ _ => Or.inl trivial)
    iexact HOW
  unfold xS kS wS
  isplitl [HX]
  · iexists _; isplitr; · (ipureintro; rfl)
    iexact HX
  isplitl [HK]
  · iexists _; isplitr; · (ipureintro; rfl)
    iexact HK
  isplitl [HW]
  · iexists _; isplitr; · (ipureintro; rfl)
    iexact HW
  iexists _; isplitr; · (ipureintro; rfl)
  iexact HO

/-- The library's body obligation on core `c`. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  exact sound_body m ρ c

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every weakly fair execution of the program terminates, each device's arrays at the computed contents, every
    semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input arrays end as they were. -/
theorem finalA_0 (c : Dev nD) : finalA m ρ c (0 : Fin 4) = m ((c : Thread nD τ).loc main_arg0) := (dats m ρ 0 c).arrAt_in (0 : Fin 4) rfl _
theorem finalA_1 (c : Dev nD) : finalA m ρ c (1 : Fin 4) = m ((c : Thread nD τ).loc main_arg1) := (dats m ρ 0 c).arrAt_in (1 : Fin 4) rfl _
theorem finalA_2 (c : Dev nD) : finalA m ρ c (2 : Fin 4) = m ((c : Thread nD τ).loc main_arg2) := (dats m ρ 0 c).arrAt_in (2 : Fin 4) rfl _

/-- The result array's one block is what the body left. -/
theorem finalA_3_read (c : Dev nD) : (win0_3.blk (0 : Fin 1)).view.read (Elt F) (finalA m ρ c (3 : Fin 4)) = outV m := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from flush0_3 _, if_pos rfl]
  exact View.read_write_univ _ _

theorem hz3 : (fun a => (win0_3.index (0 : Fin 1)) a * main_v1.ty.shape.size a) = fun _ => 0 := funext fun a => by fin_cases a <;> decide

/-- The result array ends at the value the body left. -/
theorem finalA_3 (c : Dev nD) : finalA m ρ c (3 : Fin 4) = outV m := by
  have hr := fun f => Memref.read_access_unit_zero (Elt F) main_v1 hz3 (fun a => by fin_cases a <;> decide) f
  have ho := finalA_3_read m ρ c
  rw [hr] at ho
  exact ho

/-- Every run ends with the arguments unchanged and every semaphore at zero. -/
theorem run_frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun _ h => ⟨fun c => ⟨(h.1 c (0 : Fin 4)).trans (finalA_0 m ρ c), (h.1 c (1 : Fin 4)).trans (finalA_1 m ρ c),
    (h.1 c (2 : Fin 4)).trans (finalA_2 m ρ c)⟩, h.2⟩) (run_main m ρ)

/-- Every run ends with each device's result at the kernel's value, the arguments unchanged. -/
theorem run_value : θ_run defs (onTc (τ := τ) (main (F := F))) ⟨m, fun _ => 0, ρ⟩ (fun r => ∀ c : Dev nD,
      r.2.mem ((c : Thread nD τ).loc main_v1) = outV m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨(h.1 c (3 : Fin 4)).trans (finalA_3 m ρ c), (h.1 c (0 : Fin 4)).trans (finalA_0 m ρ c),
    (h.1 c (1 : Fin 4)).trans (finalA_1 m ρ c), (h.1 c (2 : Fin 4)).trans (finalA_2 m ρ c)⟩) (run_main m ρ)

end Cert.KernelIdeal.Ring
-- ==== Proof.KernelIdealValue.lean ====
/-
The kernel's value over the extended reals: every finished tile is the sum over the sixteen devices of their partial
products, and a partial product is the sum over the device's channels of the gated convolution times the weight.
-/
module

public import proofs.«01_k».proof.Proof.KernelIdealCommon
public import Idealize.ShloMosaic.Lib.Pointwise
public import Idealize.ShloMosaic.Lib.IdealHost

@[expose] public section

set_option maxRecDepth 16384

noncomputable section

namespace Cert.KernelIdeal.Ring

open Cert.KernelIdeal Cert.KernelIdeal.Gen Idealize.ShloMosaic Idealize.ShloMosaic.TcCoe Idealize.SL.Sem

/-! ## One channel -/

/-- The causal convolution of one channel of one batch row, at row `i`: four taps, rows before the first read as zero. -/
def conv (x : Fin 1024 → EReal) (k : Fin 4 → EReal) (i : Fin 1024) : EReal :=
  (if h : i.val < 3 then 0 else x ⟨i.val - 3, by omega⟩) * k 0 + (if h : 1 + i.val < 3 then 0 else x ⟨1 + i.val - 3, by omega⟩) * k 1
    + (if h : 2 + i.val < 3 then 0 else x ⟨2 + i.val - 3, by omega⟩) * k 2 + x i * k 3
/-- What the channel adds to a result element: the gated convolution times the weight. -/
def chan (x : Fin 1024 → EReal) (k : Fin 4 → EReal) (w : EReal) (i : Fin 1024) : EReal :=
  Ideal.div (conv x k i) (1 + Ideal.exp (-(conv x k i))) * w

theorem exp_ge (z : EReal) : 0 ≤ Ideal.exp z := by
  induction z with
  | bot => exact le_refl _
  | top => exact le_top
  | coe r => exact EReal.coe_nonneg.mpr (Real.exp_pos r).le
theorem gate_ne (z : EReal) : 1 + Ideal.exp z ≠ 0 := fun h => by
  have h1 : (1 : EReal) ≤ 1 + Ideal.exp z := le_add_of_nonneg_right (exp_ge z)
  rw [h] at h1
  exact absurd h1 (not_le.mpr zero_lt_one)

theorem gate_eq (z w : EReal) : z * Ideal.div 1 (1 + Ideal.exp (0 - z)) * w = Ideal.div z (1 + Ideal.exp (-z)) * w := by
  rw [zero_sub, Ideal.mul_one_div (gate_ne _)]

/-- A device's partial product of one batch row is the sum over its channels. -/
theorem pv_apply (k : Vec Ideal S4x512 .bf16) (W : Vec Ideal S512x512 .bf16) (x : Vec Ideal S1x1024x512 .bf16) (u : Fin 8) (r : Fin 128) (o : Fin 512) :
    pv (F := Ideal) k W x (ix3 u r o)
      = ∑ j : Fin 512, chan (fun i => x (ix3 0 i j)) (fun t => k (ix2 t j)) (W (ix2 j o)) ⟨u.val * 128 + r.val, by omega⟩ := by
  pointwise [pv, k0_pay12, k0_pay11, k0_pay2, k0_pay3]
  refine Finset.sum_congr rfl fun j _ => ?_
  have hc : conv (fun i => x (ix3 0 i j)) (fun t => k (ix2 t j)) ⟨u.val * 128 + r.val, by omega⟩
      = x (ix3 0 ⟨u.val * 128 + r.val, by omega⟩ j) * k (ix2 3 j)
        + (if h : 2 + (u.val * 128 + r.val) < 3 then 0 else x (ix3 0 ⟨2 + (u.val * 128 + r.val) - 3, by omega⟩ j)) * k (ix2 2 j)
        + (if h : 1 + (u.val * 128 + r.val) < 3 then 0 else x (ix3 0 ⟨1 + (u.val * 128 + r.val) - 3, by omega⟩ j)) * k (ix2 1 j)
        + (if h : u.val * 128 + r.val < 3 then 0 else x (ix3 0 ⟨u.val * 128 + r.val - 3, by omega⟩ j)) * k (ix2 0 j) := by
    unfold conv
    dsimp only
    ac_rfl
  unfold chan
  rw [hc]
  exact gate_eq _ _

/-! ## The sum over the devices -/

theorem ix_eq {n : ℕ} (a : Fin n) (b : Fin 128) (d : Fin 512) : (ix a b d : (Sn n).Idx) = (ix3 a b d : (⟨3, ![n, 128, 512]⟩ : Shape).Idx) :=
  funext fun t => by
    match t with
    | ⟨0, _⟩ => rfl
    | ⟨1, _⟩ => rfl
    | ⟨2, _⟩ => rfl

theorem pay15_apply (a : Vec Ideal S4x128x512 .f32) (b : FVec Ideal S4x128x512 .f32) (j : Fin 4) (r : Fin 128) (o : Fin 512) :
    k0_pay15 (F := Ideal) a (k0_pay9 (F := Ideal) b) (ix3 j r o) = (a (ix3 j r o) + b (ix3 j r o) : EReal) := by
  pointwise [k0_pay15, k0_pay9]
theorem pay34_apply (a b : FVec Ideal S1x128x512 .f32) (r : Fin 128) (o : Fin 512) :
    k0_pay34 (F := Ideal) a (k0_pay29 (F := Ideal) b) (ix3 0 r o) = (a (ix3 0 r o) + b (ix3 0 r o) : EReal) := by
  pointwise [k0_pay34, k0_pay29]
theorem pay47_apply (a : FVec Ideal S1x128x512 .f32) (r : Fin 128) (o : Fin 512) :
    k0_pay47 (F := Ideal) a (ix3 0 r o) = (a (ix3 0 r o) : EReal) := by
  pointwise [k0_pay47]

variable (m : (ℓ : Loc nD τ sig) → Buf (Elt Ideal) ℓ)

/-- Device `d`'s partial product of batch row `g`, tile `t` of eight, at row `r` of the tile and column `o`. -/
def P (g t : ℕ) (r : Fin 128) (o : Fin 512) (d : Dev nD) : EReal :=
  part m d g (ix3 (⟨t % 8, Nat.mod_lt _ (by decide)⟩ : Fin 8) r o)

theorem h0_apply (v : FVec Ideal S8x128x512 .f32) (j : Fin 4) (r : Fin 128) (o : Fin 512) :
    h0 v (ix3 j r o) = v (ix3 (⟨j.val % 8, Nat.mod_lt _ (by decide)⟩ : Fin 8) r o) := by
  show v (ix _ r o) = _
  rw [ix_eq]
  exact congrArg (fun a : Fin 8 => v (ix3 a r o)) (Fin.ext (show j.val = j.val % 8 from by omega))
theorem h1_apply (v : FVec Ideal S8x128x512 .f32) (j : Fin 4) (r : Fin 128) (o : Fin 512) :
    h1 v (ix3 j r o) = v (ix3 (⟨(4 + j.val) % 8, Nat.mod_lt _ (by decide)⟩ : Fin 8) r o) := by
  show v (ix _ r o) = _
  rw [ix_eq]
  exact congrArg (fun a : Fin 8 => v (ix3 a r o)) (Fin.ext (show 4 + j.val = (4 + j.val) % 8 from by omega))
theorem tl_apply (v : FVec Ideal S4x128x512 .f32) (j : ℕ) (r : Fin 128) (o : Fin 512) :
    tl v j (ix3 0 r o) = v (ix3 (⟨j % 4, Nat.mod_lt _ (by decide)⟩ : Fin 4) r o) := by
  show v (ix _ r o) = _
  rw [ix_eq]

theorem mqF : ∀ c : Dev nD, mq (pl c) 2 = mq c 1 ∧ mq (pl (pl c)) 3 = mq c 1 ∧ mq (pl (pl (pl c))) 0 = mq c 1
    ∧ mp (zl c) 2 = mp c 1 ∧ mp (zl (zl c)) 3 = mp c 1 ∧ mp (zl (zl (zl c))) 0 = mp c 1
    ∧ mq (zl c) 1 = mq c 1 ∧ mq (zl (zl c)) 1 = mq c 1 ∧ mq (zl (zl (zl c))) 1 = mq c 1 := by decide
theorem mqB : ∀ c : Dev nD, mq (pr c) 2 = mq c 3 ∧ mq (pr (pr c)) 1 = mq c 3 ∧ mq (pr (pr (pr c))) 0 = mq c 3
    ∧ mp (zr c) 2 = mp c 3 ∧ mp (zr (zr c)) 1 = mp c 3 ∧ mp (zr (zr (zr c))) 0 = mp c 3
    ∧ mq (zr c) 3 = mq c 3 ∧ mq (zr (zr c)) 3 = mq c 3 ∧ mq (zr (zr (zr c))) 3 = mq c 3 := by decide

/-- The forward plane sum, finished: the plane's four devices. -/
theorem AF3 (c : Dev nD) (j : Fin 4) (r : Fin 128) (o : Fin 512) : (AF m 3 c (ix3 j r o) : EReal)
    = P m (mq c 1) j r o c + (P m (mq c 1) j r o (pl c) + (P m (mq c 1) j r o (pl (pl c)) + P m (mq c 1) j r o (pl (pl (pl c))))) := by
  obtain ⟨e1, e2, e3, -⟩ := mqF c
  unfold AF AF AF AF
  rw [pay15_apply, pay15_apply, pay15_apply, h0_apply, h0_apply, h0_apply, h0_apply, e3]
  rw [show mq (pl c) (3 - 1) = mq c 1 from e1, show mq (pl (pl c)) (3 - 0) = mq c 1 from e2]
  rfl
/-- The backward plane sum, finished. -/
theorem AB3 (c : Dev nD) (j : Fin 4) (r : Fin 128) (o : Fin 512) : (AB m 3 c (ix3 j r o) : EReal)
    = P m (mq c 3) (4 + j) r o c + (P m (mq c 3) (4 + j) r o (pr c) + (P m (mq c 3) (4 + j) r o (pr (pr c)) + P m (mq c 3) (4 + j) r o (pr (pr (pr c))))) := by
  obtain ⟨e1, e2, e3, -⟩ := mqB c
  unfold AB AB AB AB
  rw [pay15_apply, pay15_apply, pay15_apply, h1_apply, h1_apply, h1_apply, h1_apply, e3]
  rw [show mq (pr c) (1 + 1) = mq c 3 from e1, show mq (pr (pr c)) (0 + 1) = mq c 3 from e2]
  rfl

def walkF (c : Dev nD) (i : Fin 4 × Fin 4) : Dev nD := pl^[i.2.val] (zl^[i.1.val] c)
def walkB (c : Dev nD) (i : Fin 4 × Fin 4) : Dev nD := pr^[i.2.val] (zr^[i.1.val] c)
theorem walkF_inj : ∀ c : Dev nD, ∀ i j, walkF c i = walkF c j → i = j := by decide +kernel
theorem walkB_inj : ∀ c : Dev nD, ∀ i j, walkB c i = walkB c j → i = j := by decide +kernel
theorem sum_walk (w : Fin 4 × Fin 4 → Dev nD) (hw : ∀ i j, w i = w j → i = j) (f : Dev nD → EReal) :
    ∑ i : Fin 4, ∑ j : Fin 4, f (w (i, j)) = ∑ d : Dev nD, f d := by
  rw [← Fintype.sum_prod_type' (fun i j => f (w (i, j)))]
  have hb : Function.Bijective w := by
    rw [Fintype.bijective_iff_injective_and_card]
    exact ⟨fun i j h => hw i j h, rfl⟩
  exact hb.sum_comp f

/-- The forward tile, finished: all sixteen devices. -/
theorem ZF3 (c : Dev nD) (r : Fin 128) (o : Fin 512) : (ZF m 3 c (ix3 0 r o) : EReal) = ∑ d : Dev nD, P m (mq c 1) (mp c 1) r o d := by
  obtain ⟨-, -, -, e1, e2, e3, q1, q2, q3⟩ := mqF c
  rw [← sum_walk (walkF c) (walkF_inj c)]
  simp only [Fin.sum_univ_four]
  unfold ZF ZF ZF ZF
  rw [pay34_apply, pay34_apply, pay34_apply, tl_apply, tl_apply, tl_apply, tl_apply, AF3, AF3, AF3, AF3, e3, q1, q2, q3]
  rw [show mp (zl c) (3 - 1) = mp c 1 from e1, show mp (zl (zl c)) (3 - 0) = mp c 1 from e2, show (3 - 2 : ℕ) = 1 from rfl]
  simp only [show mp c 1 % 4 = mp c 1 from Nat.mod_eq_of_lt (mp_lt c 1)]
  simp only [walkF, Fin.val_zero, Fin.val_one, Fin.val_two, show (3 : Fin 4).val = 3 from rfl, Function.iterate_zero, Function.iterate_succ, Function.comp, id]
  ac_rfl
/-- The backward tile, finished. -/
theorem ZB3 (c : Dev nD) (r : Fin 128) (o : Fin 512) : (ZB m 3 c (ix3 0 r o) : EReal) = ∑ d : Dev nD, P m (mq c 3) (4 + mp c 3) r o d := by
  obtain ⟨-, -, -, e1, e2, e3, q1, q2, q3⟩ := mqB c
  rw [← sum_walk (walkB c) (walkB_inj c)]
  simp only [Fin.sum_univ_four]
  unfold ZB ZB ZB ZB
  rw [pay34_apply, pay34_apply, pay34_apply, tl_apply, tl_apply, tl_apply, tl_apply, AB3, AB3, AB3, AB3, e3, q1, q2, q3]
  rw [show mp (zr c) (1 + 1) = mp c 3 from e1, show mp (zr (zr c)) (0 + 1) = mp c 3 from e2, show (2 + 1 : ℕ) = 3 from rfl]
  simp only [show mp c 3 % 4 = mp c 3 from Nat.mod_eq_of_lt (mp_lt c 3)]
  simp only [walkB, Fin.val_zero, Fin.val_one, Fin.val_two, show (3 : Fin 4).val = 3 from rfl, Function.iterate_zero, Function.iterate_succ, Function.comp, id]
  ac_rfl

theorem own_at : ∀ t : Fin 32, mq (ownF t) 1 = t.val / 8 ∧ mp (ownF t) 1 = t.val % 4 ∧ mq (ownB t) 3 = t.val / 8 ∧ mp (ownB t) 3 = t.val % 4 := by decide

/-- A finished tile is the sum of all devices' partial products of it. -/
theorem agT_apply (t : Fin 32) (r : Fin 128) (o : Fin 512) : (agT m t.val (ix3 0 r o) : EReal) = ∑ d : Dev nD, P m (t.val / 8) (t.val % 8) r o d := by
  obtain ⟨e1, e2, e3, e4⟩ := own_at t
  unfold agT
  split
  · rw [pay47_apply, ZF3, e1, e2, show t.val % 4 = t.val % 8 from by omega]
  · rw [pay47_apply, ZB3, e3, e4, show 4 + t.val % 4 = t.val % 8 from by omega]

/-- The result element at batch row `b`, row `i`, column `o`: the sum of all devices' partial products there. -/
theorem outV_apply (b : Fin 4) (i : Fin 1024) (o : Fin 512) :
    ((outV m : S4x1024x512.Idx → EReal) (ix3 b i o)) = ∑ d : Dev nD, P m b.val (i.val / 128) (⟨i.val % 128, Nat.mod_lt _ (by decide)⟩) o d := by
  have h : ((outV m : S4x1024x512.Idx → EReal) (ix3 b i o)) = agT m (b.val * 8 + i.val / 128) (ix3 0 ⟨i.val % 128, Nat.mod_lt _ (by decide)⟩ o) := by
    unfold outV
    pointwise [k0_pay1]
    exact congrArg (agT m (b.val * 8 + i.val / 128)) (ix_eq _ _ _)
  rw [h]
  refine (agT_apply m ⟨b.val * 8 + i.val / 128, by omega⟩ _ o).trans ?_
  dsimp only
  rw [show (b.val * 8 + i.val / 128) / 8 = b.val from by omega, show (b.val * 8 + i.val / 128) % 8 = i.val / 128 from by omega]

end Cert.KernelIdeal.Ring
-- ==== Proof.Agreement.lean ====
/-
The kernel's value is the reference's: the reference contracts all 8192 channels, and those are the sixteen devices'
blocks of 512.
-/
module

public import proofs.«01_k».proof.Proof.KernelIdealValue
public import proofs.«01_k».proof.Proof.Gen.ReferenceIdeal.Run
public import Idealize.ShloMosaic.Lib.Layout

@[expose] public section

set_option maxRecDepth 16384

noncomputable section

namespace Cert.KernelIdeal.Ring

open Cert.KernelIdeal Cert.KernelIdeal.Gen Idealize.ShloMosaic Idealize.ShloMosaic.TcCoe Idealize.SL.Sem

variable (m : (ℓ : Loc nD τ sig) → Buf (Elt Ideal) ℓ)

/-! ## The kernel's blocks are the arrays -/

theorem xstg_eq (c : Dev nD) : xstg m c = m ((c : Thread nD τ).loc main_arg0) :=
  Memref.read_access_unit_zero (Elt Ideal) main_arg0 (off := fun a => (win0_0.index (0 : Fin 1)) a * main_arg0.ty.shape.size a)
    (funext fun a => by fin_cases a <;> decide) (fun a => by fin_cases a <;> decide) _
theorem kstg_eq (c : Dev nD) : kstg m c = m ((c : Thread nD τ).loc main_arg1) :=
  Memref.read_access_unit_zero (Elt Ideal) main_arg1 (off := fun a => (win0_1.index (0 : Fin 1)) a * main_arg1.ty.shape.size a)
    (funext fun a => by fin_cases a <;> decide) (fun a => by fin_cases a <;> decide) _
theorem wstg_eq (c : Dev nD) : wstg m c = m ((c : Thread nD τ).loc main_arg2) :=
  Memref.read_access_unit_zero (Elt Ideal) main_arg2 (off := fun a => (win0_2.index (0 : Fin 1)) a * main_arg2.ty.shape.size a)
    (funext fun a => by fin_cases a <;> decide) (fun a => by fin_cases a <;> decide) _

/-- A batch row of a device's block, element by element. -/
theorem xr_apply (c : Dev nD) (b : Fin 4) (i : Fin 1024) (j : Fin 512) :
    xr m c b.val (ix3 0 i j) = (m ((c : Thread nD τ).loc main_arg0) : S4x1024x512.Idx → EReal) (ix3 b i j) := by
  unfold xr
  rw [xstg_eq]
  refine congrArg (m ((c : Thread nD τ).loc main_arg0)) (funext fun a => Fin.ext ?_)
  match a with
  | ⟨0, _⟩ => show b.val % 4 + 0 * 1 = b.val; omega
  | ⟨1, _⟩ => show 0 + 1 * i.val = i.val; omega
  | ⟨2, _⟩ => show 0 + 1 * j.val = j.val; omega

/-! ## The whole arrays -/

variable (X : (⟨3, ![4, 1024, 8192]⟩ : Shape).Idx → EReal) (K : (⟨2, ![4, 8192]⟩ : Shape).Idx → EReal) (W : (⟨2, ![8192, 512]⟩ : Shape).Idx → EReal)

/-- Channel `l` of the whole arrays. -/
def term (b : Fin 4) (i : Fin 1024) (o : Fin 512) (l : Fin 8192) : EReal :=
  chan (fun i => X (ix3 b i l)) (fun t => K (ix2 t l)) (W (ix2 l o)) i

/-- A device's partial product, from its blocks of the whole arrays: its 512 channels. -/
theorem P_eq (c : Fin 16)
    (hX : m (((c : Dev nD) : Thread nD τ).loc main_arg0) = Layout.block ⟨3, ![4, 1024, 512]⟩ ⟨3, ![4, 1024, 8192]⟩ 2 16 c X)
    (hK : m (((c : Dev nD) : Thread nD τ).loc main_arg1) = Layout.block ⟨2, ![4, 512]⟩ ⟨2, ![4, 8192]⟩ 1 16 c K)
    (hW : m (((c : Dev nD) : Thread nD τ).loc main_arg2) = Layout.block ⟨2, ![512, 512]⟩ ⟨2, ![8192, 512]⟩ 0 16 c W)
    (b : Fin 4) (i : Fin 1024) (o : Fin 512) :
    P m b.val (i.val / 128) ⟨i.val % 128, Nat.mod_lt _ (by decide)⟩ o c = ∑ j : Fin 512, term X K W b i o (finProdFinEquiv (c, j)) := by
  unfold P part
  refine (pv_apply _ _ _ _ _ _).trans (Finset.sum_congr rfl fun j _ => ?_)
  have hi : (⟨i.val / 128 % 8 * 128 + i.val % 128, by omega⟩ : Fin 1024) = i := Fin.ext (show i.val / 128 % 8 * 128 + i.val % 128 = i.val from by omega)
  have ex : (fun i' => xr m c b.val (ix3 0 i' j)) = fun i' => X (ix3 b i' (finProdFinEquiv (c, j))) := funext fun i' => by
    rw [xr_apply, hX]
    refine congrArg X (funext fun a => Fin.ext ?_)
    match a with
    | ⟨0, _⟩ => rfl
    | ⟨1, _⟩ => rfl
    | ⟨2, _⟩ => show c.val * 512 + j.val = j.val + 512 * c.val; omega
  have ek : (fun t => kstg m c (ix2 t j)) = fun t => K (ix2 t (finProdFinEquiv (c, j))) := funext fun t => by
    rw [kstg_eq, hK]
    refine congrArg K (funext fun a => Fin.ext ?_)
    match a with
    | ⟨0, _⟩ => rfl
    | ⟨1, _⟩ => show c.val * 512 + j.val = j.val + 512 * c.val; omega
  have ew : wstg m c (ix2 j o) = W (ix2 (finProdFinEquiv (c, j)) o) := by
    rw [wstg_eq, hW]
    refine congrArg W (funext fun a => Fin.ext ?_)
    match a with
    | ⟨0, _⟩ => show c.val * 512 + j.val = j.val + 512 * c.val; omega
    | ⟨1, _⟩ => rfl
  unfold term
  rw [← ex, ← ek, ← ew]
  exact congrArg (chan _ _ _) hi

/-- The kernel's result, from the whole arrays: the sum over all channels. -/
theorem outV_eq
    (hX : ∀ c : Fin 16, m (((c : Dev nD) : Thread nD τ).loc main_arg0) = Layout.block ⟨3, ![4, 1024, 512]⟩ ⟨3, ![4, 1024, 8192]⟩ 2 16 c X)
    (hK : ∀ c : Fin 16, m (((c : Dev nD) : Thread nD τ).loc main_arg1) = Layout.block ⟨2, ![4, 512]⟩ ⟨2, ![4, 8192]⟩ 1 16 c K)
    (hW : ∀ c : Fin 16, m (((c : Dev nD) : Thread nD τ).loc main_arg2) = Layout.block ⟨2, ![512, 512]⟩ ⟨2, ![8192, 512]⟩ 0 16 c W)
    (b : Fin 4) (i : Fin 1024) (o : Fin 512) :
    ((outV m : S4x1024x512.Idx → EReal) (ix3 b i o)) = ∑ l : Fin 8192, term X K W b i o l := by
  rw [outV_apply]
  refine (Finset.sum_congr rfl fun c _ => P_eq m X K W c (hX c) (hK c) (hW c) b i o).trans ?_
  refine (Fintype.sum_prod_type' (fun (c : Fin 16) (j : Fin 512) => term X K W b i o (finProdFinEquiv (c, j)))).symm.trans ?_
  exact (finProdFinEquiv : Fin 16 × Fin 512 ≃ Fin 8192).sum_comp (term X K W b i o)

end Cert.KernelIdeal.Ring

namespace Cert.ReferenceIdeal.Value

open Cert.ReferenceIdeal Cert.ReferenceIdeal.Gen Idealize.ShloMosaic Idealize.ShloMosaic.TcCoe Idealize.SL.Sem

/-- The reference's result: the sum over all channels. -/
theorem ref_apply (m : (ℓ : Loc nD τ sig) → Buf (Elt Ideal) ℓ) (c : Dev nD) (b : Fin 4) (i : Fin 1024) (o : Fin 512) :
    (res_main_v39 m c : S4x1024x512.Idx → EReal) (ix3 b i o)
      = ∑ l : Fin 8192, Cert.KernelIdeal.Ring.term (m ((c : Thread nD τ).loc main_arg0)) (m ((c : Thread nD τ).loc main_arg1)) (m ((c : Thread nD τ).loc main_arg2)) b i o l := by
  pointwise [res_main_v39]
  rfl

end Cert.ReferenceIdeal.Value
-- ==== Proof.lean ====
/-
The certificate: the frames of the kernel, of its idealised twin and of the reference; nothing was rewritten; and over the
extended reals the twin and the reference return the same array.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Twin
public import proofs.«01_k».proof.Proof.KernelIdealLaunch
public import proofs.«01_k».proof.Proof.Agreement
public import Idealize.ShloMosaic.Adequacy
public import Idealize.ShloMosaic.Init

@[expose] public section

noncomputable section

namespace Cert.Proof

open Idealize.ShloMosaic Idealize.SL.Sem

/-- The idealised kernel runs, leaves its arguments unchanged and every semaphore at zero. -/
theorem quiescent_kernelIdeal : Cert.quiescent_KernelIdeal (hKernelIdeal := Cert.KernelIdeal.Gen.facts) := fun m g _ => Cert.KernelIdeal.Ring.run_frame m g

/-- So does the kernel as printed, which is the same program: the proof above holds at every reading of the floats. -/
theorem quiescent_kernel : Cert.quiescent_Kernel (hKernel := Cert.Kernel.Gen.facts) := fun m g _ => by
  rw [Cert.Twin.defs_eq, Cert.Twin.main_eq]
  exact Cert.KernelIdeal.Ring.run_frame m g

/-- The reference runs and leaves its arguments unchanged; it has no semaphores. -/
theorem quiescent_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- From the blocks of the same three arrays, every device of the twin ends with the reference's result. -/
theorem algebraic : Cert.algebraic_KernelIdeal_ReferenceIdeal (hKernelIdeal := Cert.KernelIdeal.Gen.facts) (hReferenceIdeal := Cert.ReferenceIdeal.Gen.facts) := by
  intro m g m' g' _ h
  have hv : Cert.KernelIdeal.Ring.outV m = Cert.ReferenceIdeal.Value.res_main_v39 m' 0 := funext fun idx => by
    obtain ⟨b, i, o, rfl⟩ : ∃ (b : Fin 4) (i : Fin 1024) (o : Fin 512), idx = ix3 b i o := ⟨_, _, _, eq_ix3 idx⟩
    exact (Cert.KernelIdeal.Ring.outV_eq m _ _ _ (fun c => (h c).1) (fun c => (h c).2.1) (fun c => (h c).2.2) b i o).trans
      (Cert.ReferenceIdeal.Value.ref_apply m' 0 b i o).symm
  refine ⟨Cert.ReferenceIdeal.Value.res_main_v39 m' 0, ?_, ?_⟩
  · exact (θ_run Cert.KernelIdeal.defs _ _).mono (fun r h c => ⟨(h c).1.trans hv, (h c).2⟩)
      (Cert.KernelIdeal.Ring.run_value (F := Ideal) m g)
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  quiescent_kernel, quiescent_kernelIdeal, quiescent_reference, trivial, algebraic⟩

end Cert.Proof

end
